-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_InScan (m : (ℓ : Loc Cert.InScan.nD Cert.InScan.τ Cert.InScan.sig) → Buf (Elt Bits) ℓ) : Prop :=
  True

def Pre_InScanIdeal (m : (ℓ : Loc Cert.InScanIdeal.nD Cert.InScanIdeal.τ Cert.InScanIdeal.sig) → Buf (Elt Ideal) ℓ) : Prop :=
  True

def Pre_InScanRefIdeal (m : (ℓ : Loc Cert.InScanRefIdeal.nD Cert.InScanRefIdeal.τ Cert.InScanRefIdeal.sig) → Buf (Elt Ideal) ℓ) : Prop :=
  True

def Pre_InTok (m : (ℓ : Loc Cert.InTok.nD Cert.InTok.τ Cert.InTok.sig) → Buf (Elt Bits) ℓ) : Prop :=
  True

def Pre_InTokIdeal (m : (ℓ : Loc Cert.InTokIdeal.nD Cert.InTokIdeal.τ Cert.InTokIdeal.sig) → Buf (Elt Ideal) ℓ) : Prop :=
  True

def Pre_InTokRefIdeal (m : (ℓ : Loc Cert.InTokRefIdeal.nD Cert.InTokRefIdeal.τ Cert.InTokRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5))
      ∧ r.2.sem = fun _ => 0)

def quiescent_InScan [hInScan : Cert.InScan.Facts] : Prop :=
  ∀ (m : (ℓ : Loc Cert.InScan.nD Cert.InScan.τ Cert.InScan.sig) → Buf (Elt Bits) ℓ) (g : Dev Cert.InScan.nD → PrngReg), Pre_InScan m →
    θ_run (Cert.InScan.defs (F := Bits)) (onTc (τ := Cert.InScan.τ) (Cert.InScan.main (F := Bits))) ⟨m, fun _ => 0, g⟩ (fun r => (∀ c : Dev Cert.InScan.nD,
      r.2.mem ((c.tc : Thread Cert.InScan.nD Cert.InScan.τ).loc Cert.InScan.main_arg0) = m ((c.tc : Thread Cert.InScan.nD Cert.InScan.τ).loc Cert.InScan.main_arg0)
      ∧ r.2.mem ((c.tc : Thread Cert.InScan.nD Cert.InScan.τ).loc Cert.InScan.main_arg1) = m ((c.tc : Thread Cert.InScan.nD Cert.InScan.τ).loc Cert.InScan.main_arg1)
      ∧ r.2.mem ((c.tc : Thread Cert.InScan.nD Cert.InScan.τ).loc Cert.InScan.main_arg2) = m ((c.tc : Thread Cert.InScan.nD Cert.InScan.τ).loc Cert.InScan.main_arg2))
      ∧ r.2.sem = fun _ => 0)

def quiescent_InScanIdeal [hInScanIdeal : Cert.InScanIdeal.Facts] : Prop :=
  ∀ (m : (ℓ : Loc Cert.InScanIdeal.nD Cert.InScanIdeal.τ Cert.InScanIdeal.sig) → Buf (Elt Ideal) ℓ) (g : Dev Cert.InScanIdeal.nD → PrngReg), Pre_InScanIdeal m →
    θ_run (Cert.InScanIdeal.defs (F := Ideal)) (onTc (τ := Cert.InScanIdeal.τ) (Cert.InScanIdeal.main (F := Ideal))) ⟨m, fun _ => 0, g⟩ (fun r => (∀ c : Dev Cert.InScanIdeal.nD,
      r.2.mem ((c.tc : Thread Cert.InScanIdeal.nD Cert.InScanIdeal.τ).loc Cert.InScanIdeal.main_arg0) = m ((c.tc : Thread Cert.InScanIdeal.nD Cert.InScanIdeal.τ).loc Cert.InScanIdeal.main_arg0)
      ∧ r.2.mem ((c.tc : Thread Cert.InScanIdeal.nD Cert.InScanIdeal.τ).loc Cert.InScanIdeal.main_arg1) = m ((c.tc : Thread Cert.InScanIdeal.nD Cert.InScanIdeal.τ).loc Cert.InScanIdeal.main_arg1)
      ∧ r.2.mem ((c.tc : Thread Cert.InScanIdeal.nD Cert.InScanIdeal.τ).loc Cert.InScanIdeal.main_arg2) = m ((c.tc : Thread Cert.InScanIdeal.nD Cert.InScanIdeal.τ).loc Cert.InScanIdeal.main_arg2))
      ∧ r.2.sem = fun _ => 0)

def quiescent_InScanRefIdeal [hInScanRefIdeal : Cert.InScanRefIdeal.Facts] : Prop :=
  ∀ (m : (ℓ : Loc Cert.InScanRefIdeal.nD Cert.InScanRefIdeal.τ Cert.InScanRefIdeal.sig) → Buf (Elt Ideal) ℓ) (g : Dev Cert.InScanRefIdeal.nD → PrngReg), Pre_InScanRefIdeal m →
    θ_run (Cert.InScanRefIdeal.defs (F := Ideal)) (onTc (τ := Cert.InScanRefIdeal.τ) (Cert.InScanRefIdeal.main (F := Ideal))) ⟨m, fun _ => 0, g⟩ (fun r => (∀ c : Dev Cert.InScanRefIdeal.nD,
      r.2.mem ((c.tc : Thread Cert.InScanRefIdeal.nD Cert.InScanRefIdeal.τ).loc Cert.InScanRefIdeal.main_arg0) = m ((c.tc : Thread Cert.InScanRefIdeal.nD Cert.InScanRefIdeal.τ).loc Cert.InScanRefIdeal.main_arg0)
      ∧ r.2.mem ((c.tc : Thread Cert.InScanRefIdeal.nD Cert.InScanRefIdeal.τ).loc Cert.InScanRefIdeal.main_arg1) = m ((c.tc : Thread Cert.InScanRefIdeal.nD Cert.InScanRefIdeal.τ).loc Cert.InScanRefIdeal.main_arg1)
      ∧ r.2.mem ((c.tc : Thread Cert.InScanRefIdeal.nD Cert.InScanRefIdeal.τ).loc Cert.InScanRefIdeal.main_arg2) = m ((c.tc : Thread Cert.InScanRefIdeal.nD Cert.InScanRefIdeal.τ).loc Cert.InScanRefIdeal.main_arg2))
      ∧ r.2.sem = fun _ => 0)

def quiescent_InTok [hInTok : Cert.InTok.Facts] : Prop :=
  ∀ (m : (ℓ : Loc Cert.InTok.nD Cert.InTok.τ Cert.InTok.sig) → Buf (Elt Bits) ℓ) (g : Dev Cert.InTok.nD → PrngReg), Pre_InTok m →
    θ_run (Cert.InTok.defs (F := Bits)) (onTc (τ := Cert.InTok.τ) (Cert.InTok.main (F := Bits))) ⟨m, fun _ => 0, g⟩ (fun r => (∀ c : Dev Cert.InTok.nD,
      r.2.mem ((c.tc : Thread Cert.InTok.nD Cert.InTok.τ).loc Cert.InTok.main_arg0) = m ((c.tc : Thread Cert.InTok.nD Cert.InTok.τ).loc Cert.InTok.main_arg0)
      ∧ r.2.mem ((c.tc : Thread Cert.InTok.nD Cert.InTok.τ).loc Cert.InTok.main_arg1) = m ((c.tc : Thread Cert.InTok.nD Cert.InTok.τ).loc Cert.InTok.main_arg1)
      ∧ r.2.mem ((c.tc : Thread Cert.InTok.nD Cert.InTok.τ).loc Cert.InTok.main_arg2) = m ((c.tc : Thread Cert.InTok.nD Cert.InTok.τ).loc Cert.InTok.main_arg2))
      ∧ r.2.sem = fun _ => 0)

def quiescent_InTokIdeal [hInTokIdeal : Cert.InTokIdeal.Facts] : Prop :=
  ∀ (m : (ℓ : Loc Cert.InTokIdeal.nD Cert.InTokIdeal.τ Cert.InTokIdeal.sig) → Buf (Elt Ideal) ℓ) (g : Dev Cert.InTokIdeal.nD → PrngReg), Pre_InTokIdeal m →
    θ_run (Cert.InTokIdeal.defs (F := Ideal)) (onTc (τ := Cert.InTokIdeal.τ) (Cert.InTokIdeal.main (F := Ideal))) ⟨m, fun _ => 0, g⟩ (fun r => (∀ c : Dev Cert.InTokIdeal.nD,
      r.2.mem ((c.tc : Thread Cert.InTokIdeal.nD Cert.InTokIdeal.τ).loc Cert.InTokIdeal.main_arg0) = m ((c.tc : Thread Cert.InTokIdeal.nD Cert.InTokIdeal.τ).loc Cert.InTokIdeal.main_arg0)
      ∧ r.2.mem ((c.tc : Thread Cert.InTokIdeal.nD Cert.InTokIdeal.τ).loc Cert.InTokIdeal.main_arg1) = m ((c.tc : Thread Cert.InTokIdeal.nD Cert.InTokIdeal.τ).loc Cert.InTokIdeal.main_arg1)
      ∧ r.2.mem ((c.tc : Thread Cert.InTokIdeal.nD Cert.InTokIdeal.τ).loc Cert.InTokIdeal.main_arg2) = m ((c.tc : Thread Cert.InTokIdeal.nD Cert.InTokIdeal.τ).loc Cert.InTokIdeal.main_arg2))
      ∧ r.2.sem = fun _ => 0)

def quiescent_InTokRefIdeal [hInTokRefIdeal : Cert.InTokRefIdeal.Facts] : Prop :=
  ∀ (m : (ℓ : Loc Cert.InTokRefIdeal.nD Cert.InTokRefIdeal.τ Cert.InTokRefIdeal.sig) → Buf (Elt Ideal) ℓ) (g : Dev Cert.InTokRefIdeal.nD → PrngReg), Pre_InTokRefIdeal m →
    θ_run (Cert.InTokRefIdeal.defs (F := Ideal)) (onTc (τ := Cert.InTokRefIdeal.τ) (Cert.InTokRefIdeal.main (F := Ideal))) ⟨m, fun _ => 0, g⟩ (fun r => (∀ c : Dev Cert.InTokRefIdeal.nD,
      r.2.mem ((c.tc : Thread Cert.InTokRefIdeal.nD Cert.InTokRefIdeal.τ).loc Cert.InTokRefIdeal.main_arg0) = m ((c.tc : Thread Cert.InTokRefIdeal.nD Cert.InTokRefIdeal.τ).loc Cert.InTokRefIdeal.main_arg0)
      ∧ r.2.mem ((c.tc : Thread Cert.InTokRefIdeal.nD Cert.InTokRefIdeal.τ).loc Cert.InTokRefIdeal.main_arg1) = m ((c.tc : Thread Cert.InTokRefIdeal.nD Cert.InTokRefIdeal.τ).loc Cert.InTokRefIdeal.main_arg1)
      ∧ r.2.mem ((c.tc : Thread Cert.InTokRefIdeal.nD Cert.InTokRefIdeal.τ).loc Cert.InTokRefIdeal.main_arg2) = m ((c.tc : Thread Cert.InTokRefIdeal.nD Cert.InTokRefIdeal.τ).loc Cert.InTokRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)) →
    ∃ (v0 : (c : Dev Cert.SsdIdeal.nD) → Buf (Elt Ideal) ((c.tc : Thread Cert.SsdIdeal.nD Cert.SsdIdeal.τ).loc Cert.SsdIdeal.main_v7)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v7) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v106) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5))

def preserves_InScan_InScanIdeal : Prop :=
  True

def algebraic_InScanIdeal_InScanRefIdeal [hInScanIdeal : Cert.InScanIdeal.Facts] [hInScanRefIdeal : Cert.InScanRefIdeal.Facts] : Prop :=
  ∀ (m : (ℓ : Loc Cert.InScanIdeal.nD Cert.InScanIdeal.τ Cert.InScanIdeal.sig) → Buf (Elt Ideal) ℓ) (g : Dev Cert.InScanIdeal.nD → PrngReg)
    (m' : (ℓ : Loc Cert.InScanRefIdeal.nD Cert.InScanRefIdeal.τ Cert.InScanRefIdeal.sig) → Buf (Elt Ideal) ℓ) (g' : Dev Cert.InScanRefIdeal.nD → PrngReg), Pre_InScanIdeal m →
    (∀ c : Dev Cert.InScanIdeal.nD,
      m' ((c.tc : Thread Cert.InScanRefIdeal.nD Cert.InScanRefIdeal.τ).loc Cert.InScanRefIdeal.main_arg0) = m ((c.tc : Thread Cert.InScanIdeal.nD Cert.InScanIdeal.τ).loc Cert.InScanIdeal.main_arg0)
      ∧ m' ((c.tc : Thread Cert.InScanRefIdeal.nD Cert.InScanRefIdeal.τ).loc Cert.InScanRefIdeal.main_arg1) = m ((c.tc : Thread Cert.InScanIdeal.nD Cert.InScanIdeal.τ).loc Cert.InScanIdeal.main_arg1)
      ∧ m' ((c.tc : Thread Cert.InScanRefIdeal.nD Cert.InScanRefIdeal.τ).loc Cert.InScanRefIdeal.main_arg2) = m ((c.tc : Thread Cert.InScanIdeal.nD Cert.InScanIdeal.τ).loc Cert.InScanIdeal.main_arg2)) →
    ∃ (v0 : (c : Dev Cert.InScanIdeal.nD) → Buf (Elt Ideal) ((c.tc : Thread Cert.InScanIdeal.nD Cert.InScanIdeal.τ).loc Cert.InScanIdeal.main_v2)),
      θ_run (Cert.InScanIdeal.defs (F := Ideal)) (onTc (τ := Cert.InScanIdeal.τ) (Cert.InScanIdeal.main (F := Ideal))) ⟨m, fun _ => 0, g⟩ (fun r => ∀ c : Dev Cert.InScanIdeal.nD,
          r.2.mem ((c.tc : Thread Cert.InScanIdeal.nD Cert.InScanIdeal.τ).loc Cert.InScanIdeal.main_v2) = v0 c
          ∧ r.2.mem ((c.tc : Thread Cert.InScanIdeal.nD Cert.InScanIdeal.τ).loc Cert.InScanIdeal.main_arg0) = m ((c.tc : Thread Cert.InScanIdeal.nD Cert.InScanIdeal.τ).loc Cert.InScanIdeal.main_arg0)
          ∧ r.2.mem ((c.tc : Thread Cert.InScanIdeal.nD Cert.InScanIdeal.τ).loc Cert.InScanIdeal.main_arg1) = m ((c.tc : Thread Cert.InScanIdeal.nD Cert.InScanIdeal.τ).loc Cert.InScanIdeal.main_arg1)
          ∧ r.2.mem ((c.tc : Thread Cert.InScanIdeal.nD Cert.InScanIdeal.τ).loc Cert.InScanIdeal.main_arg2) = m ((c.tc : Thread Cert.InScanIdeal.nD Cert.InScanIdeal.τ).loc Cert.InScanIdeal.main_arg2))
      ∧ θ_run (Cert.InScanRefIdeal.defs (F := Ideal)) (onTc (τ := Cert.InScanRefIdeal.τ) (Cert.InScanRefIdeal.main (F := Ideal))) ⟨m', fun _ => 0, g'⟩ (fun r => ∀ c : Dev Cert.InScanRefIdeal.nD,
          r.2.mem ((c.tc : Thread Cert.InScanRefIdeal.nD Cert.InScanRefIdeal.τ).loc Cert.InScanRefIdeal.main_v13) = v0 c
          ∧ r.2.mem ((c.tc : Thread Cert.InScanRefIdeal.nD Cert.InScanRefIdeal.τ).loc Cert.InScanRefIdeal.main_arg0) = m' ((c.tc : Thread Cert.InScanRefIdeal.nD Cert.InScanRefIdeal.τ).loc Cert.InScanRefIdeal.main_arg0)
          ∧ r.2.mem ((c.tc : Thread Cert.InScanRefIdeal.nD Cert.InScanRefIdeal.τ).loc Cert.InScanRefIdeal.main_arg1) = m' ((c.tc : Thread Cert.InScanRefIdeal.nD Cert.InScanRefIdeal.τ).loc Cert.InScanRefIdeal.main_arg1)
          ∧ r.2.mem ((c.tc : Thread Cert.InScanRefIdeal.nD Cert.InScanRefIdeal.τ).loc Cert.InScanRefIdeal.main_arg2) = m' ((c.tc : Thread Cert.InScanRefIdeal.nD Cert.InScanRefIdeal.τ).loc Cert.InScanRefIdeal.main_arg2))

def preserves_InTok_InTokIdeal : Prop :=
  True

def algebraic_InTokIdeal_InTokRefIdeal [hInTokIdeal : Cert.InTokIdeal.Facts] [hInTokRefIdeal : Cert.InTokRefIdeal.Facts] : Prop :=
  ∀ (m : (ℓ : Loc Cert.InTokIdeal.nD Cert.InTokIdeal.τ Cert.InTokIdeal.sig) → Buf (Elt Ideal) ℓ) (g : Dev Cert.InTokIdeal.nD → PrngReg)
    (m' : (ℓ : Loc Cert.InTokRefIdeal.nD Cert.InTokRefIdeal.τ Cert.InTokRefIdeal.sig) → Buf (Elt Ideal) ℓ) (g' : Dev Cert.InTokRefIdeal.nD → PrngReg), Pre_InTokIdeal m →
    (∀ c : Dev Cert.InTokIdeal.nD,
      m' ((c.tc : Thread Cert.InTokRefIdeal.nD Cert.InTokRefIdeal.τ).loc Cert.InTokRefIdeal.main_arg0) = m ((c.tc : Thread Cert.InTokIdeal.nD Cert.InTokIdeal.τ).loc Cert.InTokIdeal.main_arg0)
      ∧ m' ((c.tc : Thread Cert.InTokRefIdeal.nD Cert.InTokRefIdeal.τ).loc Cert.InTokRefIdeal.main_arg1) = m ((c.tc : Thread Cert.InTokIdeal.nD Cert.InTokIdeal.τ).loc Cert.InTokIdeal.main_arg1)
      ∧ m' ((c.tc : Thread Cert.InTokRefIdeal.nD Cert.InTokRefIdeal.τ).loc Cert.InTokRefIdeal.main_arg2) = m ((c.tc : Thread Cert.InTokIdeal.nD Cert.InTokIdeal.τ).loc Cert.InTokIdeal.main_arg2)) →
    ∃ (v0 : (c : Dev Cert.InTokIdeal.nD) → Buf (Elt Ideal) ((c.tc : Thread Cert.InTokIdeal.nD Cert.InTokIdeal.τ).loc Cert.InTokIdeal.main_v2)),
      θ_run (Cert.InTokIdeal.defs (F := Ideal)) (onTc (τ := Cert.InTokIdeal.τ) (Cert.InTokIdeal.main (F := Ideal))) ⟨m, fun _ => 0, g⟩ (fun r => ∀ c : Dev Cert.InTokIdeal.nD,
          r.2.mem ((c.tc : Thread Cert.InTokIdeal.nD Cert.InTokIdeal.τ).loc Cert.InTokIdeal.main_v2) = v0 c
          ∧ r.2.mem ((c.tc : Thread Cert.InTokIdeal.nD Cert.InTokIdeal.τ).loc Cert.InTokIdeal.main_arg0) = m ((c.tc : Thread Cert.InTokIdeal.nD Cert.InTokIdeal.τ).loc Cert.InTokIdeal.main_arg0)
          ∧ r.2.mem ((c.tc : Thread Cert.InTokIdeal.nD Cert.InTokIdeal.τ).loc Cert.InTokIdeal.main_arg1) = m ((c.tc : Thread Cert.InTokIdeal.nD Cert.InTokIdeal.τ).loc Cert.InTokIdeal.main_arg1)
          ∧ r.2.mem ((c.tc : Thread Cert.InTokIdeal.nD Cert.InTokIdeal.τ).loc Cert.InTokIdeal.main_arg2) = m ((c.tc : Thread Cert.InTokIdeal.nD Cert.InTokIdeal.τ).loc Cert.InTokIdeal.main_arg2))
      ∧ θ_run (Cert.InTokRefIdeal.defs (F := Ideal)) (onTc (τ := Cert.InTokRefIdeal.τ) (Cert.InTokRefIdeal.main (F := Ideal))) ⟨m', fun _ => 0, g'⟩ (fun r => ∀ c : Dev Cert.InTokRefIdeal.nD,
          r.2.mem ((c.tc : Thread Cert.InTokRefIdeal.nD Cert.InTokRefIdeal.τ).loc Cert.InTokRefIdeal.main_v13) = v0 c
          ∧ r.2.mem ((c.tc : Thread Cert.InTokRefIdeal.nD Cert.InTokRefIdeal.τ).loc Cert.InTokRefIdeal.main_arg0) = m' ((c.tc : Thread Cert.InTokRefIdeal.nD Cert.InTokRefIdeal.τ).loc Cert.InTokRefIdeal.main_arg0)
          ∧ r.2.mem ((c.tc : Thread Cert.InTokRefIdeal.nD Cert.InTokRefIdeal.τ).loc Cert.InTokRefIdeal.main_arg1) = m' ((c.tc : Thread Cert.InTokRefIdeal.nD Cert.InTokRefIdeal.τ).loc Cert.InTokRefIdeal.main_arg1)
          ∧ r.2.mem ((c.tc : Thread Cert.InTokRefIdeal.nD Cert.InTokRefIdeal.τ).loc Cert.InTokRefIdeal.main_arg2) = m' ((c.tc : Thread Cert.InTokRefIdeal.nD Cert.InTokRefIdeal.τ).loc Cert.InTokRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v13) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v50) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def Claim : Prop :=
  ∃ (hSsd : Cert.Ssd.Facts) (hSsdIdeal : Cert.SsdIdeal.Facts) (hSsdRefIdeal : Cert.SsdRefIdeal.Facts) (hInScan : Cert.InScan.Facts) (hInScanIdeal : Cert.InScanIdeal.Facts) (hInScanRefIdeal : Cert.InScanRefIdeal.Facts) (hInTok : Cert.InTok.Facts) (hInTokIdeal : Cert.InTokIdeal.Facts) (hInTokRefIdeal : Cert.InTokRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hQuery : Cert.Query.Facts) (hQueryIdeal : Cert.QueryIdeal.Facts) (hQueryRefIdeal : Cert.QueryRefIdeal.Facts) (hExperts : Cert.Experts.Facts) (hExpertsIdeal : Cert.ExpertsIdeal.Facts) (hExpertsRefIdeal : Cert.ExpertsRefIdeal.Facts),
    quiescent_Ssd (hSsd := hSsd)
    ∧ quiescent_SsdIdeal (hSsdIdeal := hSsdIdeal)
    ∧ quiescent_SsdRefIdeal (hSsdRefIdeal := hSsdRefIdeal)
    ∧ quiescent_InScan (hInScan := hInScan)
    ∧ quiescent_InScanIdeal (hInScanIdeal := hInScanIdeal)
    ∧ quiescent_InScanRefIdeal (hInScanRefIdeal := hInScanRefIdeal)
    ∧ quiescent_InTok (hInTok := hInTok)
    ∧ quiescent_InTokIdeal (hInTokIdeal := hInTokIdeal)
    ∧ quiescent_InTokRefIdeal (hInTokRefIdeal := hInTokRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Query (hQuery := hQuery)
    ∧ quiescent_QueryIdeal (hQueryIdeal := hQueryIdeal)
    ∧ quiescent_QueryRefIdeal (hQueryRefIdeal := hQueryRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ preserves_Ssd_SsdIdeal
    ∧ algebraic_SsdIdeal_SsdRefIdeal (hSsdIdeal := hSsdIdeal) (hSsdRefIdeal := hSsdRefIdeal)
    ∧ preserves_InScan_InScanIdeal
    ∧ algebraic_InScanIdeal_InScanRefIdeal (hInScanIdeal := hInScanIdeal) (hInScanRefIdeal := hInScanRefIdeal)
    ∧ preserves_InTok_InTokIdeal
    ∧ algebraic_InTokIdeal_InTokRefIdeal (hInTokIdeal := hInTokIdeal) (hInTokRefIdeal := hInTokRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Query_QueryIdeal
    ∧ algebraic_QueryIdeal_QueryRefIdeal (hQueryIdeal := hQueryIdeal) (hQueryRefIdeal := hQueryRefIdeal)
    ∧ preserves_Experts_ExpertsIdeal
    ∧ algebraic_ExpertsIdeal_ExpertsRefIdeal (hExpertsIdeal := hExpertsIdeal) (hExpertsRefIdeal := hExpertsRefIdeal)
-- ==== Ssd.lean ====
abbrev S4x2112x9216 : Shape := ⟨3, ![4, 2112, 9216]⟩
abbrev S4x3072 : Shape := ⟨2, ![4, 3072]⟩
abbrev S3072 : Shape := ⟨1, ![3072]⟩
abbrev S4x2112x128 : Shape := ⟨3, ![4, 2112, 128]⟩
abbrev S32 : Shape := ⟨1, ![32]⟩
abbrev S4x33x64x128 : Shape := ⟨4, ![4, 33, 64, 128]⟩
abbrev S4x33x64x32 : Shape := ⟨4, ![4, 33, 64, 32]⟩
abbrev S4x33x32x64 : Shape := ⟨4, ![4, 33, 32, 64]⟩
abbrev S32x64 : Shape := ⟨2, ![32, 64]⟩
abbrev S2048 : Shape := ⟨1, ![2048]⟩
abbrev S1x2048 : Shape := ⟨2, ![1, 2048]⟩
abbrev S1x3072 : Shape := ⟨2, ![1, 3072]⟩
abbrev S4x2048x2048 : Shape := ⟨3, ![4, 2048, 2048]⟩
abbrev S1x64x2048 : Shape := ⟨3, ![1, 64, 2048]⟩
abbrev S1x64x1024 : Shape := ⟨3, ![1, 64, 1024]⟩
abbrev S1x64x128 : Shape := ⟨3, ![1, 64, 128]⟩
abbrev S1x1x32x64 : Shape := ⟨4, ![1, 1, 32, 64]⟩
abbrev S72x3072 : Shape := ⟨2, ![72, 3072]⟩
abbrev S4x512x128 : Shape := ⟨3, ![4, 512, 128]⟩
abbrev S8x3072 : Shape := ⟨2, ![8, 3072]⟩
abbrev S64x2048 : Shape := ⟨2, ![64, 2048]⟩
abbrev S64x1024 : Shape := ⟨2, ![64, 1024]⟩
abbrev S64x1 : Shape := ⟨2, ![64, 1]⟩
abbrev S64x64 : Shape := ⟨2, ![64, 64]⟩
abbrev S64x128 : Shape := ⟨2, ![64, 128]⟩
abbrev S1x512 : Shape := ⟨2, ![1, 512]⟩
abbrev S64x512 : Shape := ⟨2, ![64, 512]⟩
abbrev S1x128 : Shape := ⟨2, ![1, 128]⟩
abbrev S1x512x128 : Shape := ⟨3, ![1, 512, 128]⟩
abbrev S512x128 : Shape := ⟨2, ![512, 128]⟩
abbrev S1x64 : Shape := ⟨2, ![1, 64]⟩
abbrev S1x1 : Shape := ⟨2, ![1, 1]⟩
abbrev S1x64x512 : Shape := ⟨3, ![1, 64, 512]⟩

abbrev nBuf : Space → Nat
  | .hbm => 14
  | .vmem => 17
  | .smem => 0
  | _ => 0

abbrev bufTy : (tb : Table) → Fin (tcTables nBuf tb) → BufTy
  | .hbm, ⟨0, _⟩ => ⟨S4x2112x9216, .f32⟩
  | .hbm, ⟨1, _⟩ => ⟨S4x3072, .f32⟩
  | .hbm, ⟨2, _⟩ => ⟨S3072, .f32⟩
  | .hbm, ⟨3, _⟩ => ⟨S4x2112x128, .f32⟩
  | .hbm, ⟨4, _⟩ => ⟨S4x2112x128, .f32⟩
  | .hbm, ⟨5, _⟩ => ⟨S32, .f32⟩
  | .hbm, ⟨6, _⟩ => ⟨S4x33x64x128, .f32⟩
  | .hbm, ⟨7, _⟩ => ⟨S4x33x64x32, .f32⟩
  | .hbm, ⟨8, _⟩ => ⟨S4x33x32x64, .f32⟩
  | .hbm, ⟨9, _⟩ => ⟨S32x64, .f32⟩
  | .hbm, ⟨10, _⟩ => ⟨S2048, .f32⟩
  | .hbm, ⟨11, _⟩ => ⟨S1x2048, .f32⟩
  | .hbm, ⟨12, _⟩ => ⟨S1x3072, .f32⟩
  | .hbm, ⟨13, _⟩ => ⟨S4x2048x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x1024, .f32⟩
  | .local _ .vmem, ⟨3, _⟩ => ⟨S1x64x1024, .f32⟩
  | .local _ .vmem, ⟨4, _⟩ => ⟨S4x3072, .f32⟩
  | .local _ .vmem, ⟨5, _⟩ => ⟨S1x3072, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x1x32x64, .f32⟩
  | .local _ .vmem, ⟨11, _⟩ => ⟨S1x1x32x64, .f32⟩
  | .local _ .vmem, ⟨12, _⟩ => ⟨S1x2048, .f32⟩
  | .local _ .vmem, ⟨13, _⟩ => ⟨S1x64x2048, .f32⟩
  | .local _ .vmem, ⟨14, _⟩ => ⟨S1x64x2048, .f32⟩
  | .local _ .vmem, ⟨15, _⟩ => ⟨S72x3072, .f32⟩
  | .local _ .vmem, ⟨16, _⟩ => ⟨S4x512x128, .f32⟩
  | _, _ => ⟨S4x2112x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SsdRefIdeal.lean ====
abbrev S4x2112x9216 : Shape := ⟨3, ![4, 2112, 9216]⟩
abbrev S4x3072 : Shape := ⟨2, ![4, 3072]⟩
abbrev S3072 : Shape := ⟨1, ![3072]⟩
abbrev S4x2112x128 : Shape := ⟨3, ![4, 2112, 128]⟩
abbrev S32 : Shape := ⟨1, ![32]⟩
abbrev S2112 : Shape := ⟨1, ![2112]⟩
abbrev S_ : Shape := ⟨0, ![]⟩
abbrev S1x2112x1 : Shape := ⟨3, ![1, 2112, 1]⟩
abbrev S4x2112x3072 : Shape := ⟨3, ![4, 2112, 3072]⟩
abbrev S4x2115x3072 : Shape := ⟨3, ![4, 2115, 3072]⟩
abbrev S1x3072 : Shape := ⟨2, ![1, 3072]⟩
abbrev S1x1x3072 : Shape := ⟨3, ![1, 1, 3072]⟩
abbrev S4x2112x2048 : Shape := ⟨3, ![4, 2112, 2048]⟩
abbrev S4x2112x32x64 : Shape := ⟨4, ![4, 2112, 32, 64]⟩
abbrev S4x2112x512 : Shape := ⟨3, ![4, 2112, 512]⟩
abbrev S4x33x64x4x128 : Shape := ⟨5, ![4, 33, 64, 4, 128]⟩
abbrev S4x2112x32 : Shape := ⟨3, ![4, 2112, 32]⟩
abbrev S4x2112x32x1 : Shape := ⟨4, ![4, 2112, 32, 1]⟩
abbrev S4x33x64x4x8x64 : Shape := ⟨6, ![4, 33, 64, 4, 8, 64]⟩
abbrev S4x33x64x4x8 : Shape := ⟨5, ![4, 33, 64, 4, 8]⟩
abbrev S4x4x8x33x64 : Shape := ⟨5, ![4, 4, 8, 33, 64]⟩
abbrev S4x4x33x64x64 : Shape := ⟨5, ![4, 4, 33, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x4x8x33x64x1 : Shape := ⟨6, ![4, 4, 8, 33, 64, 1]⟩
abbrev S4x4x8x33x1x64 : Shape := ⟨6, ![4, 4, 8, 33, 1, 64]⟩
abbrev S4x4x8x33x64x64 : Shape := ⟨6, ![4, 4, 8, 33, 64, 64]⟩
abbrev S4x4x1x33x64x64 : Shape := ⟨6, ![4, 4, 1, 33, 64, 64]⟩
abbrev S4x33x4x8x64x64 : Shape := ⟨6, ![4, 33, 4, 8, 64, 64]⟩
abbrev S4x4x8x33x1 : Shape := ⟨5, ![4, 4, 8, 33, 1]⟩
abbrev S4x33x64x4x8x1 : Shape := ⟨6, ![4, 33, 64, 4, 8, 1]⟩
abbrev S4x33x4x8x64x128 : Shape := ⟨6, ![4, 33, 4, 8, 64, 128]⟩
abbrev S4x4x8x33 : Shape := ⟨4, ![4, 4, 8, 33]⟩
abbrev S32x1 : Shape := ⟨2, ![32, 1]⟩
abbrev S1x1x32x1 : Shape := ⟨4, ![1, 1, 32, 1]⟩
abbrev S4x4x8x64x128 : Shape := ⟨5, ![4, 4, 8, 64, 128]⟩
abbrev S33x4x4x8x64x128 : Shape := ⟨6, ![33, 4, 4, 8, 64, 128]⟩
abbrev S33x4x4x8 : Shape := ⟨4, ![33, 4, 4, 8]⟩
abbrev S33x4x64x4x128 : Shape := ⟨5, ![33, 4, 64, 4, 128]⟩
abbrev S33x4x64x4x8 : Shape := ⟨5, ![33, 4, 64, 4, 8]⟩
abbrev S33x4x64x4x8x64 : Shape := ⟨6, ![33, 4, 64, 4, 8, 64]⟩
abbrev S1x4x4x8x64x128 : Shape := ⟨6, ![1, 4, 4, 8, 64, 128]⟩
abbrev S1x4x4x8 : Shape := ⟨4, ![1, 4, 4, 8]⟩
abbrev S4x4x8 : Shape := ⟨3, ![4, 4, 8]⟩
abbrev S1x4x64x4x128 : Shape := ⟨5, ![1, 4, 64, 4, 128]⟩
abbrev S4x64x4x128 : Shape := ⟨4, ![4, 64, 4, 128]⟩
abbrev S1x4x64x4x8 : Shape := ⟨5, ![1, 4, 64, 4, 8]⟩
abbrev S4x64x4x8 : Shape := ⟨4, ![4, 64, 4, 8]⟩
abbrev S1x4x64x4x8x64 : Shape := ⟨6, ![1, 4, 64, 4, 8, 64]⟩
abbrev S4x64x4x8x64 : Shape := ⟨5, ![4, 64, 4, 8, 64]⟩
abbrev S4x4x8x64x64 : Shape := ⟨5, ![4, 4, 8, 64, 64]⟩
abbrev S4x64x4x8x1 : Shape := ⟨5, ![4, 64, 4, 8, 1]⟩
abbrev S4x4x8x1x1 : Shape := ⟨5, ![4, 4, 8, 1, 1]⟩
abbrev S4x2048x2048 : Shape := ⟨3, ![4, 2048, 2048]⟩

abbrev nBuf : Space → Nat
  | .hbm => 200
  | .vmem => 0
  | .smem => 0
  | _ => 0

abbrev hbmTy0_0 (i : Nat) : BufTy := match i % 128 with
  | 0 => ⟨S4x2112x9216, .f32⟩
  | 1 => ⟨S4x3072, .f32⟩
  | 2 => ⟨S3072, .f32⟩
  | 3 => ⟨S4x2112x128, .f32⟩
  | 4 => ⟨S4x2112x128, .f32⟩
  | 5 => ⟨S32, .f32⟩
  | 6 => ⟨S2112, .i32⟩
  | 7 => ⟨S_, .i32⟩
  | 8 => ⟨S2112, .i32⟩
  | 9 => ⟨S2112, .i1⟩
  | 10 => ⟨S2112, .f32⟩
  | 11 => ⟨S1x2112x1, .f32⟩
  | 12 => ⟨S4x2112x3072, .f32⟩
  | 13 => ⟨S_, .i32⟩
  | 14 => ⟨S_, .f32⟩
  | 15 => ⟨S4x2115x3072, .f32⟩
  | 16 => ⟨S1x3072, .f32⟩
  | 17 => ⟨S3072, .f32⟩
  | 18 => ⟨S4x2112x3072, .f32⟩
  | 19 => ⟨S1x1x3072, .f32⟩
  | 20 => ⟨S4x2112x3072, .f32⟩
  | 21 => ⟨S4x2112x3072, .f32⟩
  | 22 => ⟨S_, .f32⟩
  | 23 => ⟨S4x2112x3072, .f32⟩
  | 24 => ⟨S4x2112x3072, .f32⟩
  | 25 => ⟨S1x3072, .f32⟩
  | 26 => ⟨S3072, .f32⟩
  | 27 => ⟨S4x2112x3072, .f32⟩
  | 28 => ⟨S1x1x3072, .f32⟩
  | 29 => ⟨S4x2112x3072, .f32⟩
  | 30 => ⟨S4x2112x3072, .f32⟩
  | 31 => ⟨S4x2112x3072, .f32⟩
  | 32 => ⟨S1x3072, .f32⟩
  | 33 => ⟨S3072, .f32⟩
  | 34 => ⟨S4x2112x3072, .f32⟩
  | 35 => ⟨S1x1x3072, .f32⟩
  | 36 => ⟨S4x2112x3072, .f32⟩
  | 37 => ⟨S4x2112x3072, .f32⟩
  | 38 => ⟨S4x2112x3072, .f32⟩
  | 39 => ⟨S1x3072, .f32⟩
  | 40 => ⟨S3072, .f32⟩
  | 41 => ⟨S4x2112x3072, .f32⟩
  | 42 => ⟨S1x1x3072, .f32⟩
  | 43 => ⟨S4x2112x3072, .f32⟩
  | 44 => ⟨S4x2112x3072, .f32⟩
  | 45 => ⟨S4x2112x3072, .f32⟩
  | 46 => ⟨S1x1x3072, .f32⟩
  | 47 => ⟨S4x2112x3072, .f32⟩
  | 48 => ⟨S4x2112x3072, .f32⟩
  | 49 => ⟨S4x2112x3072, .f32⟩
  | 50 => ⟨S4x2112x3072, .f32⟩
  | 51 => ⟨S_, .f32⟩
  | 52 => ⟨S4x2112x3072, .f32⟩
  | 53 => ⟨S4x2112x3072, .f32⟩
  | 54 => ⟨S_, .f32⟩
  | 55 => ⟨S4x2112x3072, .f32⟩
  | 56 => ⟨S4x2112x3072, .f32⟩
  | 57 => ⟨S4x2112x3072, .f32⟩
  | 58 => ⟨S4x2112x3072, .f32⟩
  | 59 => ⟨S4x2112x3072, .f32⟩
  | 60 => ⟨S4x2112x2048, .f32⟩
  | 61 => ⟨S4x2112x32x64, .f32⟩
  | 62 => ⟨S4x2112x512, .f32⟩
  | 63 => ⟨S4x33x64x4x128, .f32⟩
  | 64 => ⟨S4x2112x512, .f32⟩
  | 65 => ⟨S4x33x64x4x128, .f32⟩
  | 66 => ⟨S4x2112x32, .f32⟩
  | 67 => ⟨S4x2112x32x1, .f32⟩
  | 68 => ⟨S4x2112x32x64, .f32⟩
  | 69 => ⟨S4x2112x32x64, .f32⟩
  | 70 => ⟨S4x33x64x4x8x64, .f32⟩
  | 71 => ⟨S4x2112x32, .f32⟩
  | 72 => ⟨S4x33x64x4x8, .f32⟩
  | 73 => ⟨S4x4x8x33x64, .f32⟩
  | 74 => ⟨S4x4x33x64x64, .f32⟩
  | 75 => ⟨S64, .i32⟩
  | 76 => ⟨S64x1, .i32⟩
  | 77 => ⟨S64, .i32⟩
  | 78 => ⟨S1x64, .i32⟩
  | 79 => ⟨S64x64, .i32⟩
  | 80 => ⟨S64x64, .i32⟩
  | 81 => ⟨S64x64, .i1⟩
  | 82 => ⟨S4x4x8x33x64x1, .f32⟩
  | 83 => ⟨S4x4x8x33x1x64, .f32⟩
  | 84 => ⟨S4x4x8x33x64x64, .f32⟩
  | 85 => ⟨S4x4x8x33x64x64, .f32⟩
  | 86 => ⟨S4x4x8x33x64x64, .f32⟩
  | 87 => ⟨S_, .f32⟩
  | 88 => ⟨S_, .f32⟩
  | 89 => ⟨S4x4x8x33x64x64, .i1⟩
  | 90 => ⟨S4x4x8x33x64x64, .f32⟩
  | 91 => ⟨S4x4x8x33x64x64, .f32⟩
  | 92 => ⟨S4x4x8x33x64x64, .f32⟩
  | 93 => ⟨S4x4x1x33x64x64, .f32⟩
  | 94 => ⟨S4x4x8x33x64x64, .f32⟩
  | 95 => ⟨S4x4x8x33x64x64, .f32⟩
  | 96 => ⟨S4x33x4x8x64x64, .f32⟩
  | 97 => ⟨S4x33x64x4x8x64, .f32⟩
  | 98 => ⟨S4x4x8x33x1, .f32⟩
  | 99 => ⟨S4x4x8x33x64, .f32⟩
  | 100 => ⟨S4x4x8x33x64, .f32⟩
  | 101 => ⟨S4x4x8x33x64, .f32⟩
  | 102 => ⟨S4x33x64x4x8, .f32⟩
  | 103 => ⟨S4x33x64x4x8x1, .f32⟩
  | 104 => ⟨S4x33x64x4x8x64, .f32⟩
  | 105 => ⟨S4x33x64x4x8x64, .f32⟩
  | 106 => ⟨S4x33x4x8x64x128, .f32⟩
  | 107 => ⟨S4x4x8x33x1, .f32⟩
  | 108 => ⟨S4x4x8x33, .f32⟩
  | 109 => ⟨S4x4x8x33, .f32⟩
  | 110 => ⟨S4x4x8x33x64, .f32⟩
  | 111 => ⟨S4x33x64x4x8, .f32⟩
  | 112 => ⟨S32x1, .f32⟩
  | 113 => ⟨S1x1x32x1, .f32⟩
  | 114 => ⟨S4x2112x32x64, .f32⟩
  | 115 => ⟨S4x2112x32x64, .f32⟩
  | 116 => ⟨S4x33x64x4x8x64, .f32⟩
  | 117 => ⟨S_, .f32⟩
  | 118 => ⟨S4x4x8x64x128, .f32⟩
  | 119 => ⟨S33x4x4x8x64x128, .f32⟩
  | 120 => ⟨S33x4x4x8, .f32⟩
  | 121 => ⟨S33x4x64x4x128, .f32⟩
  | 122 => ⟨S33x4x64x4x8, .f32⟩
  | 123 => ⟨S33x4x64x4x8x64, .f32⟩
  | 124 => ⟨S33x4x64x4x8x64, .f32⟩
  | 125 => ⟨S_, .f32⟩
  | 126 => ⟨S33x4x64x4x8x64, .f32⟩
  | 127 => ⟨S_, .i32⟩
  | _ => ⟨S4x2112x9216, .f32⟩

abbrev hbmTy0_1 (i : Nat) : BufTy := match i % 128 with
  | 0 => ⟨S33x4x4x8x64x128, .f32⟩
  | 1 => ⟨S33x4x4x8, .f32⟩
  | 2 => ⟨S33x4x64x4x128, .f32⟩
  | 3 => ⟨S33x4x64x4x8, .f32⟩
  | 4 => ⟨S33x4x64x4x8x64, .f32⟩
  | 5 => ⟨S33x4x64x4x8x64, .f32⟩
  | 6 => ⟨S_, .i32⟩
  | 7 => ⟨S4x4x8x64x128, .f32⟩
  | 8 => ⟨S33x4x64x4x8x64, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S1x4x4x8x64x128, .f32⟩
  | 17 => ⟨S4x4x8x64x128, .f32⟩
  | 18 => ⟨S_, .i32⟩
  | 19 => ⟨S_, .i32⟩
  | 20 => ⟨S_, .i32⟩
  | 21 => ⟨S1x4x4x8, .f32⟩
  | 22 => ⟨S4x4x8, .f32⟩
  | 23 => ⟨S_, .i32⟩
  | 24 => ⟨S_, .i32⟩
  | 25 => ⟨S_, .i32⟩
  | 26 => ⟨S_, .i32⟩
  | 27 => ⟨S1x4x64x4x128, .f32⟩
  | 28 => ⟨S4x64x4x128, .f32⟩
  | 29 => ⟨S_, .i32⟩
  | 30 => ⟨S_, .i32⟩
  | 31 => ⟨S_, .i32⟩
  | 32 => ⟨S_, .i32⟩
  | 33 => ⟨S1x4x64x4x8, .f32⟩
  | 34 => ⟨S4x64x4x8, .f32⟩
  | 35 => ⟨S_, .i32⟩
  | 36 => ⟨S_, .i32⟩
  | 37 => ⟨S_, .i32⟩
  | 38 => ⟨S_, .i32⟩
  | 39 => ⟨S_, .i32⟩
  | 40 => ⟨S1x4x64x4x8x64, .f32⟩
  | 41 => ⟨S4x64x4x8x64, .f32⟩
  | 42 => ⟨S_, .i32⟩
  | 43 => ⟨S_, .i32⟩
  | 44 => ⟨S_, .i32⟩
  | 45 => ⟨S_, .i32⟩
  | 46 => ⟨S_, .i32⟩
  | 47 => ⟨S1x4x64x4x8x64, .f32⟩
  | 48 => ⟨S4x64x4x8x64, .f32⟩
  | 49 => ⟨S4x4x8x64x64, .f32⟩
  | 50 => ⟨S4x64x4x8x64, .f32⟩
  | 51 => ⟨S4x64x4x8x1, .f32⟩
  | 52 => ⟨S4x64x4x8x64, .f32⟩
  | 53 => ⟨S4x64x4x8x64, .f32⟩
  | 54 => ⟨S4x4x8x1x1, .f32⟩
  | 55 => ⟨S4x4x8x64x128, .f32⟩
  | 56 => ⟨S4x4x8x64x128, .f32⟩
  | 57 => ⟨S4x4x8x64x128, .f32⟩
  | 58 => ⟨S4x64x4x8x64, .f32⟩
  | 59 => ⟨S4x64x4x8x64, .f32⟩
  | 60 => ⟨S1x4x64x4x8x64, .f32⟩
  | 61 => ⟨S_, .i32⟩
  | 62 => ⟨S_, .i32⟩
  | 63 => ⟨S_, .i32⟩
  | 64 => ⟨S_, .i32⟩
  | 65 => ⟨S_, .i32⟩
  | 66 => ⟨S33x4x64x4x8x64, .f32⟩
  | 67 => ⟨S_, .i32⟩
  | 68 => ⟨S_, .i32⟩
  | 69 => ⟨S4x33x64x4x8x64, .f32⟩
  | 70 => ⟨S4x2112x2048, .f32⟩
  | 71 => ⟨S4x2048x2048, .f32⟩
  | _ => ⟨S4x2112x9216, .f32⟩

abbrev hbmTy (i : Nat) : BufTy := match i / 128 with
  | 0 => hbmTy0_0 i
  | 1 => hbmTy0_1 i
  | _ => ⟨S4x2112x9216, .f32⟩

abbrev bufTy : (tb : Table) → Fin (tcTables nBuf tb) → BufTy
  | .hbm, ⟨i, _⟩ => hbmTy i
  | _, _ => ⟨S4x2112x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_1 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_2 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_3 : Ref sig .tc := ⟨.hbm, 125, rfl⟩
abbrev main_v102 : Ref sig .tc := ⟨.hbm, 126, rfl⟩
abbrev main_c_4 : Ref sig .tc := ⟨.hbm, 127, rfl⟩
abbrev main_v103_0 : Ref sig .tc := ⟨.hbm, 128, rfl⟩
abbrev main_v103_1 : Ref sig .tc := ⟨.hbm, 129, rfl⟩
abbrev main_v103_2 : Ref sig .tc := ⟨.hbm, 130, rfl⟩
abbrev main_v103_3 : Ref sig .tc := ⟨.hbm, 131, rfl⟩
abbrev main_v103_4 : Ref sig .tc := ⟨.hbm, 132, rfl⟩
abbrev main_v103_5 : Ref sig .tc := ⟨.hbm, 133, rfl⟩
abbrev main_v103_6 : Ref sig .tc := ⟨.hbm, 134, rfl⟩
abbrev main_v103_7 : Ref sig .tc := ⟨.hbm, 135, rfl⟩
abbrev main_v103_8 : Ref sig .tc := ⟨.hbm, 136, rfl⟩
abbrev main_while0c_c_13 : Ref sig .tc := ⟨.hbm, 137, rfl⟩
abbrev main_while0c_v107 : Ref sig .tc := ⟨.hbm, 138, rfl⟩
abbrev main_while0b_call3_c : Ref sig .tc := ⟨.hbm, 139, rfl⟩
abbrev main_while0b_call3_c_0 : Ref sig .tc := ⟨.hbm, 140, rfl⟩
abbrev main_while0b_call3_c_1 : Ref sig .tc := ⟨.hbm, 141, rfl⟩
abbrev main_while0b_call3_c_2 : Ref sig .tc := ⟨.hbm, 142, rfl⟩
abbrev main_while0b_call3_c_3 : Ref sig .tc := ⟨.hbm, 143, rfl⟩
abbrev main_while0b_call3_v0 : Ref sig .tc := ⟨.hbm, 144, rfl⟩
abbrev main_while0b_v107 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_call4_c_1 : Ref sig .tc := ⟨.hbm, 148, rfl⟩
abbrev main_while0b_call4_v0 : Ref sig .tc := ⟨.hbm, 149, rfl⟩
abbrev main_while0b_v108 : Ref sig .tc := ⟨.hbm, 150, rfl⟩
abbrev main_while0b_call5_c : Ref sig .tc := ⟨.hbm, 151, rfl⟩
abbrev main_while0b_call5_c_0 : Ref sig .tc := ⟨.hbm, 152, rfl⟩
abbrev main_while0b_call5_c_1 : Ref sig .tc := ⟨.hbm, 153, rfl⟩
abbrev main_while0b_call5_c_2 : Ref sig .tc := ⟨.hbm, 154, rfl⟩
abbrev main_while0b_call5_v0 : Ref sig .tc := ⟨.hbm, 155, rfl⟩
abbrev main_while0b_v109 : Ref sig .tc := ⟨.hbm, 156, rfl⟩
abbrev main_while0b_call6_c : Ref sig .tc := ⟨.hbm, 157, rfl⟩
abbrev main_while0b_call6_c_0 : Ref sig .tc := ⟨.hbm, 158, rfl⟩
abbrev main_while0b_call6_c_1 : Ref sig .tc := ⟨.hbm, 159, rfl⟩
abbrev main_while0b_call6_c_2 : Ref sig .tc := ⟨.hbm, 160, rfl⟩
abbrev main_while0b_call6_v0 : Ref sig .tc := ⟨.hbm, 161, rfl⟩
abbrev main_while0b_v110 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_c_2 : Ref sig .tc := ⟨.hbm, 166, rfl⟩
abbrev main_while0b_call7_c_3 : Ref sig .tc := ⟨.hbm, 167, rfl⟩
abbrev main_while0b_call7_v0 : Ref sig .tc := ⟨.hbm, 168, rfl⟩
abbrev main_while0b_v111 : Ref sig .tc := ⟨.hbm, 169, rfl⟩
abbrev main_while0b_call8_c : Ref sig .tc := ⟨.hbm, 170, rfl⟩
abbrev main_while0b_call8_c_0 : Ref sig .tc := ⟨.hbm, 171, rfl⟩
abbrev main_while0b_call8_c_1 : Ref sig .tc := ⟨.hbm, 172, rfl⟩
abbrev main_while0b_call8_c_2 : Ref sig .tc := ⟨.hbm, 173, rfl⟩
abbrev main_while0b_call8_c_3 : Ref sig .tc := ⟨.hbm, 174, rfl⟩
abbrev main_while0b_call8_v0 : Ref sig .tc := ⟨.hbm, 175, rfl⟩
abbrev main_while0b_v112 : Ref sig .tc := ⟨.hbm, 176, rfl⟩
abbrev main_while0b_v113 : Ref sig .tc := ⟨.hbm, 177, rfl⟩
abbrev main_while0b_v114 : Ref sig .tc := ⟨.hbm, 178, rfl⟩
abbrev main_while0b_v115 : Ref sig .tc := ⟨.hbm, 179, rfl⟩
abbrev main_while0b_v116 : Ref sig .tc := ⟨.hbm, 180, rfl⟩
abbrev main_while0b_v117 : Ref sig .tc := ⟨.hbm, 181, rfl⟩
abbrev main_while0b_v118 : Ref sig .tc := ⟨.hbm, 182, rfl⟩
abbrev main_while0b_v119 : Ref sig .tc := ⟨.hbm, 183, rfl⟩
abbrev main_while0b_v120 : Ref sig .tc := ⟨.hbm, 184, rfl⟩
abbrev main_while0b_v121 : Ref sig .tc := ⟨.hbm, 185, rfl⟩
abbrev main_while0b_v122 : Ref sig .tc := ⟨.hbm, 186, rfl⟩
abbrev main_while0b_v123 : Ref sig .tc := ⟨.hbm, 187, rfl⟩
abbrev main_while0b_call9_v0 : Ref sig .tc := ⟨.hbm, 188, rfl⟩
abbrev main_while0b_call9_c : Ref sig .tc := ⟨.hbm, 189, rfl⟩
abbrev main_while0b_call9_c_0 : Ref sig .tc := ⟨.hbm, 190, rfl⟩
abbrev main_while0b_call9_c_1 : Ref sig .tc := ⟨.hbm, 191, rfl⟩
abbrev main_while0b_call9_c_2 : Ref sig .tc := ⟨.hbm, 192, rfl⟩
abbrev main_while0b_call9_c_3 : Ref sig .tc := ⟨.hbm, 193, rfl⟩
abbrev main_while0b_v124 : Ref sig .tc := ⟨.hbm, 194, rfl⟩
abbrev main_while0b_c_13 : Ref sig .tc := ⟨.hbm, 195, rfl⟩
abbrev main_while0b_v125 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩

abbrev nD : Nat := 1
abbrev τ : Topo := Topo.v7x

variable {F : FTy → Type} [FloatOps F]

abbrev main_while0_count : Scf.Loop 32 := ⟨0#32, 33#32, 1#32⟩
-- ==== InScan.lean ====
abbrev S8448x2048 : Shape := ⟨2, ![8448, 2048]⟩
abbrev S2048 : Shape := ⟨1, ![2048]⟩
abbrev S2048x9216 : Shape := ⟨2, ![2048, 9216]⟩
abbrev S1x2048 : Shape := ⟨2, ![1, 2048]⟩
abbrev S8448x9216 : Shape := ⟨2, ![8448, 9216]⟩
abbrev S768x2048 : Shape := ⟨2, ![768, 2048]⟩
abbrev S2048x1024 : Shape := ⟨2, ![2048, 1024]⟩
abbrev S768x1024 : Shape := ⟨2, ![768, 1024]⟩
abbrev S768 : Shape := ⟨1, ![768]⟩
abbrev S768x1 : Shape := ⟨2, ![768, 1]⟩

abbrev nBuf : Space → Nat
  | .hbm => 6
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x9216, .f32⟩
  | .hbm, ⟨3, _⟩ => ⟨S2048x9216, .bf16⟩
  | .hbm, ⟨4, _⟩ => ⟨S1x2048, .f32⟩
  | .hbm, ⟨5, _⟩ => ⟨S8448x9216, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S768x1024, .f32⟩
  | .local _ .vmem, ⟨6, _⟩ => ⟨S768x1024, .f32⟩
  | .local _ .vmem, ⟨7, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InScanRefIdeal.lean ====
abbrev S8448x2048 : Shape := ⟨2, ![8448, 2048]⟩
abbrev S2048 : Shape := ⟨1, ![2048]⟩
abbrev S2048x9216 : Shape := ⟨2, ![2048, 9216]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x9216 : Shape := ⟨2, ![8448, 9216]⟩

abbrev nBuf : Space → Nat
  | .hbm => 20
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x9216, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x9216, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InTok.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S8192x8192 : Shape := ⟨2, ![8192, 8192]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S2048x8192, .bf16⟩
  | .hbm, ⟨4, _⟩ => ⟨S1x2048, .f32⟩
  | .hbm, ⟨5, _⟩ => ⟨S8192x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InTokRefIdeal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S8192x2048 : Shape := ⟨2, ![8192, 2048]⟩
abbrev S8192x8192 : Shape := ⟨2, ![8192, 8192]⟩
abbrev S2048 : Shape := ⟨1, ![2048]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S2048x1024 : Shape := ⟨2, ![2048, 1024]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 10
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x2048, .f32⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S2048x1024, .bf16⟩
  | .local _ .vmem, ⟨17, _⟩ => ⟨S256x1024, .f32⟩
  | .local _ .vmem, ⟨18, _⟩ => ⟨S256x1024, .f32⟩
  | .local _ .vmem, ⟨19, _⟩ => ⟨S256x2048, .bf16⟩
  | .local _ .vmem, ⟨20, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x2048 : Shape := ⟨2, ![8192, 2048]⟩
abbrev S8192x8192 : Shape := ⟨2, ![8192, 8192]⟩
abbrev S2048 : Shape := ⟨1, ![2048]⟩
abbrev S2048x2048 : Shape := ⟨2, ![2048, 2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x4x512, .f32⟩
  | .hbm, ⟨21, _⟩ => ⟨S8192x4x512, .f32⟩
  | .hbm, ⟨22, _⟩ => ⟨S_, .f32⟩
  | .hbm, ⟨23, _⟩ => ⟨S8192x4, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x512, .f32⟩
  | .hbm, ⟨33, _⟩ => ⟨S8192x4x512, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Query.lean ====
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryRefIdeal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Experts.lean ====
abbrev S8192x2048 : Shape := ⟨2, ![8192, 2048]⟩
abbrev S2048 : Shape := ⟨1, ![2048]⟩
abbrev S8x128x8192 : Shape := ⟨3, ![8, 128, 8192]⟩
abbrev S16384x2048 : Shape := ⟨2, ![16384, 2048]⟩
abbrev S2048x16384 : Shape := ⟨2, ![2048, 16384]⟩
abbrev S1x2048 : Shape := ⟨2, ![1, 2048]⟩
abbrev S256x2048 : Shape := ⟨2, ![256, 2048]⟩
abbrev S8x128x256 : Shape := ⟨3, ![8, 128, 256]⟩
abbrev S8x8x256 : Shape := ⟨3, ![8, 8, 256]⟩
abbrev S1024x2048 : Shape := ⟨2, ![1024, 2048]⟩
abbrev S2048x1024 : Shape := ⟨2, ![2048, 1024]⟩
abbrev S1024x256 : Shape := ⟨2, ![1024, 256]⟩
abbrev S2048x256 : Shape := ⟨2, ![2048, 256]⟩
abbrev S256 : Shape := ⟨1, ![256]⟩
abbrev S256x1 : Shape := ⟨2, ![256, 1]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩

abbrev nBuf : Space → Nat
  | .hbm => 15
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S16384x2048, .f32⟩
  | .hbm, ⟨8, _⟩ => ⟨S16384x2048, .f32⟩
  | .hbm, ⟨9, _⟩ => ⟨S16384x2048, .bf16⟩
  | .hbm, ⟨10, _⟩ => ⟨S2048x16384, .f32⟩
  | .hbm, ⟨11, _⟩ => ⟨S2048x16384, .bf16⟩
  | .hbm, ⟨12, _⟩ => ⟨S1x2048, .f32⟩
  | .hbm, ⟨13, _⟩ => ⟨S1x2048, .f32⟩
  | .hbm, ⟨14, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x8x256, .f32⟩
  | .local _ .vmem, ⟨9, _⟩ => ⟨S8x8x256, .f32⟩
  | .local _ .vmem, ⟨10, _⟩ => ⟨S8x8x256, .f32⟩
  | .local _ .vmem, ⟨11, _⟩ => ⟨S8x8x256, .f32⟩
  | .local _ .vmem, ⟨12, _⟩ => ⟨S1024x2048, .bf16⟩
  | .local _ .vmem, ⟨13, _⟩ => ⟨S1024x2048, .bf16⟩
  | .local _ .vmem, ⟨14, _⟩ => ⟨S2048x1024, .bf16⟩
  | .local _ .vmem, ⟨15, _⟩ => ⟨S2048x1024, .bf16⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S1024x256, .f32⟩
  | .local _ .vmem, ⟨20, _⟩ => ⟨S1024x256, .bf16⟩
  | .local _ .vmem, ⟨21, _⟩ => ⟨S2048x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 16], ![false, false]⟩

@[reducible] def k0_t1_loop : Scf.Loop 32 :=
  let c0_i32_6 : BitVec 32 := 0#32
  let c2_i32 : BitVec 32 := 2#32
  let v10 : BitVec 32 := Scalar.addi c0_i32_6 c2_i32
  let c1_i32 : BitVec 32 := 1#32
  ⟨c0_i32_6, v10, c1_i32⟩
def k0_mult1 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  v23
def k0_off1 (k0_t1 : Fin k0_t1_loop.trips) : Fin 3 → Nat :=
  let c0_19 : Index := 0#32
  let c0_20 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v26 : Index := Scalar.indexCast v24
  ![0, 0, v26.toNat]
def k0_off2 (k0_t1 : Fin k0_t1_loop.trips) : Fin 3 → Nat :=
  let c0_23 : Index := 0#32
  let c0_24 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v32 : Index := Scalar.indexCast v24
  ![0, 0, v32.toNat]
def k0_off3 (k0_t1 : Fin k0_t1_loop.trips) : Fin 3 → Nat :=
  let c1 : Index := 1#32
  let c0_28 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v45 : Index := Scalar.indexCast v24
  ![1, 0, v45.toNat]
def k0_off4 (k0_t1 : Fin k0_t1_loop.trips) : Fin 3 → Nat :=
  let c1_31 : Index := 1#32
  let c0_32 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v51 : Index := Scalar.indexCast v24
  ![1, 0, v51.toNat]
def k0_off5 (k0_t1 : Fin k0_t1_loop.trips) : Fin 3 → Nat :=
  let c2 : Index := 2#32
  let c0_36 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v64 : Index := Scalar.indexCast v24
  ![2, 0, v64.toNat]
def k0_off6 (k0_t1 : Fin k0_t1_loop.trips) : Fin 3 → Nat :=
  let c2_39 : Index := 2#32
  let c0_40 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v70 : Index := Scalar.indexCast v24
  ![2, 0, v70.toNat]
def k0_off7 (k0_t1 : Fin k0_t1_loop.trips) : Fin 3 → Nat :=
  let c3 : Index := 3#32
  let c0_44 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v83 : Index := Scalar.indexCast v24
  ![3, 0, v83.toNat]
def k0_off8 (k0_t1 : Fin k0_t1_loop.trips) : Fin 3 → Nat :=
  let c3_47 : Index := 3#32
  let c0_48 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v89 : Index := Scalar.indexCast v24
  ![3, 0, v89.toNat]
def k0_off9 (k0_t1 : Fin k0_t1_loop.trips) : Fin 3 → Nat :=
  let c4 : Index := 4#32
  let c0_52 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v102 : Index := Scalar.indexCast v24
  ![4, 0, v102.toNat]
def k0_off10 (k0_t1 : Fin k0_t1_loop.trips) : Fin 3 → Nat :=
  let c4_55 : Index := 4#32
  let c0_56 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v108 : Index := Scalar.indexCast v24
  ![4, 0, v108.toNat]
def k0_off11 (k0_t1 : Fin k0_t1_loop.trips) : Fin 3 → Nat :=
  let c5 : Index := 5#32
  let c0_60 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v121 : Index := Scalar.indexCast v24
  ![5, 0, v121.toNat]
def k0_off12 (k0_t1 : Fin k0_t1_loop.trips) : Fin 3 → Nat :=
  let c5_63 : Index := 5#32
  let c0_64 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v127 : Index := Scalar.indexCast v24
  ![5, 0, v127.toNat]
def k0_off13 (k0_t1 : Fin k0_t1_loop.trips) : Fin 3 → Nat :=
  let c6 : Index := 6#32
  let c0_68 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v140 : Index := Scalar.indexCast v24
  ![6, 0, v140.toNat]
def k0_off14 (k0_t1 : Fin k0_t1_loop.trips) : Fin 3 → Nat :=
  let c6_71 : Index := 6#32
  let c0_72 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v146 : Index := Scalar.indexCast v24
  ![6, 0, v146.toNat]
def k0_off15 (k0_t1 : Fin k0_t1_loop.trips) : Fin 3 → Nat :=
  let c7 : Index := 7#32
  let c0_76 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v159 : Index := Scalar.indexCast v24
  ![7, 0, v159.toNat]
def k0_off16 (k0_t1 : Fin k0_t1_loop.trips) : Fin 3 → Nat :=
  let c7_79 : Index := 7#32
  let c0_80 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v165 : Index := Scalar.indexCast v24
  ![7, 0, v165.toNat]
def k0_off17 (k0_t1 : Fin k0_t1_loop.trips) : Fin 2 → Nat :=
  let c0_84 : Index := 0#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v178 : Index := Scalar.indexCast v24
  ![0, v178.toNat]
def k0_off18 (k0_t1 : Fin k0_t1_loop.trips) : Fin 3 → Nat :=
  let c0_90 : Index := 0#32
  let c1_91 : Index := 1#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v195 : Index := Scalar.indexCast v24
  ![0, 1, v195.toNat]
def k0_off19 (k0_t1 : Fin k0_t1_loop.trips) : Fin 3 → Nat :=
  let c1_99 : Index := 1#32
  let c1_100 : Index := 1#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v214 : Index := Scalar.indexCast v24
  ![1, 1, v214.toNat]
def k0_off20 (k0_t1 : Fin k0_t1_loop.trips) : Fin 3 → Nat :=
  let c2_108 : Index := 2#32
  let c1_109 : Index := 1#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v233 : Index := Scalar.indexCast v24
  ![2, 1, v233.toNat]
def k0_off21 (k0_t1 : Fin k0_t1_loop.trips) : Fin 3 → Nat :=
  let c3_117 : Index := 3#32
  let c1_118 : Index := 1#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v252 : Index := Scalar.indexCast v24
  ![3, 1, v252.toNat]
def k0_off22 (k0_t1 : Fin k0_t1_loop.trips) : Fin 3 → Nat :=
  let c4_126 : Index := 4#32
  let c1_127 : Index := 1#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v271 : Index := Scalar.indexCast v24
  ![4, 1, v271.toNat]
def k0_off23 (k0_t1 : Fin k0_t1_loop.trips) : Fin 3 → Nat :=
  let c5_135 : Index := 5#32
  let c1_136 : Index := 1#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v290 : Index := Scalar.indexCast v24
  ![5, 1, v290.toNat]
def k0_off24 (k0_t1 : Fin k0_t1_loop.trips) : Fin 3 → Nat :=
  let c6_144 : Index := 6#32
  let c1_145 : Index := 1#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v309 : Index := Scalar.indexCast v24
  ![6, 1, v309.toNat]
def k0_off25 (k0_t1 : Fin k0_t1_loop.trips) : Fin 3 → Nat :=
  let c7_153 : Index := 7#32
  let c1_154 : Index := 1#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v328 : Index := Scalar.indexCast v24
  ![7, 1, v328.toNat]
def k0_off26 (k0_t1 : Fin k0_t1_loop.trips) : Fin 2 → Nat :=
  let c128 : Index := 128#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v347 : Index := Scalar.indexCast v24
  ![128, v347.toNat]
def k0_off27 (k0_t1 : Fin k0_t1_loop.trips) : Fin 3 → Nat :=
  let c0_167 : Index := 0#32
  let c2_168 : Index := 2#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v364 : Index := Scalar.indexCast v24
  ![0, 2, v364.toNat]
def k0_off28 (k0_t1 : Fin k0_t1_loop.trips) : Fin 3 → Nat :=
  let c1_176 : Index := 1#32
  let c2_177 : Index := 2#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v383 : Index := Scalar.indexCast v24
  ![1, 2, v383.toNat]
def k0_off29 (k0_t1 : Fin k0_t1_loop.trips) : Fin 3 → Nat :=
  let c2_185 : Index := 2#32
  let c2_186 : Index := 2#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v402 : Index := Scalar.indexCast v24
  ![2, 2, v402.toNat]
def k0_off30 (k0_t1 : Fin k0_t1_loop.trips) : Fin 3 → Nat :=
  let c3_194 : Index := 3#32
  let c2_195 : Index := 2#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v421 : Index := Scalar.indexCast v24
  ![3, 2, v421.toNat]
def k0_off31 (k0_t1 : Fin k0_t1_loop.trips) : Fin 3 → Nat :=
  let c4_203 : Index := 4#32
  let c2_204 : Index := 2#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v440 : Index := Scalar.indexCast v24
  ![4, 2, v440.toNat]
def k0_off32 (k0_t1 : Fin k0_t1_loop.trips) : Fin 3 → Nat :=
  let c5_212 : Index := 5#32
  let c2_213 : Index := 2#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v459 : Index := Scalar.indexCast v24
  ![5, 2, v459.toNat]
def k0_off33 (k0_t1 : Fin k0_t1_loop.trips) : Fin 3 → Nat :=
  let c6_221 : Index := 6#32
  let c2_222 : Index := 2#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v478 : Index := Scalar.indexCast v24
  ![6, 2, v478.toNat]
def k0_off34 (k0_t1 : Fin k0_t1_loop.trips) : Fin 3 → Nat :=
  let c7_230 : Index := 7#32
  let c2_231 : Index := 2#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v497 : Index := Scalar.indexCast v24
  ![7, 2, v497.toNat]
def k0_off35 (k0_t1 : Fin k0_t1_loop.trips) : Fin 2 → Nat :=
  let c256 : Index := 256#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v516 : Index := Scalar.indexCast v24
  ![256, v516.toNat]
def k0_off36 (k0_t1 : Fin k0_t1_loop.trips) : Fin 3 → Nat :=
  let c0_244 : Index := 0#32
  let c3_245 : Index := 3#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v533 : Index := Scalar.indexCast v24
  ![0, 3, v533.toNat]
def k0_off37 (k0_t1 : Fin k0_t1_loop.trips) : Fin 3 → Nat :=
  let c1_253 : Index := 1#32
  let c3_254 : Index := 3#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v552 : Index := Scalar.indexCast v24
  ![1, 3, v552.toNat]
def k0_off38 (k0_t1 : Fin k0_t1_loop.trips) : Fin 3 → Nat :=
  let c2_262 : Index := 2#32
  let c3_263 : Index := 3#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v571 : Index := Scalar.indexCast v24
  ![2, 3, v571.toNat]
def k0_off39 (k0_t1 : Fin k0_t1_loop.trips) : Fin 3 → Nat :=
  let c3_271 : Index := 3#32
  let c3_272 : Index := 3#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v590 : Index := Scalar.indexCast v24
  ![3, 3, v590.toNat]
def k0_off40 (k0_t1 : Fin k0_t1_loop.trips) : Fin 3 → Nat :=
  let c4_280 : Index := 4#32
  let c3_281 : Index := 3#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v609 : Index := Scalar.indexCast v24
  ![4, 3, v609.toNat]
def k0_off41 (k0_t1 : Fin k0_t1_loop.trips) : Fin 3 → Nat :=
  let c5_289 : Index := 5#32
  let c3_290 : Index := 3#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v628 : Index := Scalar.indexCast v24
  ![5, 3, v628.toNat]
def k0_off42 (k0_t1 : Fin k0_t1_loop.trips) : Fin 3 → Nat :=
  let c6_298 : Index := 6#32
  let c3_299 : Index := 3#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v647 : Index := Scalar.indexCast v24
  ![6, 3, v647.toNat]
def k0_off43 (k0_t1 : Fin k0_t1_loop.trips) : Fin 3 → Nat :=
  let c7_307 : Index := 7#32
  let c3_308 : Index := 3#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v666 : Index := Scalar.indexCast v24
  ![7, 3, v666.toNat]
def k0_off44 (k0_t1 : Fin k0_t1_loop.trips) : Fin 2 → Nat :=
  let c384 : Index := 384#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v685 : Index := Scalar.indexCast v24
  ![384, v685.toNat]
def k0_off45 (k0_t1 : Fin k0_t1_loop.trips) : Fin 3 → Nat :=
  let c0_321 : Index := 0#32
  let c4_322 : Index := 4#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v702 : Index := Scalar.indexCast v24
  ![0, 4, v702.toNat]
def k0_off46 (k0_t1 : Fin k0_t1_loop.trips) : Fin 3 → Nat :=
  let c1_330 : Index := 1#32
  let c4_331 : Index := 4#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v721 : Index := Scalar.indexCast v24
  ![1, 4, v721.toNat]
def k0_off47 (k0_t1 : Fin k0_t1_loop.trips) : Fin 3 → Nat :=
  let c2_339 : Index := 2#32
  let c4_340 : Index := 4#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v740 : Index := Scalar.indexCast v24
  ![2, 4, v740.toNat]
def k0_off48 (k0_t1 : Fin k0_t1_loop.trips) : Fin 3 → Nat :=
  let c3_348 : Index := 3#32
  let c4_349 : Index := 4#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v759 : Index := Scalar.indexCast v24
  ![3, 4, v759.toNat]
def k0_off49 (k0_t1 : Fin k0_t1_loop.trips) : Fin 3 → Nat :=
  let c4_357 : Index := 4#32
  let c4_358 : Index := 4#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v778 : Index := Scalar.indexCast v24
  ![4, 4, v778.toNat]
def k0_off50 (k0_t1 : Fin k0_t1_loop.trips) : Fin 3 → Nat :=
  let c5_366 : Index := 5#32
  let c4_367 : Index := 4#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v797 : Index := Scalar.indexCast v24
  ![5, 4, v797.toNat]
def k0_off51 (k0_t1 : Fin k0_t1_loop.trips) : Fin 3 → Nat :=
  let c6_375 : Index := 6#32
  let c4_376 : Index := 4#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v816 : Index := Scalar.indexCast v24
  ![6, 4, v816.toNat]
def k0_off52 (k0_t1 : Fin k0_t1_loop.trips) : Fin 3 → Nat :=
  let c7_384 : Index := 7#32
  let c4_385 : Index := 4#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v835 : Index := Scalar.indexCast v24
  ![7, 4, v835.toNat]
def k0_off53 (k0_t1 : Fin k0_t1_loop.trips) : Fin 2 → Nat :=
  let c512 : Index := 512#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v854 : Index := Scalar.indexCast v24
  ![512, v854.toNat]
def k0_off54 (k0_t1 : Fin k0_t1_loop.trips) : Fin 3 → Nat :=
  let c0_398 : Index := 0#32
  let c5_399 : Index := 5#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v871 : Index := Scalar.indexCast v24
  ![0, 5, v871.toNat]
def k0_off55 (k0_t1 : Fin k0_t1_loop.trips) : Fin 3 → Nat :=
  let c1_407 : Index := 1#32
  let c5_408 : Index := 5#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v890 : Index := Scalar.indexCast v24
  ![1, 5, v890.toNat]
def k0_off56 (k0_t1 : Fin k0_t1_loop.trips) : Fin 3 → Nat :=
  let c2_416 : Index := 2#32
  let c5_417 : Index := 5#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v909 : Index := Scalar.indexCast v24
  ![2, 5, v909.toNat]
def k0_off57 (k0_t1 : Fin k0_t1_loop.trips) : Fin 3 → Nat :=
  let c3_425 : Index := 3#32
  let c5_426 : Index := 5#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v928 : Index := Scalar.indexCast v24
  ![3, 5, v928.toNat]
def k0_off58 (k0_t1 : Fin k0_t1_loop.trips) : Fin 3 → Nat :=
  let c4_434 : Index := 4#32
  let c5_435 : Index := 5#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v947 : Index := Scalar.indexCast v24
  ![4, 5, v947.toNat]
def k0_off59 (k0_t1 : Fin k0_t1_loop.trips) : Fin 3 → Nat :=
  let c5_443 : Index := 5#32
  let c5_444 : Index := 5#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v966 : Index := Scalar.indexCast v24
  ![5, 5, v966.toNat]
def k0_off60 (k0_t1 : Fin k0_t1_loop.trips) : Fin 3 → Nat :=
  let c6_452 : Index := 6#32
  let c5_453 : Index := 5#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v985 : Index := Scalar.indexCast v24
  ![6, 5, v985.toNat]
def k0_off61 (k0_t1 : Fin k0_t1_loop.trips) : Fin 3 → Nat :=
  let c7_461 : Index := 7#32
  let c5_462 : Index := 5#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1004 : Index := Scalar.indexCast v24
  ![7, 5, v1004.toNat]
def k0_off62 (k0_t1 : Fin k0_t1_loop.trips) : Fin 2 → Nat :=
  let c640 : Index := 640#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1023 : Index := Scalar.indexCast v24
  ![640, v1023.toNat]
def k0_off63 (k0_t1 : Fin k0_t1_loop.trips) : Fin 3 → Nat :=
  let c0_475 : Index := 0#32
  let c6_476 : Index := 6#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1040 : Index := Scalar.indexCast v24
  ![0, 6, v1040.toNat]
def k0_off64 (k0_t1 : Fin k0_t1_loop.trips) : Fin 3 → Nat :=
  let c1_484 : Index := 1#32
  let c6_485 : Index := 6#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1059 : Index := Scalar.indexCast v24
  ![1, 6, v1059.toNat]
def k0_off65 (k0_t1 : Fin k0_t1_loop.trips) : Fin 3 → Nat :=
  let c2_493 : Index := 2#32
  let c6_494 : Index := 6#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1078 : Index := Scalar.indexCast v24
  ![2, 6, v1078.toNat]
def k0_off66 (k0_t1 : Fin k0_t1_loop.trips) : Fin 3 → Nat :=
  let c3_502 : Index := 3#32
  let c6_503 : Index := 6#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1097 : Index := Scalar.indexCast v24
  ![3, 6, v1097.toNat]
def k0_off67 (k0_t1 : Fin k0_t1_loop.trips) : Fin 3 → Nat :=
  let c4_511 : Index := 4#32
  let c6_512 : Index := 6#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1116 : Index := Scalar.indexCast v24
  ![4, 6, v1116.toNat]
def k0_off68 (k0_t1 : Fin k0_t1_loop.trips) : Fin 3 → Nat :=
  let c5_520 : Index := 5#32
  let c6_521 : Index := 6#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1135 : Index := Scalar.indexCast v24
  ![5, 6, v1135.toNat]
def k0_off69 (k0_t1 : Fin k0_t1_loop.trips) : Fin 3 → Nat :=
  let c6_529 : Index := 6#32
  let c6_530 : Index := 6#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1154 : Index := Scalar.indexCast v24
  ![6, 6, v1154.toNat]
def k0_off70 (k0_t1 : Fin k0_t1_loop.trips) : Fin 3 → Nat :=
  let c7_538 : Index := 7#32
  let c6_539 : Index := 6#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1173 : Index := Scalar.indexCast v24
  ![7, 6, v1173.toNat]
def k0_off71 (k0_t1 : Fin k0_t1_loop.trips) : Fin 2 → Nat :=
  let c768 : Index := 768#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1192 : Index := Scalar.indexCast v24
  ![768, v1192.toNat]
def k0_off72 (k0_t1 : Fin k0_t1_loop.trips) : Fin 3 → Nat :=
  let c0_552 : Index := 0#32
  let c7_553 : Index := 7#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1209 : Index := Scalar.indexCast v24
  ![0, 7, v1209.toNat]
def k0_off73 (k0_t1 : Fin k0_t1_loop.trips) : Fin 3 → Nat :=
  let c1_561 : Index := 1#32
  let c7_562 : Index := 7#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1228 : Index := Scalar.indexCast v24
  ![1, 7, v1228.toNat]
def k0_off74 (k0_t1 : Fin k0_t1_loop.trips) : Fin 3 → Nat :=
  let c2_570 : Index := 2#32
  let c7_571 : Index := 7#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1247 : Index := Scalar.indexCast v24
  ![2, 7, v1247.toNat]
def k0_off75 (k0_t1 : Fin k0_t1_loop.trips) : Fin 3 → Nat :=
  let c3_579 : Index := 3#32
  let c7_580 : Index := 7#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1266 : Index := Scalar.indexCast v24
  ![3, 7, v1266.toNat]
def k0_off76 (k0_t1 : Fin k0_t1_loop.trips) : Fin 3 → Nat :=
  let c4_588 : Index := 4#32
  let c7_589 : Index := 7#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1285 : Index := Scalar.indexCast v24
  ![4, 7, v1285.toNat]
def k0_off77 (k0_t1 : Fin k0_t1_loop.trips) : Fin 3 → Nat :=
  let c5_597 : Index := 5#32
  let c7_598 : Index := 7#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1304 : Index := Scalar.indexCast v24
  ![5, 7, v1304.toNat]
def k0_off78 (k0_t1 : Fin k0_t1_loop.trips) : Fin 3 → Nat :=
  let c6_606 : Index := 6#32
  let c7_607 : Index := 7#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1323 : Index := Scalar.indexCast v24
  ![6, 7, v1323.toNat]
def k0_off79 (k0_t1 : Fin k0_t1_loop.trips) : Fin 3 → Nat :=
  let c7_615 : Index := 7#32
  let c7_616 : Index := 7#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1342 : Index := Scalar.indexCast v24
  ![7, 7, v1342.toNat]
def k0_off80 (k0_t1 : Fin k0_t1_loop.trips) : Fin 2 → Nat :=
  let c896 : Index := 896#32
  let c0_i32_6 : BitVec 32 := 0#32
  let c1_i32 : BitVec 32 := 1#32
  let arg16 : BitVec 32 := Scf.iv c0_i32_6 c1_i32 k0_t1
  let c128_i32 : BitVec 32 := 128#32
  let v23 : BitVec 32 := Scalar.muli arg16 c128_i32
  let v24 : BitVec 32 := v23
  let v1361 : Index := Scalar.indexCast v24
  ![896, v1361.toNat]
def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ExpertsRefIdeal.lean ====
abbrev S8192x2048 : Shape := ⟨2, ![8192, 2048]⟩
abbrev S2048 : Shape := ⟨1, ![2048]⟩
abbrev S8x128x8192 : Shape := ⟨3, ![8, 128, 8192]⟩
abbrev S16384x2048 : Shape := ⟨2, ![16384, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x16384 : Shape := ⟨2, ![2048, 16384]⟩
abbrev S8192x16384 : Shape := ⟨2, ![8192, 16384]⟩
abbrev S8x1x128x8192 : Shape := ⟨4, ![8, 1, 128, 8192]⟩
abbrev S8x128x1x8192 : Shape := ⟨4, ![8, 128, 1, 8192]⟩
abbrev S8x128x128x8192 : Shape := ⟨4, ![8, 128, 128, 8192]⟩
abbrev S128x128x8192 : Shape := ⟨3, ![128, 128, 8192]⟩
abbrev S16384x8192 : Shape := ⟨2, ![16384, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S16384x2048, .f32⟩
  | .hbm, ⟨8, _⟩ => ⟨S16384x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S2048x16384, .f32⟩
  | .hbm, ⟨26, _⟩ => ⟨S8192x16384, .f32⟩
  | .hbm, ⟨27, _⟩ => ⟨S_, .f32⟩
  | .hbm, ⟨28, _⟩ => ⟨S8192x16384, .f32⟩
  | .hbm, ⟨29, _⟩ => ⟨S8192x16384, .f32⟩
  | .hbm, ⟨30, _⟩ => ⟨S8192x16384, .f32⟩
  | .hbm, ⟨31, _⟩ => ⟨S_, .f32⟩
  | .hbm, ⟨32, _⟩ => ⟨S8192x16384, .f32⟩
  | .hbm, ⟨33, _⟩ => ⟨S8192x16384, .f32⟩
  | .hbm, ⟨34, _⟩ => ⟨S8192x16384, .f32⟩
  | .hbm, ⟨35, _⟩ => ⟨S8192x16384, .f32⟩
  | .hbm, ⟨36, _⟩ => ⟨S8x1x128x8192, .f32⟩
  | .hbm, ⟨37, _⟩ => ⟨S8x128x1x8192, .f32⟩
  | .hbm, ⟨38, _⟩ => ⟨S8x128x128x8192, .f32⟩
  | .hbm, ⟨39, _⟩ => ⟨S8x128x128x8192, .f32⟩
  | .hbm, ⟨40, _⟩ => ⟨S8x128x128x8192, .i1⟩
  | .hbm, ⟨41, _⟩ => ⟨S8x128x1x8192, .f32⟩
  | .hbm, ⟨42, _⟩ => ⟨S8x1x128x8192, .f32⟩
  | .hbm, ⟨43, _⟩ => ⟨S_, .f32⟩
  | .hbm, ⟨44, _⟩ => ⟨S_, .f32⟩
  | .hbm, ⟨45, _⟩ => ⟨S8x128x128x8192, .f32⟩
  | .hbm, ⟨46, _⟩ => ⟨S8x128x128x8192, .f32⟩
  | .hbm, ⟨47, _⟩ => ⟨S8x128x128x8192, .f32⟩
  | .hbm, ⟨48, _⟩ => ⟨S8x128x128x8192, .f32⟩
  | .hbm, ⟨49, _⟩ => ⟨S8x128x128x8192, .f32⟩
  | .hbm, ⟨50, _⟩ => ⟨S_, .f32⟩
  | .hbm, ⟨51, _⟩ => ⟨S128x128x8192, .f32⟩
  | .hbm, ⟨52, _⟩ => ⟨S16384x8192, .f32⟩
  | .hbm, ⟨53, _⟩ => ⟨S8192x16384, .f32⟩
  | .hbm, ⟨54, _⟩ => ⟨S8192x16384, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Proof.SsdRefLoop.lean ====
/- The reference's loop over the chunks, as its step iterated: what the loop's buffers hold before every trip, and the result. -/
module

public import proofs.«01_k».proof.Proof.Gen.SsdRefIdeal.Run
public import proofs.«01_k».proof.Proof.Gen.SsdRefIdeal.Step

@[expose] public section

set_option maxRecDepth 16384

noncomputable section

namespace Cert.SsdRefIdeal.Loop

open Idealize.ShloMosaic Idealize.ShloMosaic.TcCoe Idealize.SL.Sem Idealize.ShloMosaic.StableHlo
open Cert.SsdRefIdeal Cert.SsdRefIdeal.Gen Cert.SsdRefIdeal.Value
open Cert.SsdRefIdeal.Step (State step init)

variable {F : FTy → Type} [FloatOps F]

/-- Before trip `j` the buffers hold the fields of `s`, and the counter holds `j`. -/
def Carries (W : Valuation τ sig (Elt F)) (s : State F) (j : ℕ) : Prop :=
  (W (Proc.devRef .tc main_v103_7) = s.main_v103_7 ∧ W (Proc.devRef .tc main_v103_8) = s.main_v103_8)
  ∧ (W (Proc.devRef .tc main_v103_0) = s.main_v103_0 ∧ W (Proc.devRef .tc main_v103_1) = s.main_v103_1
    ∧ W (Proc.devRef .tc main_v103_2) = s.main_v103_2 ∧ W (Proc.devRef .tc main_v103_3) = s.main_v103_3
    ∧ W (Proc.devRef .tc main_v103_4) = s.main_v103_4 ∧ W (Proc.devRef .tc main_v103_5) = s.main_v103_5)
  ∧ W (Proc.devRef .tc main_v103_6) = constantI S_ 32 (BitVec.ofNat 32 j)

/-- A trip steps the state. -/
theorem Carries.next {W : Valuation τ sig (Elt F)} {s : State F} {j : ℕ} (h : Carries W s j) : Carries (STEP W) (step j s) (j + 1) := by
  obtain ⟨⟨a7, a8⟩, ⟨a0, a1, a2, a3, a4, a5⟩, a6⟩ := h
  refine ⟨⟨(STEP_main_v103_7 W).trans ?_, (STEP_main_v103_8 W).trans ?_⟩, ⟨(STEP_main_v103_0 W).trans a0, (STEP_main_v103_1 W).trans a1,
    (STEP_main_v103_2 W).trans a2, (STEP_main_v103_3 W).trans a3, (STEP_main_v103_4 W).trans a4, (STEP_main_v103_5 W).trans a5⟩,
    (STEP_main_v103_6 W).trans ?_⟩
  · unfold step_main_v103_7
    rw [a7, a0, a1, a6]
    rfl
  · unfold step_main_v103_8
    rw [a7, a8, a2, a3, a4, a5, a6]
    rfl
  · unfold step_main_v103_6
    rw [a6]
    funext i
    show BitVec.ofNat 32 j + 1#32 = BitVec.ofNat 32 (j + 1)
    simp only [BitVec.ofNat_add]

variable (m : (ℓ : Loc nD τ sig) → Buf (Elt F) ℓ)

/-- The states: what the operations before the loop leave, and a step per trip. -/
def states (c : Dev nD) : ℕ → State F
  | 0 => init (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
  | n + 1 => step n (states c n)

set_option maxHeartbeats 900000 in
set_option maxRecDepth 65536 in
theorem carries_entry (c : Dev nD) : Carries (entryContents preI m c) (states m c 0) 0 := by
  refine ⟨⟨?_, ?_⟩, ⟨?_, ?_, ?_, ?_, ?_, ?_⟩, ?_⟩ <;> (simp only [entryContents, afterL_cons, afterL_nil]; after_reads_simp) <;> rfl

theorem carries (c : Dev nD) (k : ℕ) : Carries (STEP^[k] (entryContents preI m c)) (states m c k) k := by
  induction k with
  | zero => exact carries_entry m c
  | succ k ih => rw [Function.iterate_succ_apply']; exact ih.next

/-- The reference's run: its result is read off the state after the last chunk. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v106) = Cert.SsdRefIdeal.Step.R_main_v106 (states m c 33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (Value.run m ρ)
  show out_main_v106 _ = _
  unfold out_main_v106
  rw [(carries m c 33).1.2]
  rfl

end Cert.SsdRefIdeal.Loop

end
-- ==== Proof.Frames.lean ====
module

public import proofs.«01_k».proof.Defs
public import proofs.«01_k».proof.Proof.SsdRefLoop
public import proofs.«01_k».proof.Proof.Gen.ExpertsRefIdeal.Run
public import Idealize.ShloMosaic.Adequacy

@[expose] public section

noncomputable section

open Idealize.ShloMosaic Idealize.ShloMosaic.TcCoe Idealize.SL.Sem

namespace Cert.RefFrames

/-- The scan's reference ends, whatever its arguments hold, and leaves them as they were. -/
theorem ssd : Cert.quiescent_SsdRefIdeal := fun m ρ _ =>
  (θ_run Cert.SsdRefIdeal.defs _ _).mono (fun r h => ⟨fun c => (h c).2, sem_eq_zero_of_no_sems (by decide) r.2⟩)
    (Cert.SsdRefIdeal.Loop.run (F := Ideal) m ρ)

/-- So does the experts' reference. -/
theorem experts : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

end Cert.RefFrames

end
-- ==== Proof.MergeValue.lean ====
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pointwise
public import Idealize.ShloMosaic.Lib.ValueIdx
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen Cert.MergeIdeal.Value

theorem hz : (![0, 0] : Fin 2 → Nat) = fun _ => 0 := funext fun a => by fin_cases a <;> rfl

/-- `x / (1 + exp (-x))`, written as the kernel and as the reference compute it. -/
def silu (x : EReal) : EReal := Ideal.div x (1 + Ideal.exp (-x))
def sigm (x : EReal) : EReal := Ideal.div 1 (1 + Ideal.exp (-x))

theorem mul_sigm (x : EReal) : x * sigm x = silu x := by
  unfold silu sigm Ideal.div
  have h : (1 : EReal) + Ideal.exp (-x) ≠ 0 := by
    have h0 : (0 : EReal) ≤ Ideal.exp (-x) := by
      rcases (-x) with _ | _ | r
      · exact le_rfl
      · exact le_top
      · show (0 : EReal) ≤ ((Real.exp r : ℝ) : EReal)
        exact_mod_cast (Real.exp_pos r).le
    have h1 : (0 : EReal) < 1 + Ideal.exp (-x) := lt_of_lt_of_le (by norm_num : (0 : EReal) < 1) (le_add_of_nonneg_right h0)
    exact h1.ne'
  rw [if_neg h, if_neg h, one_mul]

/-- The branch's output times the silu of its gate. -/
def gated (y z : Fin 2048 → EReal) (k : Fin 2048) : EReal := y k * silu (z k)

/-- … and normalised within its group of 512 columns. -/
def gnorm (y z w : Fin 2048 → EReal) (k : Fin 2048) : EReal :=
  gated y z k * Ideal.rsqrt (Ideal.div (∑ j : Fin 512, gated y z ⟨k.val / 512 * 512 + j.val, by omega⟩ * gated y z ⟨k.val / 512 * 512 + j.val, by omega⟩)
    (Ideal.ofBits .f32 0x44000000#32) + Ideal.ofBits .f32 0x358637BD#32) * w k

/-- The normalised value in a group whose columns are `e 0, …, e 511`. -/
theorem gnorm_of (y z w : Fin 2048 → EReal) (e : Fin 512 → Fin 2048) (o : ℕ) (he : ∀ x, (e x).val = 512 * o + x.val) (j : Fin 512) :
    gnorm y z w (e j) = y (e j) * silu (z (e j)) * Ideal.rsqrt (Ideal.div (∑ x, y (e x) * silu (z (e x)) * (y (e x) * silu (z (e x))))
      (Ideal.ofBits .f32 0x44000000#32) + Ideal.ofBits .f32 0x358637BD#32) * w (e j) := by
  unfold gnorm
  have h : ∀ x : Fin 512, (⟨(e j).val / 512 * 512 + x.val, by omega⟩ : Fin 2048) = e x := fun x => Fin.ext (by
    have h1 := he j; have h2 := he x
    show (e j).val / 512 * 512 + x.val = (e x).val
    omega)
  simp only [h]
  rfl

theorem emb_cols (o : ℕ) (inb : ∀ a, (![0, o] : Fin 2 → ℕ) a + (![256, 512] : Fin 2 → ℕ) a ≤ S256x2048.size a) (r : Fin 256) (j : Fin 512) :
    (Rect.unit (s := S256x2048) ![0, o] ![256, 512] inb).emb (ix2 r j) = ix2 r (⟨o + j.val, by have := inb 1; simp at this; omega⟩ : Fin 2048) :=
  funext fun a => Fin.ext (match a with
    | ⟨0, _⟩ => by show 0 + 1 * r.val = r.val; omega
    | ⟨1, _⟩ => by show o + 1 * j.val = o + j.val; omega)

theorem pay1_eq {F : FTy → Type} [FloatOps F] (v : FVec F S256x2048 .bf16) : k0_pay1 v = v := shapeCast_self _ _

section
variable {F : FTy → Type} [FloatOps F]
variable (c : Dev nD) (i : grid0.Coords) (a2 : Memref sig .tc .vmem S256x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .f32) (h5 : a5.IsWhole)
  (a6 : Memref sig .tc .vmem S256x1024 .f32) (h6 : a6.IsWhole) (a7 : Memref sig .tc .vmem S256x1024 .f32) (h7 : a7.IsWhole)
  (a8 : Memref sig .tc .vmem S1x2048 .f32) (h8 : a8.IsWhole) (a9 : Memref sig .tc .vmem S2048x1024 .bf16) (h9 : a9.IsWhole)
  (a10 : Memref sig .tc .vmem S2048x1024 .bf16) (h10 : a10.IsWhole) (a11 : Memref sig .tc .vmem S256x1024 .f32) (h11 : a11.IsWhole)
  (a12 : Memref sig .tc .vmem S256x2048 .bf16) (h12 : a12.IsWhole) (a13 : Memref sig .tc .vmem S256x2048 .bf16) (h13 : a13.IsWhole)
  (x0 x1 x2 x3 : Vec F S256x2048 .f32) (x4 x5 : Vec F S256x1024 .f32) (x6 : Vec F S1x2048 .f32) (x7 x8 : Vec F S2048x1024 .bf16) (xs0 xs1 : Vec F S256x2048 .bf16)

theorem out_B (hc : ¬cond0_0 i) :
    out0_B_9 c i a2 h2 a3 h3 a4 h4 a5 h5 a6 h6 a7 h7 a8 h8 a9 h9 a10 h10 a11 h11 a12 h12 a13 h13 hc x0 x1 x2 x3 x4 x5 x6 x7 x8 xs0 xs1
      = k0_pay2 x4 xs0 x7 x5 xs1 x8 := by
  unfold out0_B_9
  rw [View.read_writes_eq_canon _ _ _ (cover0_B_9 c i a2 h2 a3 h3 a4 h4 a5 h5 a6 h6 a7 h7 a8 h8 a9 h9 a10 h10 a11 h11 a12 h12 a13 h13 hc x0 x1 x2 x3 x4 x5 x6 x7 x8 xs0 xs1)]
  unfold kernelRun0_B
  dsimp only
  sl_unfold_words
  rw [View.canon_unit_zero hz]
  simp only [View.readAt_eq_ld, h2.read_unread, h3.read_unread, h4.read_unread, h5.read_unread, h6.read_unread, h7.read_unread, h8.read_unread,
    h9.read_unread, h10.read_unread, h12.read_unread, h13.read_unread,
    View.ld_unit_zero (S := S256x1024) hz, View.ld_unit_zero (S := S256x2048) hz, View.ld_unit_zero (S := S2048x1024) hz]

theorem sout_A_1 (hc : cond0_0 i) :
    sout0_A_1 c i a2 h2 a3 h3 a4 h4 a5 h5 a6 h6 a7 h7 a8 h8 a9 h9 a10 h10 a11 h11 a12 h12 a13 h13 hc x0 x1 x2 x3 x4 x5 x6 x7 x8 = k0_pay10 x2 x3 := by
  unfold sout0_A_1
  rw [View.read_writes_eq_canon _ _ _ (scover0_A_1 c i a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz]
  simp only [View.readAt_eq_ld, h2.read_unread, h3.read_unread, h4.read_unread, h5.read_unread, View.ld_unit_zero (S := S256x2048) hz]
  exact pay1_eq _

/-- The first point of a row tile leaves in the second scratch and the output what the closed forms of the two scratches give. -/
theorem out_A (hc : cond0_0 i) :
    out0_A_9 c i a2 h2 a3 h3 a4 h4 a5 h5 a6 h6 a7 h7 a8 h8 a9 h9 a10 h10 a11 h11 a12 h12 a13 h13 hc x0 x1 x2 x3 x4 x5 x6 x7 x8
      = k0_pay2 x4 (sout0_A_0 c i a2 h2 a3 h3 a4 h4 a5 h5 a6 h6 a7 h7 a8 h8 a9 h9 a10 h10 a11 h11 a12 h12 a13 h13 hc x0 x1 x2 x3 x4 x5 x6 x7 x8) x7 x5
          (k0_pay10 x2 x3) x8 := by
  unfold out0_A_9 sout0_A_0
  rw [View.read_writes_eq_canon _ _ _ (cover0_A_9 c i a2 h2 a3 h3 a4 h4 a5 h5 a6 h6 a7 h7 a8 h8 a9 h9 a10 h10 a11 h11 a12 h12 a13 h13 hc x0 x1 x2 x3 x4 x5 x6 x7 x8),
    View.read_writes_eq_canon _ _ _ (scover0_A_0 c i a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz]
  simp only [View.readAt_eq_ld, h2.read_unread, h3.read_unread, h4.read_unread, h5.read_unread, h6.read_unread, h7.read_unread, h8.read_unread,
    h9.read_unread, h10.read_unread,
    View.ld_unit_zero (S := S256x1024) hz, View.ld_unit_zero (S := S256x2048) hz, View.ld_unit_zero (S := S2048x1024) hz,
    View.readCov_unit_zero (S := S256x2048) _ hz, View.readCov_eq_canon', pay1_eq]
  exact congrArg (fun X => k0_pay2 x4 X x7 x5 (k0_pay10 x2 x3) x8) (View.ld_unit_zero (S := S256x2048) hz _ _)
end

theorem sout_A_0 (c : Dev nD) (i : grid0.Coords) (a2 : Memref sig .tc .vmem S256x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .f32) (h5 : a5.IsWhole)
  (a6 : Memref sig .tc .vmem S256x1024 .f32) (h6 : a6.IsWhole) (a7 : Memref sig .tc .vmem S256x1024 .f32) (h7 : a7.IsWhole)
  (a8 : Memref sig .tc .vmem S1x2048 .f32) (h8 : a8.IsWhole) (a9 : Memref sig .tc .vmem S2048x1024 .bf16) (h9 : a9.IsWhole)
  (a10 : Memref sig .tc .vmem S2048x1024 .bf16) (h10 : a10.IsWhole) (a11 : Memref sig .tc .vmem S256x1024 .f32) (h11 : a11.IsWhole)
  (a12 : Memref sig .tc .vmem S256x2048 .bf16) (h12 : a12.IsWhole) (a13 : Memref sig .tc .vmem S256x2048 .bf16) (h13 : a13.IsWhole)
  (x0 x1 x2 x3 : Vec Ideal S256x2048 .f32) (x4 x5 : Vec Ideal S256x1024 .f32) (x6 : Vec Ideal S1x2048 .f32) (x7 x8 : Vec Ideal S2048x1024 .bf16) (hc : cond0_0 i)
  (y : S256x2048.Idx) :
    sout0_A_0 c i a2 h2 a3 h3 a4 h4 a5 h5 a6 h6 a7 h7 a8 h8 a9 h9 a10 h10 a11 h11 a12 h12 a13 h13 hc x0 x1 x2 x3 x4 x5 x6 x7 x8 y
      = gnorm (fun k => x0 (ix2 (y 0) k)) (fun k => x1 (ix2 (y 0) k)) (fun k => x6 (ix2 0 k)) (y 1) := by
  unfold sout0_A_0
  have hcov := scover0_A_0 c i a2 h2 a3 h3 a4 h4 a5 h5 a6 h6 a7 h7 a8 h8 a9 h9 a10 h10 a11 h11 a12 h12 a13 h13 hc x0 x1 x2 x3 x4 x5 x6 x7 x8
  rw [View.read_writes_eq_canon _ _ _ hcov]
  rw [← List.append_nil (kernelRun0_A c i a2 h2 a3 h3 a4 h4 a5 h5 a6 h6 a7 h7 a8 h8 a9 h9 a10 h10 a11 h11 a12 h12 a13 h13 hc x0 x1 x2 x3 x4 x5 x6 x7 x8).2.1]
  refine View.canon_append_of_piecesOf (fun y : S256x2048.Idx => gnorm (fun k => x0 (ix2 (y 0) k)) (fun k => x1 (ix2 (y 0) k)) (fun k => x6 (ix2 0 k)) (y 1))
    [] _ ?_ y (hcov y)
  unfold kernelRun0_A
  dsimp only
  sl_unfold_words
  simp only [View.readAt_eq_ld, h2.read_unread, h3.read_unread, h8.read_unread]
  refine ⟨fun x => ?_, fun x => ?_, fun x => ?_, fun x => ?_, trivial⟩
  all_goals
    obtain ⟨r, j, rfl⟩ : ∃ (r : Fin 256) (j : Fin 512), x = ix2 r j := ⟨x 0, x 1, funext fun a => match a with | ⟨0, _⟩ => rfl | ⟨1, _⟩ => rfl⟩
  · refine Eq.trans ?_ (congrArg (fun y : S256x2048.Idx => gnorm (fun k => x0 (ix2 (y 0) k)) (fun k => x1 (ix2 (y 0) k)) (fun k => x6 (ix2 0 k)) (y 1))
      (emb_cols 1536 (by decide) r j)).symm
    refine Eq.trans ?_ (gnorm_of (fun k => x0 (ix2 r k)) (fun k => x1 (ix2 r k)) (fun k => x6 (ix2 0 k)) (fun x => ⟨1536 + x.val, by omega⟩) 3 (fun _ => rfl) j).symm
    unfold_payloads
    pointwise
    simp only [zero_sub]
    rfl
  · refine Eq.trans ?_ (congrArg (fun y : S256x2048.Idx => gnorm (fun k => x0 (ix2 (y 0) k)) (fun k => x1 (ix2 (y 0) k)) (fun k => x6 (ix2 0 k)) (y 1))
      (emb_cols 1024 (by decide) r j)).symm
    refine Eq.trans ?_ (gnorm_of (fun k => x0 (ix2 r k)) (fun k => x1 (ix2 r k)) (fun k => x6 (ix2 0 k)) (fun x => ⟨1024 + x.val, by omega⟩) 2 (fun _ => rfl) j).symm
    unfold_payloads
    pointwise
    simp only [zero_sub]
    rfl
  · refine Eq.trans ?_ (congrArg (fun y : S256x2048.Idx => gnorm (fun k => x0 (ix2 (y 0) k)) (fun k => x1 (ix2 (y 0) k)) (fun k => x6 (ix2 0 k)) (y 1))
      (emb_cols 512 (by decide) r j)).symm
    refine Eq.trans ?_ (gnorm_of (fun k => x0 (ix2 r k)) (fun k => x1 (ix2 r k)) (fun k => x6 (ix2 0 k)) (fun x => ⟨512 + x.val, by omega⟩) 1 (fun _ => rfl) j).symm
    unfold_payloads
    pointwise
    simp only [zero_sub]
    rfl
  · refine Eq.trans ?_ (congrArg (fun y : S256x2048.Idx => gnorm (fun k => x0 (ix2 (y 0) k)) (fun k => x1 (ix2 (y 0) k)) (fun k => x6 (ix2 0 k)) (y 1))
      (emb_cols 0 (by decide) r j)).symm
    refine Eq.trans ?_ (gnorm_of (fun k => x0 (ix2 r k)) (fun k => x1 (ix2 r k)) (fun k => x6 (ix2 0 k)) (fun x => ⟨0 + x.val, by omega⟩) 0 (fun _ => by simp) j).symm
    unfold_payloads
    pointwise
    simp only [zero_sub]
    first | rfl | (simp only [Nat.zero_add]; rfl)

theorem pay2_apply (v3 : Vec Ideal S256x1024 .f32) (v11 : Vec Ideal S256x2048 .bf16) (v12 : Vec Ideal S2048x1024 .bf16) (v16 : Vec Ideal S256x1024 .f32)
    (v24 : Vec Ideal S256x2048 .bf16) (v25 : Vec Ideal S2048x1024 .bf16) (r : Fin 256) (j : Fin 1024) :
    k0_pay2 v3 v11 v12 v16 v24 v25 (ix2 r j) = sigm (v3 (ix2 r j)) * (∑ k : Fin 2048, v11 (ix2 r k) * v12 (ix2 k j))
      + sigm (v16 (ix2 r j)) * (∑ k : Fin 2048, v24 (ix2 r k) * v25 (ix2 k j)) := by
  unfold_payloads
  pointwise [dot_S256x2048_S2048x1024_S256x1024_1_0_0_1_n_n]
  simp only [zero_sub]
  rfl

theorem pay10_apply (x y : Vec Ideal S256x2048 .f32) (r : Fin 256) (k : Fin 2048) :
    k0_pay10 x y (ix2 r k) = x (ix2 r k) * silu (y (ix2 r k)) := by
  unfold_payloads
  pointwise
  simp only [zero_sub]
  rfl

theorem out_A_apply (c : Dev nD) (i : grid0.Coords) (a2 : Memref sig .tc .vmem S256x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .f32) (h5 : a5.IsWhole)
  (a6 : Memref sig .tc .vmem S256x1024 .f32) (h6 : a6.IsWhole) (a7 : Memref sig .tc .vmem S256x1024 .f32) (h7 : a7.IsWhole)
  (a8 : Memref sig .tc .vmem S1x2048 .f32) (h8 : a8.IsWhole) (a9 : Memref sig .tc .vmem S2048x1024 .bf16) (h9 : a9.IsWhole)
  (a10 : Memref sig .tc .vmem S2048x1024 .bf16) (h10 : a10.IsWhole) (a11 : Memref sig .tc .vmem S256x1024 .f32) (h11 : a11.IsWhole)
  (a12 : Memref sig .tc .vmem S256x2048 .bf16) (h12 : a12.IsWhole) (a13 : Memref sig .tc .vmem S256x2048 .bf16) (h13 : a13.IsWhole)
  (x0 x1 x2 x3 : Vec Ideal S256x2048 .f32) (x4 x5 : Vec Ideal S256x1024 .f32) (x6 : Vec Ideal S1x2048 .f32) (x7 x8 : Vec Ideal S2048x1024 .bf16) (hc : cond0_0 i)
  (r : Fin 256) (j : Fin 1024) (A : Fin 2048 → EReal) (hA : ∀ k, sout0_A_0 c i a2 h2 a3 h3 a4 h4 a5 h5 a6 h6 a7 h7 a8 h8 a9 h9 a10 h10 a11 h11 a12 h12 a13 h13 hc x0 x1 x2 x3 x4 x5 x6 x7 x8 (ix2 r k) = A k) :
    out0_A_9 c i a2 h2 a3 h3 a4 h4 a5 h5 a6 h6 a7 h7 a8 h8 a9 h9 a10 h10 a11 h11 a12 h12 a13 h13 hc x0 x1 x2 x3 x4 x5 x6 x7 x8 (ix2 r j)
      = sigm (x4 (ix2 r j)) * (∑ k : Fin 2048, A k * x7 (ix2 k j))
        + sigm (x5 (ix2 r j)) * (∑ k : Fin 2048, x2 (ix2 r k) * silu (x3 (ix2 r k)) * x8 (ix2 k j)) := by
  rw [out_A, pay2_apply]
  simp only [hA, pay10_apply]

variable (m : (ℓ : Loc nD τ sig) → Buf (Elt Ideal) ℓ) (ρ : Dev nD → PrngReg)

/-- The arguments, as the value speaks of them. -/
abbrev Y (c : Dev nD) (r : Fin 8192) (k : Fin 2048) : EReal := (m ((c : Thread nD τ).loc main_arg0) : Vec Ideal S8192x2048 .f32) (ix2 r k)
abbrev O (c : Dev nD) (r : Fin 8192) (k : Fin 2048) : EReal := (m ((c : Thread nD τ).loc main_arg1) : Vec Ideal S8192x2048 .f32) (ix2 r k)
abbrev P (c : Dev nD) (r k : Fin 8192) : EReal := (m ((c : Thread nD τ).loc main_arg2) : Vec Ideal S8192x8192 .f32) (ix2 r k)
abbrev gain (c : Dev nD) (k : Fin 2048) : EReal := (m ((c : Thread nD τ).loc main_arg3) : Vec Ideal S2048 .f32) (ix1 k)
abbrev W1 (c : Dev nD) (k j : Fin 2048) : EReal := (m ((c : Thread nD τ).loc main_arg4) : Vec Ideal S2048x2048 .f32) (ix2 k j)
abbrev W2 (c : Dev nD) (k j : Fin 2048) : EReal := (m ((c : Thread nD τ).loc main_arg5) : Vec Ideal S2048x2048 .f32) (ix2 k j)

theorem V_w1 (c : Dev nD) (k j : Fin 2048) : (V m c main_v0 : Vec Ideal S2048x2048 .bf16) (ix2 k j) = W1 m c k j := by
  have e : @Eq (FVec Ideal S2048x2048 .bf16) (V m c main_v0)
      (truncf .bf16 (m ((c : Thread nD τ).loc main_arg4) : FVec Ideal S2048x2048 .f32) bitsLt_bf16_f32) := by
    unfold V; after_results
  rw [e]; rfl

theorem V_w2 (c : Dev nD) (k j : Fin 2048) : (V m c main_v1 : Vec Ideal S2048x2048 .bf16) (ix2 k j) = W2 m c k j := by
  have e : @Eq (FVec Ideal S2048x2048 .bf16) (V m c main_v1)
      (truncf .bf16 (m ((c : Thread nD τ).loc main_arg5) : FVec Ideal S2048x2048 .f32) bitsLt_bf16_f32) := by
    unfold V; after_results
  rw [e]; rfl

theorem V_g (c : Dev nD) (k : Fin 2048) : (V m c main_v2 : Vec Ideal S1x2048 .f32) (ix2 0 k) = gain m c k := by
  have e : (V m c main_v2 : Vec Ideal S1x2048 .f32) = shapeCast S1x2048 (m ((c : Thread nD τ).loc main_arg3) : Vec Ideal S2048 .f32) shapeCasts_S2048_S1x2048 := by
    unfold V; after_results; rfl
  rw [e]; pointwise

/-! The windows' blocks. -/

theorem idxA : ∀ t : Fin grid0.N, win0_0.index t 0 = t.val / 2 ∧ win0_0.index t 1 = 0 ∧ win0_1.index t 0 = t.val / 2 ∧ win0_1.index t 1 = 0
    ∧ win0_2.index t 0 = t.val / 2 ∧ win0_2.index t 1 = 0 ∧ win0_3.index t 0 = t.val / 2 ∧ win0_3.index t 1 = 1 := by decide +kernel

theorem idxB : ∀ t : Fin grid0.N, win0_4.index t 0 = t.val / 2 ∧ win0_4.index t 1 = 4 + t.val % 2 ∧ win0_5.index t 0 = t.val / 2 ∧ win0_5.index t 1 = 6 + t.val % 2
    ∧ win0_6.index t 0 = 0 ∧ win0_6.index t 1 = 0 ∧ win0_7.index t 0 = 0 ∧ win0_7.index t 1 = t.val % 2
    ∧ win0_8.index t 0 = 0 ∧ win0_8.index t 1 = t.val % 2 := by decide +kernel

theorem blk0 (c : Dev nD) (t : Fin cfg0.N) (r : Fin 256) (k : Fin 2048) (R : Fin 8192) (hR : R.val = t.val / 2 * 256 + r.val) :
    (iblk m c 0 t : Vec Ideal S256x2048 .f32) (ix2 r k) = Y m c R k := by
  obtain ⟨e0, e1, -⟩ := idxA t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = R.val; rw [e0]; omega
  | ⟨1, _⟩ => show win0_0.index t 1 * 2048 + 1 * k.val = k.val; rw [e1]; omega

theorem blk1 (c : Dev nD) (t : Fin cfg0.N) (r : Fin 256) (k : Fin 2048) (R : Fin 8192) (hR : R.val = t.val / 2 * 256 + r.val) :
    (iblk m c 1 t : Vec Ideal S256x2048 .f32) (ix2 r k) = P m c R ⟨k.val, by omega⟩ := by
  obtain ⟨-, -, e0, e1, -⟩ := idxA t
  unfold iblk
  rw [View.read_apply]
  show V m c main_arg2 _ = m (c.tc.loc main_arg2) _
  rw [V_main_arg2]
  congr 1
  funext a
  apply Fin.ext
  match a with
  | ⟨0, _⟩ => show win0_1.index t 0 * 256 + 1 * r.val = R.val; rw [e0]; omega
  | ⟨1, _⟩ => show win0_1.index t 1 * 2048 + 1 * k.val = k.val; rw [e1]; omega

theorem blk2 (c : Dev nD) (t : Fin cfg0.N) (r : Fin 256) (k : Fin 2048) (R : Fin 8192) (hR : R.val = t.val / 2 * 256 + r.val) :
    (iblk m c 2 t : Vec Ideal S256x2048 .f32) (ix2 r k) = O m c R k := by
  obtain ⟨-, -, -, -, e0, e1, -⟩ := idxA t
  unfold iblk
  rw [View.read_apply]
  show V m c main_arg1 _ = m (c.tc.loc main_arg1) _
  rw [V_main_arg1]
  congr 1
  funext a
  apply Fin.ext
  match a with
  | ⟨0, _⟩ => show win0_2.index t 0 * 256 + 1 * r.val = R.val; rw [e0]; omega
  | ⟨1, _⟩ => show win0_2.index t 1 * 2048 + 1 * k.val = k.val; rw [e1]; omega

theorem blk3 (c : Dev nD) (t : Fin cfg0.N) (r : Fin 256) (k : Fin 2048) (R : Fin 8192) (hR : R.val = t.val / 2 * 256 + r.val) :
    (iblk m c 3 t : Vec Ideal S256x2048 .f32) (ix2 r k) = P m c R ⟨2048 + k.val, by omega⟩ := by
  obtain ⟨-, -, -, -, -, -, e0, e1⟩ := idxA t
  unfold iblk
  rw [View.read_apply]
  show V m c main_arg2 _ = m (c.tc.loc main_arg2) _
  rw [V_main_arg2]
  congr 1
  funext a
  apply Fin.ext
  match a with
  | ⟨0, _⟩ => show win0_3.index t 0 * 256 + 1 * r.val = R.val; rw [e0]; omega
  | ⟨1, _⟩ => show win0_3.index t 1 * 2048 + 1 * k.val = 2048 + k.val; rw [e1]; omega

theorem blk4 (c : Dev nD) (t : Fin cfg0.N) (r : Fin 256) (j : Fin 1024) (R : Fin 8192) (hR : R.val = t.val / 2 * 256 + r.val) (J : Fin 2048) (hJ : J.val = t.val % 2 * 1024 + j.val) :
    (iblk m c 4 t : Vec Ideal S256x1024 .f32) (ix2 r j) = P m c R ⟨4096 + J.val, by omega⟩ := by
  obtain ⟨e0, e1, -⟩ := idxB t
  unfold iblk
  rw [View.read_apply]
  show V m c main_arg2 _ = m (c.tc.loc main_arg2) _
  rw [V_main_arg2]
  congr 1
  funext a
  apply Fin.ext
  match a with
  | ⟨0, _⟩ => show win0_4.index t 0 * 256 + 1 * r.val = R.val; rw [e0]; omega
  | ⟨1, _⟩ => show win0_4.index t 1 * 1024 + 1 * j.val = 4096 + J.val; rw [e1]; omega

theorem blk5 (c : Dev nD) (t : Fin cfg0.N) (r : Fin 256) (j : Fin 1024) (R : Fin 8192) (hR : R.val = t.val / 2 * 256 + r.val) (J : Fin 2048) (hJ : J.val = t.val % 2 * 1024 + j.val) :
    (iblk m c 5 t : Vec Ideal S256x1024 .f32) (ix2 r j) = P m c R ⟨6144 + J.val, by omega⟩ := by
  obtain ⟨-, -, e0, e1, -⟩ := idxB t
  unfold iblk
  rw [View.read_apply]
  show V m c main_arg2 _ = m (c.tc.loc main_arg2) _
  rw [V_main_arg2]
  congr 1
  funext a
  apply Fin.ext
  match a with
  | ⟨0, _⟩ => show win0_5.index t 0 * 256 + 1 * r.val = R.val; rw [e0]; omega
  | ⟨1, _⟩ => show win0_5.index t 1 * 1024 + 1 * j.val = 6144 + J.val; rw [e1]; omega

theorem blk6 (c : Dev nD) (t : Fin cfg0.N) (k : Fin 2048) :
    (iblk m c 6 t : Vec Ideal S1x2048 .f32) (ix2 0 k) = gain m c k := by
  obtain ⟨-, -, -, -, e0, e1, -⟩ := idxB t
  rw [← V_g]
  unfold iblk
  rw [View.read_apply]
  show V m c main_v2 _ = V m c main_v2 _
  congr 1
  funext a
  apply Fin.ext
  match a with
  | ⟨0, _⟩ => show win0_6.index t 0 * 1 + 1 * 0 = 0; rw [e0]
  | ⟨1, _⟩ => show win0_6.index t 1 * 2048 + 1 * k.val = k.val; rw [e1]; omega

theorem blk7 (c : Dev nD) (t : Fin cfg0.N) (k : Fin 2048) (j : Fin 1024) (J : Fin 2048) (hJ : J.val = t.val % 2 * 1024 + j.val) :
    (iblk m c 7 t : Vec Ideal S2048x1024 .bf16) (ix2 k j) = W1 m c k J := by
  obtain ⟨-, -, -, -, -, -, e0, e1, -⟩ := idxB t
  rw [← V_w1]
  unfold iblk
  rw [View.read_apply]
  show V m c main_v0 _ = V m c main_v0 _
  congr 1
  funext a
  apply Fin.ext
  match a with
  | ⟨0, _⟩ => show win0_7.index t 0 * 2048 + 1 * k.val = k.val; rw [e0]; omega
  | ⟨1, _⟩ => show win0_7.index t 1 * 1024 + 1 * j.val = J.val; rw [e1]; omega

theorem blk8 (c : Dev nD) (t : Fin cfg0.N) (k : Fin 2048) (j : Fin 1024) (J : Fin 2048) (hJ : J.val = t.val % 2 * 1024 + j.val) :
    (iblk m c 8 t : Vec Ideal S2048x1024 .bf16) (ix2 k j) = W2 m c k J := by
  obtain ⟨-, -, -, -, -, -, -, -, e0, e1⟩ := idxB t
  rw [← V_w2]
  unfold iblk
  rw [View.read_apply]
  show V m c main_v1 _ = V m c main_v1 _
  congr 1
  funext a
  apply Fin.ext
  match a with
  | ⟨0, _⟩ => show win0_8.index t 0 * 2048 + 1 * k.val = k.val; rw [e0]; omega
  | ⟨1, _⟩ => show win0_8.index t 1 * 1024 + 1 * j.val = J.val; rw [e1]; omega

/-- The two branches' rows before their products: the scan's gated and normalised, the delta rule's gated. -/
def rowA (c : Dev nD) (R : Fin 8192) (k : Fin 2048) : EReal := gnorm (Y m c R) (fun k => P m c R ⟨k.val, by omega⟩) (gain m c) k
def rowB (c : Dev nD) (R : Fin 8192) (k : Fin 2048) : EReal := O m c R k * silu (P m c R ⟨2048 + k.val, by omega⟩)

theorem fresh0 (c : Dev nD) (n : ℕ) (hn : n < cfg0.N) (h : n % 2 = 0) (r : Fin 256) (k : Fin 2048) (R : Fin 8192) (hR : R.val = n / 2 * 256 + r.val) :
    (outsAt0 m c n hn).2.1 (ix2 r k) = rowA m c R k := by
  rw [outsAt0_A m c ⟨n, hn⟩ h]
  dsimp only
  refine (sout_A_0 ..).trans ?_
  unfold rowA
  congr 1
  · funext k; exact blk0 m c ⟨n, hn⟩ r k R hR
  · funext k; exact blk1 m c ⟨n, hn⟩ r k R hR
  · funext k; exact blk6 m c ⟨n, hn⟩ k

theorem fresh1 (c : Dev nD) (n : ℕ) (hn : n < cfg0.N) (h : n % 2 = 0) (r : Fin 256) (k : Fin 2048) (R : Fin 8192) (hR : R.val = n / 2 * 256 + r.val) :
    (outsAt0 m c n hn).2.2 (ix2 r k) = rowB m c R k := by
  rw [outsAt0_A m c ⟨n, hn⟩ h]
  dsimp only
  rw [sout_A_1, pay10_apply]
  unfold rowB
  rw [blk2 m c ⟨n, hn⟩ r k R hR, blk3 m c ⟨n, hn⟩ r k R hR]

/-- After every point the two scratches hold the rows of the point's row tile. -/
theorem scratch_eq (c : Dev nD) (n : ℕ) (hn : n < cfg0.N) (r : Fin 256) (k : Fin 2048) (R : Fin 8192) (hR : R.val = n / 2 * 256 + r.val) :
    (outsAt0 m c n hn).2.1 (ix2 r k) = rowA m c R k ∧ (outsAt0 m c n hn).2.2 (ix2 r k) = rowB m c R k := by
  by_cases h : n % 2 = 0
  · exact ⟨fresh0 m c n hn h r k R hR, fresh1 m c n hn h r k R hR⟩
  · have e := outsAt0_B m c ⟨n, hn⟩ h
    dsimp only at e
    have f0 := fresh0 m c (n - 1) (by omega) (by omega) r k R (by omega)
    have f1 := fresh1 m c (n - 1) (by omega) (by omega) r k R (by omega)
    rw [e]
    dsimp only
    unfold sout0_B_0 sout0_B_1
    exact ⟨f0, f1⟩

/-- The result array. -/
def result (c : Dev nD) : Vec Ideal S8192x2048 .f32 := fun i =>
  sigm (P m c (i 0) ⟨4096 + (i 1).val, by have h : (i 1).val < 2048 := (i 1).isLt; omega⟩) * (∑ k : Fin 2048, rowA m c (i 0) k * W1 m c k (i 1))
    + sigm (P m c (i 0) ⟨6144 + (i 1).val, by have h : (i 1).val < 2048 := (i 1).isLt; omega⟩) * (∑ k : Fin 2048, rowB m c (i 0) k * W2 m c k (i 1))

/-- What a point leaves in the output's block. -/
theorem block_eq (c : Dev nD) (n : ℕ) (hn : n < cfg0.N) (r : Fin 256) (j : Fin 1024) (R : Fin 8192) (hR : R.val = n / 2 * 256 + r.val)
    (J : Fin 2048) (hJ : J.val = n % 2 * 1024 + j.val) :
    (outsAt0 m c n hn).1 (ix2 r j) = sigm (P m c R ⟨4096 + J.val, by omega⟩) * (∑ k : Fin 2048, rowA m c R k * W1 m c k J)
      + sigm (P m c R ⟨6144 + J.val, by omega⟩) * (∑ k : Fin 2048, rowB m c R k * W2 m c k J) := by
  have hs := fun k => scratch_eq m c n hn r k R hR
  by_cases h : n % 2 = 0
  · have e := outsAt0_A m c ⟨n, hn⟩ h
    dsimp only at e
    rw [e] at hs ⊢
    dsimp only at hs ⊢
    refine (out_A_apply _ _ _ _ _ _ _ _ _ _ _ _ _ _ _ _ _ _ _ _ _ _ _ _ _ _ _ _ _ _ _ _ _ _ _ _ _ _ _ (fun k => (hs k).1)).trans ?_
    rw [blk4 m c ⟨n, hn⟩ r j R hR J hJ, blk5 m c ⟨n, hn⟩ r j R hR J hJ]
    congr 2
    · exact Finset.sum_congr rfl fun k _ => by rw [blk7 m c ⟨n, hn⟩ k j J hJ]
    · refine Finset.sum_congr rfl fun k _ => ?_
      rw [blk2 m c ⟨n, hn⟩ r k R hR, blk3 m c ⟨n, hn⟩ r k R hR, blk8 m c ⟨n, hn⟩ k j J hJ]
      rfl
  · have e := outsAt0_B m c ⟨n, hn⟩ h
    dsimp only at e
    rw [e] at hs ⊢
    dsimp only at hs ⊢
    unfold sout0_B_0 sout0_B_1 at hs
    rw [out_B, pay2_apply, blk4 m c ⟨n, hn⟩ r j R hR J hJ, blk5 m c ⟨n, hn⟩ r j R hR J hJ]
    congr 2
    · exact Finset.sum_congr rfl fun k _ => by rw [← (hs k).1, blk7 m c ⟨n, hn⟩ k j J hJ]
    · exact Finset.sum_congr rfl fun k _ => by rw [← (hs k).2, blk8 m c ⟨n, hn⟩ k j J hJ]

theorem G9_eq (c : Dev nD) : G9 m c = result m c := by
  funext i
  have h0 : (i 0).val < 8192 := (i 0).isLt
  have h1 : (i 1).val < 2048 := (i 1).isLt
  have hN : cfg0.N = 64 := N_0
  have hp : pt9Of i < cfg0.N := by
    rw [hN]; show 2 * ((i 0).val / 256 - 0) + 1 * ((i 1).val / 1024 - 0) < 64; omega
  unfold G9
  rw [dif_pos hp, ← outsAt0_sweep m c _ hp]
  rw [show loc9Of i = ix2 (⟨(i 0).val % 256, Nat.mod_lt _ (by decide)⟩ : Fin 256) (⟨(i 1).val % 1024, Nat.mod_lt _ (by decide)⟩ : Fin 1024) from
    funext fun a => match a with | ⟨0, _⟩ => rfl | ⟨1, _⟩ => rfl]
  refine block_eq m c _ _ _ _ (i 0) ?_ (i 1) ?_
  · show (i 0).val = (2 * ((i 0).val / 256 - 0) + 1 * ((i 1).val / 1024 - 0)) / 2 * 256 + (i 0).val % 256; omega
  · show (i 1).val = (2 * ((i 0).val / 256 - 0) + 1 * ((i 1).val / 1024 - 0)) % 2 * 1024 + (i 1).val % 1024; omega

end Cert.MergeIdeal.RefValue

/-! ## The reference's result is the same array -/

namespace Cert.MergeRefIdeal.RefValue

open Cert.MergeRefIdeal Cert.MergeRefIdeal.Gen Cert.MergeRefIdeal.Read
open Cert.MergeIdeal.RefValue (silu sigm mul_sigm gnorm)

theorem result_apply (y o : Vec Ideal S8192x2048 .f32) (p : Vec Ideal S8192x8192 .f32) (g : Vec Ideal S2048 .f32) (w1 w2 : Vec Ideal S2048x2048 .f32)
    (r : Fin 8192) (j : Fin 2048) :
    val_main_v39 (F := Ideal) y o p g w1 w2 (ix2 r j)
      = sigm (p (ix2 r ⟨4096 + j.val, by omega⟩)) * (∑ k : Fin 2048, gnorm (fun k => y (ix2 r k)) (fun k => p (ix2 r ⟨k.val, by omega⟩)) (fun k => g (ix1 k)) k * w1 (ix2 k j))
        + sigm (p (ix2 r ⟨6144 + j.val, by omega⟩)) * (∑ k : Fin 2048, o (ix2 r k) * silu (p (ix2 r ⟨2048 + k.val, by omega⟩)) * w2 (ix2 k j)) := by
  simp only [← mul_sigm, gnorm, Cert.MergeIdeal.RefValue.gated, sigm]
  unfold val_main_v39 val_main_v38 val_main_v37 val_main_v36 val_main_v35 val_main_cst_5 val_main_v34 val_main_v33 val_main_cst_4 val_main_v32 val_main_v31 val_main_v30 val_main_v29 val_main_v28 val_main_v27 val_main_cst_3 val_main_v26 val_main_v25 val_main_cst_2 val_main_v24 val_main_v23 val_main_v22 val_main_v21 val_main_call1_v5 val_main_call1_v4 val_main_call1_cst_0 val_main_call1_v3 val_main_call1_v2 val_main_call1_cst val_main_call1_v1 val_main_call1_v0 val_main_v20 val_main_v19 val_main_v18 val_main_v17 val_main_v16 val_main_v15 val_main_v14 val_main_v13 val_main_v12 val_main_cst_1 val_main_v11 val_main_v10 val_main_cst_0 val_main_v9 val_main_v8 val_main_cst val_main_v7 val_main_v6 val_main_v5 val_main_v4 val_main_call0_v5 val_main_call0_v4 val_main_call0_cst_0 val_main_call0_v3 val_main_call0_v2 val_main_call0_cst val_main_call0_v1 val_main_call0_v0 val_main_v3 val_main_v2 val_main_v1 val_main_v0
  pointwise [dot_S8192x2048_S2048x2048_S8192x2048_1_0_0_1_n_n]

end Cert.MergeRefIdeal.RefValue

/-! ## The claims -/

namespace Cert.MergeIdeal.RefValue

/-- The reference leaves the values its operations compute, and every argument as it was; it has no semaphore. -/
theorem frame_reference : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic : Cert.algebraic_MergeIdeal_MergeRefIdeal := by
  intro m ρ m' ρ' _ hag
  refine ⟨fun c => result m c, ?_, ?_⟩
  · exact (θ_run Cert.MergeIdeal.defs _ _).mono (fun _ h c => ⟨(h c).1.trans (G9_eq m c), (h c).2⟩)
      (Cert.MergeIdeal.Value.run (F := Ideal) m ρ)
  refine (θ_run Cert.MergeRefIdeal.defs _ _).mono (fun _ h c => ⟨(h c).1.trans ?_, (h c).2⟩)
    (Cert.MergeRefIdeal.Value.run (F := Ideal) m' ρ')
  refine (Cert.MergeRefIdeal.Read.val_main_v39_eq _ _ _ _ _ _).trans ?_
  rw [(hag c).1, (hag c).2.1, (hag c).2.2.1, (hag c).2.2.2.1, (hag c).2.2.2.2.1, (hag c).2.2.2.2.2]
  funext i
  rw [show i = ix2 (i 0 : Fin 8192) (i 1 : Fin 2048) from funext fun a => match a with | ⟨0, _⟩ => rfl | ⟨1, _⟩ => rfl]
  exact Cert.MergeRefIdeal.RefValue.result_apply _ _ _ _ _ _ _ _

end Cert.MergeIdeal.RefValue

end
-- ==== Proof.SsdMath.lean ====
module

public import proofs.«01_k».proof.Proof.Gen.SsdIdeal.Value
public import proofs.«01_k».proof.Proof.MergeValue
public import Idealize.ShloMosaic.Lib.Pointwise
public import Idealize.ShloMosaic.Lib.ValueIdx
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdIdeal.RefValue

open Cert.SsdIdeal Cert.SsdIdeal.Gen Cert.SsdIdeal.Value
open Cert.MergeIdeal.RefValue (silu)

/-! One chunk of the scan, as a function of what the point reads: the padded rows `U` (eight rows carried over, then the chunk's 64),
    the convolution's taps `x2` and bias `x3`, the step sizes `x4`, the running decays `x5` (by row) and `x6` (by head), the skip's
    weights `x7`, and the state `S` before the chunk. -/

/-- The padded rows: the eight carried over, then the chunk's own. -/
def pad (halo : Vec Ideal S72x3072 .f32) (x0 : Vec Ideal S1x64x2048 .f32) (x1 : Vec Ideal S1x64x1024 .f32) : Vec Ideal S72x3072 .f32 := fun y =>
  if h : (y 0).val < 8 then halo y
  else if h' : (y 1).val < 2048 then x0 (ix3 0 (⟨(y 0).val - 8, by have := (y 0).isLt; simp at this; omega⟩ : Fin 64) (⟨(y 1).val, h'⟩ : Fin 2048))
  else x1 (ix3 0 (⟨(y 0).val - 8, by have := (y 0).isLt; simp at this; omega⟩ : Fin 64) (⟨(y 1).val - 2048, by have := (y 1).isLt; simp at this; omega⟩ : Fin 1024))

/-- What a point leaves in the padded rows: the last eight rows of its chunk moved to the front. -/
def padNext (U : Vec Ideal S72x3072 .f32) : Vec Ideal S72x3072 .f32 := fun y =>
  if h : (y 0).val < 8 then U (ix2 (⟨64 + (y 0).val, by omega⟩ : Fin 72) (y 1)) else U y

/-- Whether row `l` of chunk `ci` is a row of the sequence. -/
def msk (ci l : ℕ) : BitVec 1 := IntOp.cmpi .sge (IntOp.addi (BitVec.ofNat 32 l) (Scalar.muli (BitVec.ofNat 32 ci) 64#32)) 48#32

section
variable (ci : ℕ) (U : Vec Ideal S72x3072 .f32) (x2 : Vec Ideal S4x3072 .f32) (x3 : Vec Ideal S1x3072 .f32) (x4 x5 : Vec Ideal S1x64x128 .f32)
  (x6 : Vec Ideal S1x1x32x64 .f32) (x7 : Vec Ideal S1x2048 .f32) (S : Vec Ideal S4x512x128 .f32)

/-- The convolution at row `l` and column `d`. -/
def cv (l : Fin 64) (d : Fin 3072) : EReal :=
  x3 (ix2 0 d) + x2 (ix2 0 d) * U (ix2 (⟨5 + l.val, by omega⟩ : Fin 72) d) + x2 (ix2 1 d) * U (ix2 (⟨6 + l.val, by omega⟩ : Fin 72) d)
    + x2 (ix2 2 d) * U (ix2 (⟨7 + l.val, by omega⟩ : Fin 72) d) + x2 (ix2 3 d) * U (ix2 (⟨8 + l.val, by omega⟩ : Fin 72) d)

/-- … after its gate, and zero before the sequence starts. -/
def xb (l : Fin 64) (d : Fin 3072) : EReal := Scalar.select (msk ci l.val) (silu (cv U x2 x3 l d)) 0

/-- The state after the chunk, at the entry of group `g`, row `q`, column `n`; `h` is the entry's head, `k` and `b` the columns of its two factors. -/
def stAt (g : Fin 4) (q : Fin 512) (n : Fin 128) (h : Fin 32) (h' : Fin 128) (k b : Fin 3072) : EReal :=
  S (ix3 g q n) * Ideal.exp (x6 (ix4 0 0 h (63 : Fin 64)))
    + ∑ x : Fin 64, xb ci U x2 x3 x k * x4 (ix3 0 x h') * Ideal.exp (x6 (ix4 0 0 h (63 : Fin 64)) - x5 (ix3 0 x h')) * xb ci U x2 x3 x b

/-- The chunk's output at row `r` and column `k`. -/
def yAt (r : Fin 64) (g : Fin 4) (q : Fin 512) (h : Fin 32) (h' : Fin 128) (k : Fin 3072) (k' : Fin 2048) (bc cc : Fin 128 → Fin 3072) : EReal :=
  ∑ x : Fin 64, Scalar.select (IntOp.cmpi .sge (BitVec.ofNat 32 r.val) (BitVec.ofNat 32 x.val))
      ((∑ n : Fin 128, xb ci U x2 x3 r (cc n) * xb ci U x2 x3 x (bc n)) * Ideal.exp (x5 (ix3 0 r h') - x6 (ix4 0 0 h x))) 0
        * (xb ci U x2 x3 x k * x4 (ix3 0 x h'))
    + (∑ n : Fin 128, xb ci U x2 x3 r (cc n) * S (ix3 g q n)) * Ideal.exp (x5 (ix3 0 r h')) + x7 (ix2 0 k') * xb ci U x2 x3 r k

/-- The state after the chunk. -/
def stNew : Vec Ideal S4x512x128 .f32 := fun y =>
  stAt ci U x2 x3 x4 x5 x6 S (y 0) (y 1) (y 2)
    (⟨8 * (y 0).val + (y 1).val / 64, by have := (y 0).isLt; have := (y 1).isLt; simp at *; omega⟩ : Fin 32)
    (⟨8 * (y 0).val + (y 1).val / 64, by have := (y 0).isLt; have := (y 1).isLt; simp at *; omega⟩ : Fin 128)
    (⟨512 * (y 0).val + (y 1).val, by have := (y 0).isLt; have := (y 1).isLt; simp at *; omega⟩ : Fin 3072)
    (⟨2048 + 128 * (y 0).val + (y 2).val, by have := (y 0).isLt; have := (y 2).isLt; simp at *; omega⟩ : Fin 3072)

/-- The chunk's output. -/
def yNew : Vec Ideal S1x64x2048 .f32 := fun y =>
  yAt ci U x2 x3 x4 x5 x6 x7 S (y 1)
    (⟨(y 2).val / 512, by have := (y 2).isLt; simp at *; omega⟩ : Fin 4) (⟨(y 2).val % 512, by omega⟩ : Fin 512)
    (⟨(y 2).val / 64, by have := (y 2).isLt; simp at *; omega⟩ : Fin 32) (⟨(y 2).val / 64, by have := (y 2).isLt; simp at *; omega⟩ : Fin 128)
    (⟨(y 2).val, by have := (y 2).isLt; simp at *; omega⟩ : Fin 3072) (y 2)
    (fun n => ⟨2048 + 128 * ((y 2).val / 512) + n.val, by have := (y 2).isLt; simp at *; omega⟩)
    (fun n => ⟨2560 + 128 * ((y 2).val / 512) + n.val, by have := (y 2).isLt; simp at *; omega⟩)

/-- The state's entry with each row's mask outside the products, as the kernel's arithmetic leaves it. -/
def stM (g : Fin 4) (q : Fin 512) (n : Fin 128) (h : Fin 32) (h' : Fin 128) (k b : Fin 3072) : EReal :=
  S (ix3 g q n) * Ideal.exp (x6 (ix4 0 0 h (63 : Fin 64)))
    + ∑ x : Fin 64, Scalar.select (msk ci x.val) (Scalar.select (msk ci x.val)
        (silu (cv U x2 x3 x k) * x4 (ix3 0 x h') * Ideal.exp (x6 (ix4 0 0 h (63 : Fin 64)) - x5 (ix3 0 x h')) * silu (cv U x2 x3 x b)) 0) 0

/-- The output's entry likewise. -/
def yM (r : Fin 64) (g : Fin 4) (q : Fin 512) (h : Fin 32) (h' : Fin 128) (k : Fin 3072) (k' : Fin 2048) (bc cc : Fin 128 → Fin 3072) : EReal :=
  ∑ x : Fin 64, Scalar.select (msk ci x.val) (Scalar.select (IntOp.cmpi .sge (BitVec.ofNat 32 r.val) (BitVec.ofNat 32 x.val))
      ((∑ n : Fin 128, Scalar.select (msk ci x.val) (Scalar.select (msk ci r.val) (silu (cv U x2 x3 r (cc n)) * silu (cv U x2 x3 x (bc n))) 0) 0)
        * Ideal.exp (x5 (ix3 0 r h') - x6 (ix4 0 0 h x)) * (silu (cv U x2 x3 x k) * x4 (ix3 0 x h'))) 0) 0
    + (∑ n : Fin 128, Scalar.select (msk ci r.val) (silu (cv U x2 x3 r (cc n)) * S (ix3 g q n)) 0) * Ideal.exp (x5 (ix3 0 r h'))
    + Scalar.select (msk ci r.val) (x7 (ix2 0 k') * silu (cv U x2 x3 r k)) 0

/-- … and with the two masks of the first sum in the other order. -/
def yM' (r : Fin 64) (g : Fin 4) (q : Fin 512) (h : Fin 32) (h' : Fin 128) (k : Fin 3072) (k' : Fin 2048) (bc cc : Fin 128 → Fin 3072) : EReal :=
  ∑ x : Fin 64, Scalar.select (IntOp.cmpi .sge (BitVec.ofNat 32 r.val) (BitVec.ofNat 32 x.val)) (Scalar.select (msk ci x.val)
      ((∑ n : Fin 128, Scalar.select (msk ci x.val) (Scalar.select (msk ci r.val) (silu (cv U x2 x3 r (cc n)) * silu (cv U x2 x3 x (bc n))) 0) 0)
        * Ideal.exp (x5 (ix3 0 r h') - x6 (ix4 0 0 h x)) * (silu (cv U x2 x3 x k) * x4 (ix3 0 x h'))) 0) 0
    + (∑ n : Fin 128, Scalar.select (msk ci r.val) (silu (cv U x2 x3 r (cc n)) * S (ix3 g q n)) 0) * Ideal.exp (x5 (ix3 0 r h'))
    + Scalar.select (msk ci r.val) (x7 (ix2 0 k') * silu (cv U x2 x3 r k)) 0

theorem select_eq (m : BitVec 1) (a b : EReal) : Scalar.select m a b = if m = 1#1 then a else b := by
  unfold Scalar.select
  rcases (by decide : ∀ m : BitVec 1, m = 0#1 ∨ m = 1#1) m with rfl | rfl <;> simp

theorem yM_swap (r : Fin 64) (g : Fin 4) (q : Fin 512) (h : Fin 32) (h' : Fin 128) (k : Fin 3072) (k' : Fin 2048) (bc cc : Fin 128 → Fin 3072) :
    yM ci U x2 x3 x4 x5 x6 x7 S r g q h h' k k' bc cc = yM' ci U x2 x3 x4 x5 x6 x7 S r g q h h' k k' bc cc := by
  unfold yM yM'
  refine congrArg (· + _) (congrArg (· + _) (Finset.sum_congr rfl fun x _ => ?_))
  rw [select_eq, select_eq, select_eq, select_eq]
  split_ifs <;> rfl

theorem stM_eq (g : Fin 4) (q : Fin 512) (n : Fin 128) (h : Fin 32) (h' : Fin 128) (k b : Fin 3072) :
    stM ci U x2 x3 x4 x5 x6 S g q n h h' k b = stAt ci U x2 x3 x4 x5 x6 S g q n h h' k b := by
  unfold stM stAt xb
  refine congrArg (_ + ·) (Finset.sum_congr rfl fun x _ => ?_)
  simp only [select_eq]
  by_cases hx : msk ci x.val = 1#1 <;> simp [hx]

theorem yM_eq (r : Fin 64) (g : Fin 4) (q : Fin 512) (h : Fin 32) (h' : Fin 128) (k : Fin 3072) (k' : Fin 2048) (bc cc : Fin 128 → Fin 3072) :
    yM ci U x2 x3 x4 x5 x6 x7 S r g q h h' k k' bc cc = yAt ci U x2 x3 x4 x5 x6 x7 S r g q h h' k k' bc cc := by
  unfold yM yAt xb
  refine congrArg₂ (· + ·) (congrArg₂ (· + ·) (Finset.sum_congr rfl fun x _ => ?_) (congrArg (· * _) (Finset.sum_congr rfl fun n _ => ?_))) ?_
  · simp only [select_eq]
    by_cases hx : msk ci x.val = 1#1 <;> by_cases hr : msk ci r.val = 1#1 <;> simp [hx, hr]
    all_goals split_ifs <;> simp [mul_assoc]
  · simp only [select_eq]
    by_cases hr : msk ci r.val = 1#1 <;> simp [hr]
  · simp only [select_eq]
    by_cases hr : msk ci r.val = 1#1 <;> simp [hr]

/-- The state after the chunk in the 64 rows from row `o` of group `g`. -/
theorem stNew_piece (g o : ℕ) (inb : ∀ a, (![g, o, 0] : Fin 3 → ℕ) a + (![1, 64, 128] : Fin 3 → ℕ) a ≤ S4x512x128.size a) (ho : o % 64 = 0)
    (r : Fin 64) (j : Fin 128) (hg : g < 4) (ho' : o + 64 ≤ 512) :
    stM ci U x2 x3 x4 x5 x6 S ⟨g, hg⟩ ⟨o + r.val, by omega⟩ j ⟨8 * g + o / 64, by omega⟩ ⟨8 * g + o / 64, by omega⟩
        ⟨512 * g + (o + r.val), by omega⟩ ⟨2048 + 128 * g + j.val, by omega⟩
      = stNew ci U x2 x3 x4 x5 x6 S ((Rect.unit (s := S4x512x128) ![g, o, 0] ![1, 64, 128] inb).emb (ix3 (0 : Fin 1) r j)) := by
  have e : (Rect.unit (s := S4x512x128) ![g, o, 0] ![1, 64, 128] inb).emb (ix3 (0 : Fin 1) r j)
      = ix3 (⟨g, hg⟩ : Fin 4) (⟨o + r.val, by omega⟩ : Fin 512) j := funext fun a => Fin.ext (match a with
    | ⟨0, _⟩ => by show g + 1 * 0 = g; omega
    | ⟨1, _⟩ => by show o + 1 * r.val = o + r.val; omega
    | ⟨2, _⟩ => by show 0 + 1 * j.val = j.val; omega)
  rw [stM_eq, e]
  unfold stNew
  have hh : 8 * g + o / 64 = 8 * g + (o + r.val) / 64 := by omega
  simp only [hh]
  rfl

/-- The chunk's output in the 64 columns from column `o` of group `g`. -/
theorem yNew_piece (w o : ℕ) (inb : ∀ a, (![0, 0, w] : Fin 3 → ℕ) a + (![1, 64, 512] : Fin 3 → ℕ) a ≤ S1x64x2048.size a) (ho : o % 64 = 0)
    (r p : Fin 64) (hw : w % 512 = 0) (hw' : w + 512 ≤ 2048) (ho' : o + 64 ≤ 512) :
    yM ci U x2 x3 x4 x5 x6 x7 S r ⟨w / 512, by omega⟩ ⟨o + p.val, by omega⟩ ⟨w / 64 + o / 64, by omega⟩ ⟨w / 64 + o / 64, by omega⟩
        ⟨w + (o + p.val), by omega⟩ ⟨w + (o + p.val), by omega⟩
        (fun n => ⟨2048 + 128 * (w / 512) + n.val, by omega⟩) (fun n => ⟨2560 + 128 * (w / 512) + n.val, by omega⟩)
      = yNew ci U x2 x3 x4 x5 x6 x7 S ((Rect.unit (s := S1x64x2048) ![0, 0, w] ![1, 64, 512] inb).emb
          (ix3 (0 : Fin 1) r (⟨o + p.val, by omega⟩ : Fin 512))) := by
  have e : (Rect.unit (s := S1x64x2048) ![0, 0, w] ![1, 64, 512] inb).emb (ix3 (0 : Fin 1) r (⟨o + p.val, by omega⟩ : Fin 512))
      = ix3 (0 : Fin 1) r (⟨w + (o + p.val), by omega⟩ : Fin 2048) := funext fun a => Fin.ext (match a with
    | ⟨0, _⟩ => rfl
    | ⟨1, _⟩ => by show 0 + 1 * r.val = r.val; omega
    | ⟨2, _⟩ => by show w + 1 * (o + p.val) = w + (o + p.val); omega)
  rw [yM_eq, e]
  unfold yNew
  have h1 : w / 64 + o / 64 = (w + (o + p.val)) / 64 := by omega
  have h2 : w / 512 = (w + (o + p.val)) / 512 := by omega
  have h3 : o + p.val = (w + (o + p.val)) % 512 := by omega
  congr 1
  · exact Fin.ext h2
  · exact Fin.ext h3
  · exact Fin.ext h1
  · exact Fin.ext h1
  · exact funext fun n => Fin.ext (by show 2048 + 128 * (w / 512) + n.val = _; rw [h2]; rfl)
  · exact funext fun n => Fin.ext (by show 2560 + 128 * (w / 512) + n.val = _; rw [h2]; rfl)

/-- A column of a group lies in one of its eight heads. -/
theorem head_of_col (j : Fin 512) : (∃ p : Fin 64, j = ⟨0 + p.val, by omega⟩) ∨ (∃ p : Fin 64, j = ⟨64 + p.val, by omega⟩)
    ∨ (∃ p : Fin 64, j = ⟨128 + p.val, by omega⟩) ∨ (∃ p : Fin 64, j = ⟨192 + p.val, by omega⟩) ∨ (∃ p : Fin 64, j = ⟨256 + p.val, by omega⟩)
    ∨ (∃ p : Fin 64, j = ⟨320 + p.val, by omega⟩) ∨ (∃ p : Fin 64, j = ⟨384 + p.val, by omega⟩) ∨ (∃ p : Fin 64, j = ⟨448 + p.val, by omega⟩) := by
  have hd : j.val / 64 = 0 ∨ j.val / 64 = 1 ∨ j.val / 64 = 2 ∨ j.val / 64 = 3 ∨ j.val / 64 = 4 ∨ j.val / 64 = 5 ∨ j.val / 64 = 6 ∨ j.val / 64 = 7 := by omega
  have key : ∀ o, j.val / 64 * 64 = o → ∃ p : Fin 64, j.val = o + p.val := fun o h => ⟨⟨j.val % 64, by omega⟩, by show j.val = o + j.val % 64; omega⟩
  rcases hd with h | h | h | h | h | h | h | h
  · obtain ⟨p, hp⟩ := key 0 (by omega); exact Or.inl ⟨p, Fin.ext hp⟩
  · obtain ⟨p, hp⟩ := key 64 (by omega); exact Or.inr (Or.inl ⟨p, Fin.ext hp⟩)
  · obtain ⟨p, hp⟩ := key 128 (by omega); exact Or.inr (Or.inr (Or.inl ⟨p, Fin.ext hp⟩))
  · obtain ⟨p, hp⟩ := key 192 (by omega); exact Or.inr (Or.inr (Or.inr (Or.inl ⟨p, Fin.ext hp⟩)))
  · obtain ⟨p, hp⟩ := key 256 (by omega); exact Or.inr (Or.inr (Or.inr (Or.inr (Or.inl ⟨p, Fin.ext hp⟩))))
  · obtain ⟨p, hp⟩ := key 320 (by omega); exact Or.inr (Or.inr (Or.inr (Or.inr (Or.inr (Or.inl ⟨p, Fin.ext hp⟩)))))
  · obtain ⟨p, hp⟩ := key 384 (by omega); exact Or.inr (Or.inr (Or.inr (Or.inr (Or.inr (Or.inr (Or.inl ⟨p, Fin.ext hp⟩))))))
  · obtain ⟨p, hp⟩ := key 448 (by omega); exact Or.inr (Or.inr (Or.inr (Or.inr (Or.inr (Or.inr (Or.inr ⟨p, Fin.ext hp⟩))))))
end

end Cert.SsdIdeal.RefValue
-- ==== Proof.SsdSpec.lean ====
/- The scan over a sequence's chunks as functions of the call's arguments: what every chunk reads, the states between the chunks, and every chunk's output. -/
module

public import proofs.«01_k».proof.Proof.SsdMath

@[expose] public section

set_option maxRecDepth 16384

noncomputable section

open Idealize.ShloMosaic Idealize.ShloMosaic.TcCoe Idealize.SL.Sem

namespace Cert.SsdIdeal.RefValue

open Cert.SsdIdeal Cert.SsdIdeal.Gen

/-- Row `q` of a sequence's rows: zero past the end. -/
def row {n : ℕ} (x : Vec Ideal ⟨3, ![4, 2112, n]⟩ .f32) (b : Fin 4) (q : ℕ) (d : Fin n) : EReal :=
  if h : q < 2112 then x (ix3 b (⟨q, h⟩ : Fin 2112) d) else 0

theorem row_eq {n : ℕ} (x : Vec Ideal ⟨3, ![4, 2112, n]⟩ .f32) (b : Fin 4) (q : Fin 2112) (d : Fin n) : row x b q.val d = x (ix3 b q d) :=
  dif_pos q.isLt

variable (p : Vec Ideal S4x2112x9216 .f32) (w : Vec Ideal S4x3072 .f32) (bi : Vec Ideal S3072 .f32) (dt a : Vec Ideal S4x2112x128 .f32) (D : Vec Ideal S32 .f32)

/-- The padded rows of chunk `j`: its 64 rows after the eight before them. -/
def rowsAt (b : Fin 4) (j : ℕ) : Vec Ideal S72x3072 .f32 := fun y =>
  if 8 ≤ 64 * j + (y 0).val then row p b (64 * j + (y 0).val - 8) (⟨6144 + (y 1).val, by have := (y 1).isLt; simp at this; omega⟩ : Fin 9216) else 0

/-- The convolution's bias, as a row. -/
def w3 : Vec Ideal S1x3072 .f32 := fun y => bi (ix1 (y 1))

/-- The rows of chunk `j`. -/
def w4 (b : Fin 4) (j : ℕ) : Vec Ideal S1x64x128 .f32 := fun y => row dt b (64 * j + (y 1).val) (y 2)

/-- … and by head. -/
def w6 (b : Fin 4) (j : ℕ) : Vec Ideal S1x1x32x64 .f32 := fun y =>
  row a b (64 * j + (y 3).val) (⟨(y 2).val, by have := (y 2).isLt; simp at this; omega⟩ : Fin 128)

/-- The skip's weights, repeated along a head. -/
def w7 : Vec Ideal S1x2048 .f32 := fun y => D (ix1 (⟨(y 1).val / 64, by have := (y 1).isLt; simp at this; omega⟩ : Fin 32))

/-- The convolution's gated output at row `l` of chunk `j`. -/
def xc (b : Fin 4) (j : ℕ) (l : Fin 64) (d : Fin 3072) : EReal := xb j (rowsAt p b j) w (w3 bi) l d

/-- The convolution with its bias added last. -/
theorem cv_last (U : Vec Ideal S72x3072 .f32) (x2 : Vec Ideal S4x3072 .f32) (x3 : Vec Ideal S1x3072 .f32) (l : Fin 64) (d : Fin 3072) :
    cv U x2 x3 l d = x2 (ix2 0 d) * U (ix2 (⟨5 + l.val, by omega⟩ : Fin 72) d) + x2 (ix2 1 d) * U (ix2 (⟨6 + l.val, by omega⟩ : Fin 72) d)
      + x2 (ix2 2 d) * U (ix2 (⟨7 + l.val, by omega⟩ : Fin 72) d) + x2 (ix2 3 d) * U (ix2 (⟨8 + l.val, by omega⟩ : Fin 72) d) + x3 (ix2 0 d) := by
  have e : ∀ c x y z v : EReal, c + x + y + z + v = x + y + z + v + c := by intro c x y z v; abel
  exact e _ _ _ _ _

/-- The state before chunk `j`. -/
def stateAt (b : Fin 4) : ℕ → Vec Ideal S4x512x128 .f32
  | 0 => fun _ => 0
  | j + 1 => stNew j (rowsAt p b j) w (w3 bi) (w4 dt b j) (w4 a b j) (w6 a b j) (stateAt b j)

/-- The output of chunk `j`. -/
def outAt (b : Fin 4) (j : ℕ) : Vec Ideal S1x64x2048 .f32 :=
  yNew j (rowsAt p b j) w (w3 bi) (w4 dt b j) (w4 a b j) (w6 a b j) (w7 D) (stateAt p w bi dt a b j)

theorem stateAt_succ (b : Fin 4) (j : ℕ) (g : Fin 4) (r : Fin 8) (q : Fin 64) (n : Fin 128) :
    stateAt p w bi dt a b (j + 1) (ix3 g (⟨r.val * 64 + q.val, by omega⟩ : Fin 512) n)
      = stateAt p w bi dt a b j (ix3 g (⟨r.val * 64 + q.val, by omega⟩ : Fin 512) n) * Ideal.exp (row a b (64 * j + 63) ⟨g.val * 8 + r.val, by omega⟩)
        + ∑ x : Fin 64, xc p w bi b j x ⟨(g.val * 8 + r.val) * 64 + q.val, by omega⟩ * row dt b (64 * j + x.val) ⟨g.val * 8 + r.val, by omega⟩
            * Ideal.exp (row a b (64 * j + 63) ⟨g.val * 8 + r.val, by omega⟩ - row a b (64 * j + x.val) ⟨g.val * 8 + r.val, by omega⟩)
            * xc p w bi b j x ⟨2048 + (g.val * 128 + n.val), by omega⟩ := by
  have hh : 8 * g.val + (r.val * 64 + q.val) / 64 = g.val * 8 + r.val := by omega
  have hk : 512 * g.val + (r.val * 64 + q.val) = (g.val * 8 + r.val) * 64 + q.val := by omega
  have hb : 2048 + 128 * g.val + n.val = 2048 + (g.val * 128 + n.val) := by omega
  have e : stateAt p w bi dt a b (j + 1) (ix3 g (⟨r.val * 64 + q.val, by omega⟩ : Fin 512) n)
      = stAt j (rowsAt p b j) w (w3 bi) (w4 dt b j) (w4 a b j) (w6 a b j) (stateAt p w bi dt a b j) g ⟨r.val * 64 + q.val, by omega⟩ n
          ⟨8 * g.val + (r.val * 64 + q.val) / 64, by omega⟩ ⟨8 * g.val + (r.val * 64 + q.val) / 64, by omega⟩
          ⟨512 * g.val + (r.val * 64 + q.val), by omega⟩ ⟨2048 + 128 * g.val + n.val, by omega⟩ := rfl
  rw [e]
  simp only [hh, hk, hb]
  rfl

theorem outAt_apply (b : Fin 4) (j : ℕ) (l : Fin 64) (g : Fin 4) (r : Fin 8) (q : Fin 64) :
    outAt p w bi dt a D b j (ix3 (0 : Fin 1) l (⟨(g.val * 8 + r.val) * 64 + q.val, by omega⟩ : Fin 2048))
      = ∑ x : Fin 64, Scalar.select (IntOp.cmpi .sge (BitVec.ofNat 32 l.val) (BitVec.ofNat 32 x.val))
            ((∑ n : Fin 128, xc p w bi b j l ⟨2560 + (g.val * 128 + n.val), by omega⟩ * xc p w bi b j x ⟨2048 + (g.val * 128 + n.val), by omega⟩)
              * Ideal.exp (row a b (64 * j + l.val) ⟨g.val * 8 + r.val, by omega⟩ - row a b (64 * j + x.val) ⟨g.val * 8 + r.val, by omega⟩)) 0
            * (xc p w bi b j x ⟨(g.val * 8 + r.val) * 64 + q.val, by omega⟩ * row dt b (64 * j + x.val) ⟨g.val * 8 + r.val, by omega⟩)
        + (∑ n : Fin 128, xc p w bi b j l ⟨2560 + (g.val * 128 + n.val), by omega⟩ * stateAt p w bi dt a b j (ix3 g (⟨r.val * 64 + q.val, by omega⟩ : Fin 512) n))
            * Ideal.exp (row a b (64 * j + l.val) ⟨g.val * 8 + r.val, by omega⟩)
        + D (ix1 ⟨g.val * 8 + r.val, by omega⟩) * xc p w bi b j l ⟨(g.val * 8 + r.val) * 64 + q.val, by omega⟩ := by
  have hh : ((g.val * 8 + r.val) * 64 + q.val) / 64 = g.val * 8 + r.val := by omega
  have hg : ((g.val * 8 + r.val) * 64 + q.val) / 512 = g.val := by omega
  have hq : ((g.val * 8 + r.val) * 64 + q.val) % 512 = r.val * 64 + q.val := by omega
  have hb : ∀ n : ℕ, 2048 + 128 * g.val + n = 2048 + (g.val * 128 + n) := by intro n; omega
  have hc : ∀ n : ℕ, 2560 + 128 * g.val + n = 2560 + (g.val * 128 + n) := by intro n; omega
  have e : outAt p w bi dt a D b j (ix3 (0 : Fin 1) l (⟨(g.val * 8 + r.val) * 64 + q.val, by omega⟩ : Fin 2048))
      = yAt j (rowsAt p b j) w (w3 bi) (w4 dt b j) (w4 a b j) (w6 a b j) (w7 D) (stateAt p w bi dt a b j) l
          ⟨((g.val * 8 + r.val) * 64 + q.val) / 512, by omega⟩ ⟨((g.val * 8 + r.val) * 64 + q.val) % 512, by omega⟩
          ⟨((g.val * 8 + r.val) * 64 + q.val) / 64, by omega⟩ ⟨((g.val * 8 + r.val) * 64 + q.val) / 64, by omega⟩
          ⟨(g.val * 8 + r.val) * 64 + q.val, by omega⟩ ⟨(g.val * 8 + r.val) * 64 + q.val, by omega⟩
          (fun n => ⟨2048 + 128 * (((g.val * 8 + r.val) * 64 + q.val) / 512) + n.val, by omega⟩)
          (fun n => ⟨2560 + 128 * (((g.val * 8 + r.val) * 64 + q.val) / 512) + n.val, by omega⟩) := rfl
  have ed : w7 D (ix2 (0 : Fin 1) (⟨(g.val * 8 + r.val) * 64 + q.val, by omega⟩ : Fin 2048)) = D (ix1 (⟨g.val * 8 + r.val, by omega⟩ : Fin 32)) := by
    unfold w7
    exact congrArg (fun k => D (ix1 k)) (Fin.ext hh)
  rw [e]
  simp only [hh, hg, hq, hb, hc]
  unfold yAt
  rw [ed]
  rfl

end Cert.SsdIdeal.RefValue

end
-- ==== Proof.SsdBlocks.lean ====
/- What every point of the scan's grid reads: its windows' blocks, as the scan's functions of the call's arguments. -/
module

public import proofs.«01_k».proof.Proof.SsdSpec

@[expose] public section

set_option maxRecDepth 16384

noncomputable section

open Idealize.ShloMosaic Idealize.ShloMosaic.TcCoe Idealize.SL.Sem
open Idealize.ShloMosaic.Pipeline (Dat)

namespace Cert.SsdIdeal.RefValue

open Cert.SsdIdeal Cert.SsdIdeal.Gen Cert.SsdIdeal.Value

variable (m : (ℓ : Loc nD τ sig) → Buf (Elt Ideal) ℓ) (c : Dev nD)

/-- The arguments. -/
abbrev argP : Vec Ideal S4x2112x9216 .f32 := m ((c : Thread nD τ).loc main_arg0)
abbrev argW : Vec Ideal S4x3072 .f32 := m ((c : Thread nD τ).loc main_arg1)
abbrev argB : Vec Ideal S3072 .f32 := m ((c : Thread nD τ).loc main_arg2)
abbrev argT : Vec Ideal S4x2112x128 .f32 := m ((c : Thread nD τ).loc main_arg3)
abbrev argA : Vec Ideal S4x2112x128 .f32 := m ((c : Thread nD τ).loc main_arg4)
abbrev argD : Vec Ideal S32 .f32 := m ((c : Thread nD τ).loc main_arg5)

theorem idxR : ∀ t : Fin grid0.N, win0_0.index t 0 = t.val / 33 ∧ win0_0.index t 1 = t.val % 33 ∧ win0_0.index t 2 = 3
    ∧ win0_1.index t 0 = t.val / 33 ∧ win0_1.index t 1 = t.val % 33 ∧ win0_1.index t 2 = 8
    ∧ win0_2.index t 0 = 0 ∧ win0_2.index t 1 = 0 ∧ win0_3.index t 0 = 0 ∧ win0_3.index t 1 = 0 := by decide +kernel

theorem idxS : ∀ t : Fin grid0.N, win0_4.index t 0 = t.val / 33 ∧ win0_4.index t 1 = t.val % 33 ∧ win0_4.index t 2 = 0
    ∧ win0_5.index t 0 = t.val / 33 ∧ win0_5.index t 1 = t.val % 33 ∧ win0_5.index t 2 = 0
    ∧ win0_6.index t 0 = t.val / 33 ∧ win0_6.index t 1 = t.val % 33 ∧ win0_6.index t 2 = 0 ∧ win0_6.index t 3 = 0
    ∧ win0_7.index t 0 = 0 ∧ win0_7.index t 1 = 0 := by decide +kernel

theorem idxO : ∀ t : Fin grid0.N, win0_8.index t 0 = t.val / 33 ∧ win0_8.index t 1 = t.val % 33 - 1 ∧ win0_8.index t 2 = 0 := by decide +kernel

theorem coord1 : ∀ t : Fin grid0.N, (grid0.coords t 1).val = t.val % 33 := by decide +kernel

/-- The sequence that point `t` works on. -/
def seqOf (t : Fin cfg0.N) : Fin 4 := ⟨t.val / 33, by have : t.val < 132 := t.isLt; omega⟩

theorem blk0 (t : Fin cfg0.N) (r : Fin 64) (k : Fin 2048) :
    (X0_0 m c t : Vec Ideal S1x64x2048 .f32) (ix3 (0 : Fin 1) r k) = row (argP m c) (seqOf t) (64 * (t.val % 33) + r.val) ⟨6144 + k.val, by omega⟩ := by
  obtain ⟨e0, e1, e2, -⟩ := idxR t
  have ht : t.val < 132 := t.isLt
  unfold X0_0 Pipeline.Window.fill
  rw [dif_pos (moved0_0 t (ix3 (0 : Fin 1) r k))]
  unfold iblk
  rw [View.read_apply]
  show V m c main_arg0 _ = _
  rw [V_main_arg0]
  refine Eq.trans (congrArg (argP m c) (?_ : _ = ix3 (seqOf t) (⟨64 * (t.val % 33) + r.val, by omega⟩ : Fin 2112) (⟨6144 + k.val, by omega⟩ : Fin 9216))) (row_eq _ _ _ _).symm
  funext a
  apply Fin.ext
  match a with
  | ⟨0, _⟩ => show win0_0.index t 0 * 1 + 1 * 0 = t.val / 33; rw [e0]; omega
  | ⟨1, _⟩ => show win0_0.index t 1 * 64 + 1 * r.val = 64 * (t.val % 33) + r.val; rw [e1]; omega
  | ⟨2, _⟩ => show win0_0.index t 2 * 2048 + 1 * k.val = 6144 + k.val; rw [e2]; omega

theorem blk1 (t : Fin cfg0.N) (r : Fin 64) (k : Fin 1024) :
    (iblk m c 1 t : Vec Ideal S1x64x1024 .f32) (ix3 (0 : Fin 1) r k) = row (argP m c) (seqOf t) (64 * (t.val % 33) + r.val) ⟨8192 + k.val, by omega⟩ := by
  obtain ⟨-, -, -, e0, e1, e2, -⟩ := idxR t
  have ht : t.val < 132 := t.isLt
  unfold iblk
  rw [View.read_apply]
  show V m c main_arg0 _ = _
  rw [V_main_arg0]
  refine Eq.trans (congrArg (argP m c) (?_ : _ = ix3 (seqOf t) (⟨64 * (t.val % 33) + r.val, by omega⟩ : Fin 2112) (⟨8192 + k.val, by omega⟩ : Fin 9216))) (row_eq _ _ _ _).symm
  funext a
  apply Fin.ext
  match a with
  | ⟨0, _⟩ => show win0_1.index t 0 * 1 + 1 * 0 = t.val / 33; rw [e0]; omega
  | ⟨1, _⟩ => show win0_1.index t 1 * 64 + 1 * r.val = 64 * (t.val % 33) + r.val; rw [e1]; omega
  | ⟨2, _⟩ => show win0_1.index t 2 * 1024 + 1 * k.val = 8192 + k.val; rw [e2]; omega

theorem blk2 (t : Fin cfg0.N) : (iblk m c 2 t : Vec Ideal S4x3072 .f32) = argW m c := by
  obtain ⟨-, -, -, -, -, -, e0, e1, -⟩ := idxR t
  funext y
  unfold iblk
  rw [View.read_apply]
  show V m c main_arg1 _ = _
  rw [V_main_arg1]
  refine congrArg (argW m c) (funext fun a => Fin.ext ?_)
  match a with
  | ⟨0, _⟩ => show win0_2.index t 0 * 4 + 1 * (y 0).val = (y 0).val; rw [e0]; omega
  | ⟨1, _⟩ => show win0_2.index t 1 * 3072 + 1 * (y 1).val = (y 1).val; rw [e1]; omega

theorem V_b : (V m c main_v6 : Vec Ideal S1x3072 .f32) = w3 (argB m c) := by
  have e : (V m c main_v6 : Vec Ideal S1x3072 .f32) = shapeCast S1x3072 (argB m c) shapeCasts_S3072_S1x3072 := by
    unfold V; after_results; rfl
  rw [e]
  funext y
  obtain ⟨k, rfl⟩ : ∃ k : Fin 3072, y = ix2 (0 : Fin 1) k :=
    ⟨y 1, funext fun a => match a with | ⟨0, _⟩ => Subsingleton.elim (α := Fin 1) _ _ | ⟨1, _⟩ => rfl⟩
  pointwise
  rfl

theorem blk3 (t : Fin cfg0.N) : (iblk m c 3 t : Vec Ideal S1x3072 .f32) = w3 (argB m c) := by
  obtain ⟨-, -, -, -, -, -, -, -, e0, e1⟩ := idxR t
  rw [← V_b]
  funext y
  unfold iblk
  rw [View.read_apply]
  show V m c main_v6 _ = V m c main_v6 _
  refine congrArg (V m c main_v6) (funext fun a => Fin.ext ?_)
  match a with
  | ⟨0, _⟩ => show win0_3.index t 0 * 1 + 1 * (y 0).val = (y 0).val; rw [e0]; omega
  | ⟨1, _⟩ => show win0_3.index t 1 * 3072 + 1 * (y 1).val = (y 1).val; rw [e1]; omega

theorem blk4 (t : Fin cfg0.N) : (iblk m c 4 t : Vec Ideal S1x64x128 .f32) = w4 (argT m c) (seqOf t) (t.val % 33) := by
  obtain ⟨e0, e1, e2, -⟩ := idxS t
  have ht : t.val < 132 := t.isLt
  funext y
  obtain ⟨r, k, rfl⟩ : ∃ (r : Fin 64) (k : Fin 128), y = ix3 (0 : Fin 1) r k :=
    ⟨y 1, y 2, funext fun a => match a with | ⟨0, _⟩ => Subsingleton.elim (α := Fin 1) _ _ | ⟨1, _⟩ => rfl | ⟨2, _⟩ => rfl⟩
  unfold iblk
  rw [View.read_apply]
  show V m c main_arg3 _ = row (argT m c) (seqOf t) (64 * (t.val % 33) + r.val) k
  rw [V_main_arg3]
  refine Eq.trans (congrArg (argT m c) (?_ : _ = ix3 (seqOf t) (⟨64 * (t.val % 33) + r.val, by omega⟩ : Fin 2112) k)) (row_eq _ _ _ _).symm
  funext a
  apply Fin.ext
  match a with
  | ⟨0, _⟩ => show win0_4.index t 0 * 1 + 1 * 0 = t.val / 33; rw [e0]; omega
  | ⟨1, _⟩ => show win0_4.index t 1 * 64 + 1 * r.val = 64 * (t.val % 33) + r.val; rw [e1]; omega
  | ⟨2, _⟩ => show win0_4.index t 2 * 128 + 1 * k.val = k.val; rw [e2]; omega

theorem blk5 (t : Fin cfg0.N) : (iblk m c 5 t : Vec Ideal S1x64x128 .f32) = w4 (argA m c) (seqOf t) (t.val % 33) := by
  obtain ⟨-, -, -, e0, e1, e2, -⟩ := idxS t
  have ht : t.val < 132 := t.isLt
  funext y
  obtain ⟨r, k, rfl⟩ : ∃ (r : Fin 64) (k : Fin 128), y = ix3 (0 : Fin 1) r k :=
    ⟨y 1, y 2, funext fun a => match a with | ⟨0, _⟩ => Subsingleton.elim (α := Fin 1) _ _ | ⟨1, _⟩ => rfl | ⟨2, _⟩ => rfl⟩
  unfold iblk
  rw [View.read_apply]
  show V m c main_arg4 _ = row (argA m c) (seqOf t) (64 * (t.val % 33) + r.val) k
  rw [V_main_arg4]
  refine Eq.trans (congrArg (argA m c) (?_ : _ = ix3 (seqOf t) (⟨64 * (t.val % 33) + r.val, by omega⟩ : Fin 2112) k)) (row_eq _ _ _ _).symm
  funext a
  apply Fin.ext
  match a with
  | ⟨0, _⟩ => show win0_5.index t 0 * 1 + 1 * 0 = t.val / 33; rw [e0]; omega
  | ⟨1, _⟩ => show win0_5.index t 1 * 64 + 1 * r.val = 64 * (t.val % 33) + r.val; rw [e1]; omega
  | ⟨2, _⟩ => show win0_5.index t 2 * 128 + 1 * k.val = k.val; rw [e2]; omega

theorem V_a (b : Fin 4) (j : Fin 33) (h : Fin 32) (x : Fin 64) :
    (V m c main_v2 : Vec Ideal S4x33x32x64 .f32) (ix4 b j h x) = row (argA m c) b (64 * j.val + x.val) ⟨h.val, by omega⟩ := by
  have e : (V m c main_v2 : Vec Ideal S4x33x32x64 .f32) = transpose S4x33x32x64 [0, 1, 3, 2] (extractStridedSlice S4x33x64x32 ![0, 0, 0, 0]
      (shapeCast S4x33x64x128 (argA m c) shapeCasts_S4x2112x128_S4x33x64x128) slices_S4x33x64x128_S4x33x64x32_0_0_0_0) transposes_S4x33x64x32_S4x33x32x64_0_1_3_2 := by
    unfold V; after_results; rfl
  rw [e]
  pointwise
  refine Eq.trans (row_eq _ _ _ _).symm (congrArg (row (argA m c) b · _) ?_)
  show j.val * 64 + x.val = _
  omega

theorem blk6 (t : Fin cfg0.N) : (iblk m c 6 t : Vec Ideal S1x1x32x64 .f32) = w6 (argA m c) (seqOf t) (t.val % 33) := by
  obtain ⟨-, -, -, -, -, -, e0, e1, e2, e3, -⟩ := idxS t
  funext y
  obtain ⟨h, x, rfl⟩ : ∃ (h : Fin 32) (x : Fin 64), y = ix4 (0 : Fin 1) (0 : Fin 1) h x :=
    ⟨y 2, y 3, funext fun a => match a with
      | ⟨0, _⟩ => Subsingleton.elim (α := Fin 1) _ _ | ⟨1, _⟩ => Subsingleton.elim (α := Fin 1) _ _ | ⟨2, _⟩ => rfl | ⟨3, _⟩ => rfl⟩
  unfold iblk
  rw [View.read_apply]
  show V m c main_v2 _ = row (argA m c) (seqOf t) (64 * (t.val % 33) + x.val) (⟨h.val, by omega⟩ : Fin 128)
  refine Eq.trans (congrArg (V m c main_v2) (?_ : _ = ix4 (seqOf t) (⟨t.val % 33, by omega⟩ : Fin 33) h x)) (V_a m c _ _ _ _)
  funext a
  apply Fin.ext
  match a with
  | ⟨0, _⟩ => show win0_6.index t 0 * 1 + 1 * 0 = t.val / 33; rw [e0]; omega
  | ⟨1, _⟩ => show win0_6.index t 1 * 1 + 1 * 0 = t.val % 33; rw [e1]; omega
  | ⟨2, _⟩ => show win0_6.index t 2 * 32 + 1 * h.val = h.val; rw [e2]; omega
  | ⟨3, _⟩ => show win0_6.index t 3 * 64 + 1 * x.val = x.val; rw [e3]; omega

theorem V_d : (V m c main_v5 : Vec Ideal S1x2048 .f32) = w7 (argD m c) := by
  have e : (V m c main_v5 : Vec Ideal S1x2048 .f32) = shapeCast S1x2048 (shapeCast S2048 (broadcastInDim S32x64 ![0] bcast_S32_S32x64_0 (argD m c))
      shapeCasts_S32x64_S2048) shapeCasts_S2048_S1x2048 := by
    unfold V; after_results; rfl
  rw [e]
  funext y
  obtain ⟨k, rfl⟩ : ∃ k : Fin 2048, y = ix2 (0 : Fin 1) k :=
    ⟨y 1, funext fun a => match a with | ⟨0, _⟩ => Subsingleton.elim (α := Fin 1) _ _ | ⟨1, _⟩ => rfl⟩
  pointwise
  rfl

theorem blk7 (t : Fin cfg0.N) : (iblk m c 7 t : Vec Ideal S1x2048 .f32) = w7 (argD m c) := by
  obtain ⟨-, -, -, -, -, -, -, -, -, -, e0, e1⟩ := idxS t
  rw [← V_d]
  funext y
  unfold iblk
  rw [View.read_apply]
  show V m c main_v5 _ = V m c main_v5 _
  refine congrArg (V m c main_v5) (funext fun a => Fin.ext ?_)
  match a with
  | ⟨0, _⟩ => show win0_7.index t 0 * 1 + 1 * (y 0).val = (y 0).val; rw [e0]; omega
  | ⟨1, _⟩ => show win0_7.index t 1 * 2048 + 1 * (y 1).val = (y 1).val; rw [e1]; omega

/-- The padded rows of point `t`'s chunk, over a halo that holds the eight rows before it. -/
theorem pad_eq (t : Fin cfg0.N) (halo : Vec Ideal S72x3072 .f32)
    (hh : ∀ y : S72x3072.Idx, (y 0).val < 8 → halo y = rowsAt (argP m c) (seqOf t) (t.val % 33) y) :
    pad halo (X0_0 m c t) (iblk m c 1 t) = rowsAt (argP m c) (seqOf t) (t.val % 33) := by
  funext y
  have y1 : (y 1).val < 3072 := (y 1).isLt
  unfold pad
  by_cases h : (y 0).val < 8
  · rw [dif_pos h, hh y h]
  · have hr : rowsAt (argP m c) (seqOf t) (t.val % 33) y
        = row (argP m c) (seqOf t) (64 * (t.val % 33) + (y 0).val - 8) ⟨6144 + (y 1).val, by omega⟩ := by
      unfold rowsAt
      rw [if_pos (by omega)]
    have hq : 64 * (t.val % 33) + ((y 0).val - 8) = 64 * (t.val % 33) + (y 0).val - 8 := by omega
    rw [dif_neg h, hr]
    by_cases h' : (y 1).val < 2048
    · rw [dif_pos h', blk0]
      exact congrArg (row (argP m c) (seqOf t) · _) hq
    · rw [dif_neg h', blk1]
      show row (argP m c) (seqOf t) (64 * (t.val % 33) + ((y 0).val - 8)) ⟨8192 + ((y 1).val - 2048), _⟩ = _
      rw [hq]
      exact congrArg (row (argP m c) (seqOf t) _) (Fin.ext (by show 8192 + ((y 1).val - 2048) = 6144 + (y 1).val; omega))

/-- Before the first chunk the halo is zero. -/
theorem halo_zero (b : Fin 4) (p : Vec Ideal S4x2112x9216 .f32) (y : S72x3072.Idx) (h : (y 0).val < 8) : (0 : EReal) = rowsAt p b 0 y := by
  unfold rowsAt
  rw [if_neg (by omega)]

/-- A later chunk's halo is what the chunk before left. -/
theorem halo_next (b : Fin 4) (j : ℕ) (p : Vec Ideal S4x2112x9216 .f32) (y : S72x3072.Idx) (h : (y 0).val < 8) :
    padNext (rowsAt p b j) y = rowsAt p b (j + 1) y := by
  unfold padNext
  rw [dif_pos h]
  show (if 8 ≤ 64 * j + (64 + (y 0).val) then row p b (64 * j + (64 + (y 0).val) - 8) _ else 0) = _
  unfold rowsAt
  rw [if_pos (by omega), if_pos (by omega)]
  exact congrArg (row p b · _) (by omega)

end Cert.SsdIdeal.RefValue

end
-- ==== Proof.SsdPad.lean ====
module

public import proofs.«01_k».proof.Proof.SsdMath
public import Idealize.ShloMosaic.Lib.Pointwise
public import Idealize.ShloMosaic.Lib.ValueIdx
public import Idealize.ShloMosaic.Lib.Tactic
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdIdeal.RefValue

open Cert.SsdIdeal Cert.SsdIdeal.Gen Cert.SsdIdeal.Value
open Cert.MergeIdeal.RefValue (silu)

/-! A point after the first of its row: what it leaves in its output block, its padded rows and its state. -/

variable (x0 : Vec Ideal S1x64x2048 .f32) (x1 : Vec Ideal S1x64x1024 .f32)

theorem ld_arg_x (x : Vec Ideal S1x64x2048 .f32) (j : S64x2048.Idx) :
    k0_pay4 (View.ld x (Rect.unit ![0, 0, 0] S1x64x2048.size inb_S1x64x2048_S1x64x2048_0_0_0)) j = x (ix3 0 (j 0) (j 1)) := by
  obtain ⟨r, k, rfl⟩ : ∃ (r : Fin 64) (k : Fin 2048), j = ix2 r k := ⟨j 0, j 1, funext fun a => match a with | ⟨0, _⟩ => rfl | ⟨1, _⟩ => rfl⟩
  unfold_payloads; pointwise

theorem ld_arg_bc (x : Vec Ideal S1x64x1024 .f32) (j : S64x1024.Idx) :
    k0_pay5 (View.ld x (Rect.unit ![0, 0, 0] S1x64x1024.size inb_S1x64x1024_S1x64x1024_0_0_0)) j = x (ix3 0 (j 0) (j 1)) := by
  obtain ⟨r, k, rfl⟩ : ∃ (r : Fin 64) (k : Fin 1024), j = ix2 r k := ⟨j 0, j 1, funext fun a => match a with | ⟨0, _⟩ => rfl | ⟨1, _⟩ => rfl⟩
  unfold_payloads; pointwise

theorem pad_x (halo : Vec Ideal S72x3072 .f32) (x : S64x2048.Idx) :
    x0 (ix3 0 (x 0) (x 1)) = pad halo x0 x1 ((Rect.unit (s := S72x3072) ![8, 0] S64x2048.size inb_S72x3072_S64x2048_8_0).emb x) := by
  have e0 : ((Rect.unit (s := S72x3072) ![8, 0] S64x2048.size inb_S72x3072_S64x2048_8_0).emb x 0).val = 8 + (x 0).val := by
    show 8 + 1 * (x 0).val = _; omega
  have e1 : ((Rect.unit (s := S72x3072) ![8, 0] S64x2048.size inb_S72x3072_S64x2048_8_0).emb x 1).val = (x 1).val := by
    show 0 + 1 * (x 1).val = _; omega
  unfold pad
  rw [dif_neg (by rw [e0]; omega), dif_pos (by rw [e1]; exact (x 1).isLt)]
  congr 1
  funext a
  apply Fin.ext
  match a with
  | ⟨0, _⟩ => rfl
  | ⟨1, _⟩ => show (x 0).val = _ - 8; rw [e0]; omega
  | ⟨2, _⟩ => exact e1.symm

theorem pad_bc (halo : Vec Ideal S72x3072 .f32) (x : S64x1024.Idx) :
    x1 (ix3 0 (x 0) (x 1)) = pad halo x0 x1 ((Rect.unit (s := S72x3072) ![8, 2048] S64x1024.size inb_S72x3072_S64x1024_8_2048).emb x) := by
  have e0 : ((Rect.unit (s := S72x3072) ![8, 2048] S64x1024.size inb_S72x3072_S64x1024_8_2048).emb x 0).val = 8 + (x 0).val := by
    show 8 + 1 * (x 0).val = _; omega
  have e1 : ((Rect.unit (s := S72x3072) ![8, 2048] S64x1024.size inb_S72x3072_S64x1024_8_2048).emb x 1).val = 2048 + (x 1).val := by
    show 2048 + 1 * (x 1).val = _; omega
  unfold pad
  rw [dif_neg (by rw [e0]; omega), dif_neg (by rw [e1]; omega)]
  congr 1
  funext a
  apply Fin.ext
  match a with
  | ⟨0, _⟩ => rfl
  | ⟨1, _⟩ => show (x 0).val = _ - 8; rw [e0]; omega
  | ⟨2, _⟩ => show (x 1).val = _ - 2048; rw [e1]; omega

/-- The two stores that fill the chunk's rows. -/
def fills : List (View.Piece (Elt Ideal) S72x3072 .f32) :=
  [⟨Rect.unit ![8, 2048] S64x1024.size inb_S72x3072_S64x1024_8_2048, k0_pay5 (View.ld x1 (Rect.unit ![0, 0, 0] S1x64x1024.size inb_S1x64x1024_S1x64x1024_0_0_0))⟩,
   ⟨Rect.unit ![8, 0] S64x2048.size inb_S72x3072_S64x2048_8_0, k0_pay4 (View.ld x0 (Rect.unit ![0, 0, 0] S1x64x2048.size inb_S1x64x2048_S1x64x2048_0_0_0))⟩]

theorem fills_pieces (halo : Vec Ideal S72x3072 .f32) : View.PiecesOf (pad halo x0 x1) (fills x0 x1) :=
  ⟨fun x => (ld_arg_bc x1 x).trans (pad_bc x0 x1 halo x), fun x => (ld_arg_x x0 x).trans (pad_x x0 x1 halo x), trivial⟩

/-- A row of the chunk lies in one of the two. -/
theorem fills_cover (y : S72x3072.Idx) (hy : 8 ≤ (y 0).val) : ∃ p ∈ fills x0 x1, y ∈ p.1.set := by
  have h0 : (y 0).val < 72 := (y 0).isLt
  have h1 : (y 1).val < 3072 := (y 1).isLt
  by_cases h : (y 1).val < 2048
  · refine ⟨_, List.mem_cons_of_mem _ (List.mem_cons_self ..), (Rect.mem_set_unit (inb := inb_S72x3072_S64x2048_8_0)).mpr fun a => ?_⟩
    match a with
    | ⟨0, _⟩ => exact ⟨hy, h0⟩
    | ⟨1, _⟩ => exact ⟨Nat.zero_le _, by show (y 1).val < 0 + 2048; omega⟩
  · refine ⟨_, List.mem_cons_self .., (Rect.mem_set_unit (inb := inb_S72x3072_S64x1024_8_2048)).mpr fun a => ?_⟩
    match a with
    | ⟨0, _⟩ => exact ⟨hy, h0⟩
    | ⟨1, _⟩ => exact ⟨by show 2048 ≤ (y 1).val; omega, h1⟩

/-- A load from the chunk's rows, after the two stores. -/
theorem fills_load (v : View sig .tc .vmem S72x3072 .f32) (halo : Vec Ideal S72x3072 .f32) (L : List (View.Piece (Elt Ideal) S72x3072 .f32))
    (off sz : Fin 2 → ℕ) (inb : ∀ a, off a + sz a ≤ S72x3072.size a) (h : 8 ≤ off 0) :
    v.readCov (fills x0 x1 ++ L) (Rect.unit off sz inb).toLoadRect = View.ld (pad halo x0 x1) (Rect.unit off sz inb) := by
  rw [View.readCov_eq_canon']
  funext j
  refine View.canon_append_of_piecesOf (pad halo x0 x1) L _ (fills_pieces x0 x1 halo) _ (fills_cover x0 x1 _ ?_)
  show 8 ≤ off 0 + 1 * (j 0).val
  omega

/-- The padded rows after the two stores, over a buffer that holds the carried rows. -/
theorem fills_read (v : View sig .tc .vmem S72x3072 .f32) (f : v.ty.Contents (Elt Ideal)) (halo : Vec Ideal S72x3072 .f32) (hf : v.read (Elt Ideal) f = halo) :
    v.read (Elt Ideal) (v.writes (Elt Ideal) f (fills x0 x1)) = pad halo x0 x1 := by
  funext y
  by_cases hy : 8 ≤ (y 0).val
  · rw [View.read_writes_apply_eq_canon v f y _ (fills_cover x0 x1 y hy), ← List.append_nil (fills x0 x1)]
    exact View.canon_append_of_piecesOf (pad halo x0 x1) [] _ (fills_pieces x0 x1 halo) _ (fills_cover x0 x1 y hy)
  · unfold fills
    rw [View.read_writes_cons_unit v f _ _ _ y rfl, dif_neg (fun h => hy (h 0).1), View.read_writes_cons_unit v f _ _ _ y rfl, dif_neg (fun h => hy (h 0).1), View.writes_nil, hf]
    unfold pad
    rw [dif_pos (by omega)]

/-- The zeros that a row's first point stores in the carried rows. -/
theorem zeros_load (v : View sig .tc .vmem S72x3072 .f32) (off sz : Fin 2 → ℕ) (inb : ∀ a, off a + sz a ≤ S72x3072.size a) :
    v.readCov (fills x0 x1 ++ [⟨Rect.unit ![0, 0] S8x3072.size inb_S72x3072_S8x3072_0_0, k0_pay3 (F := Ideal)⟩]) (Rect.unit off sz inb).toLoadRect
      = View.ld (pad (fun _ => 0) x0 x1) (Rect.unit off sz inb) := by
  rw [View.readCov_eq_canon']
  funext j
  rw [← List.append_nil (fills x0 x1 ++ _)]
  refine View.canon_append_of_piecesOf (pad (fun _ => 0) x0 x1) [] _ ?_ _ ?_
  · refine ⟨fun x => (ld_arg_bc x1 x).trans (pad_bc x0 x1 _ x), fun x => (ld_arg_x x0 x).trans (pad_x x0 x1 _ x), fun x => ?_, trivial⟩
    have e0 : ((Rect.unit (s := S72x3072) ![0, 0] S8x3072.size inb_S72x3072_S8x3072_0_0).emb x 0).val < 8 := by
      show 0 + 1 * (x 0).val < 8
      have : (x 0).val < 8 := (x 0).isLt
      omega
    unfold pad
    rw [dif_pos e0]
    obtain ⟨r, k, rfl⟩ : ∃ (r : Fin 8) (k : Fin 3072), x = ix2 r k := ⟨x 0, x 1, funext fun a => match a with | ⟨0, _⟩ => rfl | ⟨1, _⟩ => rfl⟩
    unfold_payloads; pointwise
  · generalize (Rect.unit (s := S72x3072) off sz inb).toLoadRect.idx j = y
    have h0 : (y 0).val < 72 := (y 0).isLt
    by_cases hy : 8 ≤ (y 0).val
    · obtain ⟨p, hp, hm⟩ := fills_cover x0 x1 y hy
      exact ⟨p, List.mem_append_left _ hp, hm⟩
    · refine ⟨_, List.mem_append_right _ (List.mem_cons_self ..), (Rect.mem_set_unit (inb := inb_S72x3072_S8x3072_0_0)).mpr fun a => ?_⟩
      match a with
      | ⟨0, _⟩ => exact ⟨Nat.zero_le _, by show (y 0).val < 0 + 8; omega⟩
      | ⟨1, _⟩ => exact ⟨Nat.zero_le _, by show (y 1).val < 0 + 3072; have := (y 1).isLt; simpa using this⟩

end Cert.SsdIdeal.RefValue
-- ==== Proof.SsdNext.lean ====
module

public import proofs.«01_k».proof.Proof.SsdPad
public import Idealize.ShloMosaic.Lib.Pointwise
public import Idealize.ShloMosaic.Lib.ValueIdx
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdIdeal.RefValue

open Cert.SsdIdeal Cert.SsdIdeal.Gen Cert.SsdIdeal.Value

/-! What a point leaves in its padded rows. -/

variable (c : Dev nD) (i : grid0.Coords) (a2 : Memref sig .tc .vmem S1x64x2048 .f32) (h2 : a2.IsWhole) (a3 : Memref sig .tc .vmem S1x64x1024 .f32) (h3 : a3.IsWhole)
  (a4 : Memref sig .tc .vmem S4x3072 .f32) (h4 : a4.IsWhole) (a5 : Memref sig .tc .vmem S1x3072 .f32) (h5 : a5.IsWhole) (a6 : Memref sig .tc .vmem S1x64x128 .f32) (h6 : a6.IsWhole)
  (a7 : Memref sig .tc .vmem S1x64x128 .f32) (h7 : a7.IsWhole) (a8 : Memref sig .tc .vmem S1x1x32x64 .f32) (h8 : a8.IsWhole) (a9 : Memref sig .tc .vmem S1x2048 .f32) (h9 : a9.IsWhole)
  (a10 : Memref sig .tc .vmem S1x64x2048 .f32) (h10 : a10.IsWhole) (a11 : Memref sig .tc .vmem S72x3072 .f32) (h11 : a11.IsWhole) (a12 : Memref sig .tc .vmem S4x512x128 .f32) (h12 : a12.IsWhole)
  (x0 : Vec Ideal S1x64x2048 .f32) (x1 : Vec Ideal S1x64x1024 .f32) (x2 : Vec Ideal S4x3072 .f32) (x3 : Vec Ideal S1x3072 .f32) (x4 : Vec Ideal S1x64x128 .f32) (x5 : Vec Ideal S1x64x128 .f32)
  (x6 : Vec Ideal S1x1x32x64 .f32) (x7 : Vec Ideal S1x2048 .f32) (xs0 : Vec Ideal S72x3072 .f32) (xs1 : Vec Ideal S4x512x128 .f32)

theorem padNext_low (U : Vec Ideal S72x3072 .f32) (y : S72x3072.Idx) (h : 8 ≤ (y 0).val) : padNext U y = U y := by
  unfold padNext
  rw [dif_neg (by omega)]

/-- The last eight rows, moved to the front. -/
theorem moved_piece (U : Vec Ideal S72x3072 .f32) (x : S8x3072.Idx) :
    k0_pay1 (View.ld U (Rect.unit ![64, 0] S8x3072.size inb_S72x3072_S8x3072_64_0)) x
      = padNext U ((Rect.unit (s := S72x3072) ![0, 0] S8x3072.size inb_S72x3072_S8x3072_0_0).emb x) := by
  obtain ⟨r, k, rfl⟩ : ∃ (r : Fin 8) (k : Fin 3072), x = ix2 r k := ⟨x 0, x 1, funext fun a => match a with | ⟨0, _⟩ => rfl | ⟨1, _⟩ => rfl⟩
  have e0 : ((Rect.unit (s := S72x3072) ![0, 0] S8x3072.size inb_S72x3072_S8x3072_0_0).emb (ix2 r k) 0).val = r.val := by
    show 0 + 1 * r.val = _; omega
  have e1 : ((Rect.unit (s := S72x3072) ![0, 0] S8x3072.size inb_S72x3072_S8x3072_0_0).emb (ix2 r k) 1).val = k.val := by
    show 0 + 1 * k.val = _; omega
  unfold padNext
  rw [dif_pos (by rw [e0]; exact r.isLt)]
  unfold_payloads
  pointwise
  congr 1
  funext a
  apply Fin.ext
  match a with
  | ⟨0, _⟩ => show 64 + r.val = 64 + _; rw [e0]
  | ⟨1, _⟩ => exact e1.symm

theorem next_pieces (halo U : Vec Ideal S72x3072 .f32) (hU : U = pad halo x0 x1) :
    View.PiecesOf (padNext U) ((⟨Rect.unit ![0, 0] S8x3072.size inb_S72x3072_S8x3072_0_0, k0_pay1 (View.ld U (Rect.unit ![64, 0] S8x3072.size inb_S72x3072_S8x3072_64_0))⟩
      : View.Piece (Elt Ideal) S72x3072 .f32) :: fills x0 x1) := by
  subst hU
  refine ⟨fun x => moved_piece (pad halo x0 x1) x, fun x => ?_, fun x => ?_, trivial⟩
  · refine ((ld_arg_bc x1 x).trans (pad_bc x0 x1 halo x)).trans (padNext_low _ _ ?_).symm
    show 8 ≤ 8 + 1 * (x 0).val; omega
  · refine ((ld_arg_x x0 x).trans (pad_x x0 x1 halo x)).trans (padNext_low _ _ ?_).symm
    show 8 ≤ 8 + 1 * (x 0).val; omega

theorem next_cover (P : Vec Ideal S8x3072 .f32) (y : S72x3072.Idx) :
    ∃ p ∈ (⟨Rect.unit ![0, 0] S8x3072.size inb_S72x3072_S8x3072_0_0, P⟩ : View.Piece (Elt Ideal) S72x3072 .f32) :: fills x0 x1, y ∈ p.1.set := by
  by_cases hy : 8 ≤ (y 0).val
  · obtain ⟨p, hp, hm⟩ := fills_cover x0 x1 y hy
    exact ⟨p, List.mem_cons_of_mem _ hp, hm⟩
  · refine ⟨_, List.mem_cons_self .., (Rect.mem_set_unit (inb := inb_S72x3072_S8x3072_0_0)).mpr fun a => ?_⟩
    match a with
    | ⟨0, _⟩ => exact ⟨Nat.zero_le _, by show (y 0).val < 0 + 8; omega⟩
    | ⟨1, _⟩ => exact ⟨Nat.zero_le _, by show (y 1).val < 0 + 3072; have := (y 1).isLt; simpa using this⟩

/-- The padded rows that a later point leaves. -/
theorem rows_B (hc : ¬cond0_0 i) : sout0_B_0 c i a2 h2 a3 h3 a4 h4 a5 h5 a6 h6 a7 h7 a8 h8 a9 h9 a10 h10 a11 h11 a12 h12 hc x0 x1 x2 x3 x4 x5 x6 x7 xs0 xs1 = padNext (pad xs0 x0 x1) := by
  funext y
  have hl := fills_load x0 x1 a11.view xs0 [] ![64, 0] S8x3072.size inb_S72x3072_S8x3072_64_0 (by decide)
  obtain ⟨U, hU⟩ : ∃ U, U = pad xs0 x0 x1 := ⟨_, rfl⟩
  rw [← hU] at hl ⊢
  have hp := View.canon_append_of_piecesOf (padNext U) [] _ (next_pieces x0 x1 xs0 U hU) y (next_cover x0 x1 _ y)
  rw [← hl] at hp
  unfold sout0_B_0
  rw [View.read_writes_eq_canon _ _ _ (scover0_B_0 c i a2 h2 a3 h3 a4 h4 a5 h5 a6 h6 a7 h7 a8 h8 a9 h9 a10 h10 a11 h11 a12 h12 hc x0 x1 x2 x3 x4 x5 x6 x7 xs0 xs1)]
  refine Eq.trans ?_ hp
  unfold kernelRun0_B fills
  dsimp only
  sl_unfold_words
  simp only [View.readAt_eq_ld, h2.read_unread, h3.read_unread]
  rfl

/-- The padded rows that a row's first point leaves. -/
theorem rows_A (hc : cond0_0 i) : sout0_A_0 c i a2 h2 a3 h3 a4 h4 a5 h5 a6 h6 a7 h7 a8 h8 a9 h9 a10 h10 a11 h11 a12 h12 hc x0 x1 x2 x3 x4 x5 x6 x7 = padNext (pad (fun _ => 0) x0 x1) := by
  funext y
  have hl := zeros_load x0 x1 a11.view ![64, 0] S8x3072.size inb_S72x3072_S8x3072_64_0
  obtain ⟨U, hU⟩ : ∃ U, U = pad (fun _ => 0) x0 x1 := ⟨_, rfl⟩
  rw [← hU] at hl ⊢
  have hp := View.canon_append_of_piecesOf (padNext U) [⟨Rect.unit ![0, 0] S8x3072.size inb_S72x3072_S8x3072_0_0, k0_pay3 (F := Ideal)⟩] _ (next_pieces x0 x1 (fun _ => 0) U hU) y (next_cover x0 x1 _ y)
  rw [← hl] at hp
  unfold sout0_A_0
  rw [View.read_writes_eq_canon _ _ _ (scover0_A_0 c i a2 h2 a3 h3 a4 h4 a5 h5 a6 h6 a7 h7 a8 h8 a9 h9 a10 h10 a11 h11 a12 h12 hc x0 x1 x2 x3 x4 x5 x6 x7)]
  refine Eq.trans ?_ hp
  unfold kernelRun0_A fills
  dsimp only
  sl_unfold_words
  simp only [View.readAt_eq_ld, h2.read_unread, h3.read_unread]
  rfl

end Cert.SsdIdeal.RefValue
-- ==== Proof.SsdStateA.lean ====
module

public import proofs.«01_k».proof.Proof.SsdPad
public import Idealize.ShloMosaic.Lib.Pointwise
public import Idealize.ShloMosaic.Lib.ValueIdx
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdIdeal.RefValue

open Cert.SsdIdeal Cert.SsdIdeal.Gen Cert.SsdIdeal.Value
open Cert.MergeIdeal.RefValue (silu)

/-! The first point of a row: what it leaves in its output block, its padded rows and its state. -/

variable (c : Dev nD) (i : grid0.Coords) (a2 : Memref sig .tc .vmem S1x64x2048 .f32) (h2 : a2.IsWhole) (a3 : Memref sig .tc .vmem S1x64x1024 .f32) (h3 : a3.IsWhole)
  (a4 : Memref sig .tc .vmem S4x3072 .f32) (h4 : a4.IsWhole) (a5 : Memref sig .tc .vmem S1x3072 .f32) (h5 : a5.IsWhole) (a6 : Memref sig .tc .vmem S1x64x128 .f32) (h6 : a6.IsWhole)
  (a7 : Memref sig .tc .vmem S1x64x128 .f32) (h7 : a7.IsWhole) (a8 : Memref sig .tc .vmem S1x1x32x64 .f32) (h8 : a8.IsWhole) (a9 : Memref sig .tc .vmem S1x2048 .f32) (h9 : a9.IsWhole)
  (a10 : Memref sig .tc .vmem S1x64x2048 .f32) (h10 : a10.IsWhole) (a11 : Memref sig .tc .vmem S72x3072 .f32) (h11 : a11.IsWhole) (a12 : Memref sig .tc .vmem S4x512x128 .f32) (h12 : a12.IsWhole)
  (x0 : Vec Ideal S1x64x2048 .f32) (x1 : Vec Ideal S1x64x1024 .f32) (x2 : Vec Ideal S4x3072 .f32) (x3 : Vec Ideal S1x3072 .f32) (x4 : Vec Ideal S1x64x128 .f32) (x5 : Vec Ideal S1x64x128 .f32)
  (x6 : Vec Ideal S1x1x32x64 .f32) (x7 : Vec Ideal S1x2048 .f32)

/-- The loads of the carried rows and of the chunk's, over the zeros and the two stores, read the padded rows. -/
theorem loads_A (U : Vec Ideal S72x3072 .f32) (hU : U = pad (fun _ => 0) x0 x1) (k o : ℕ) (sz : Fin 2 → ℕ)
    (inb : ∀ a, (![k, o] : Fin 2 → ℕ) a + sz a ≤ S72x3072.size a) :
    a11.view.readCov (fills x0 x1 ++ [⟨Rect.unit ![0, 0] S8x3072.size inb_S72x3072_S8x3072_0_0, k0_pay3 (F := Ideal)⟩])
      (Rect.unit (s := S72x3072) ![k, o] sz inb).toLoadRect = View.ld U (Rect.unit ![k, o] sz inb) := by
  rw [hU]
  exact zeros_load x0 x1 a11.view ![k, o] sz inb

theorem zeros_eq : (k0_pay2 (F := Ideal) : Vec Ideal S4x512x128 .f32) = fun _ => 0 := by
  funext y
  obtain ⟨g, q, n, rfl⟩ : ∃ (g : Fin 4) (q : Fin 512) (n : Fin 128), y = ix3 g q n :=
    ⟨y 0, y 1, y 2, funext fun a => match a with | ⟨0, _⟩ => rfl | ⟨1, _⟩ => rfl | ⟨2, _⟩ => rfl⟩
  unfold_payloads; pointwise

set_option maxHeartbeats 8000000 in
/-- The state that a row's first point leaves. -/
theorem state_A (hc : cond0_0 i) : sout0_A_1 c i a2 h2 a3 h3 a4 h4 a5 h5 a6 h6 a7 h7 a8 h8 a9 h9 a10 h10 a11 h11 a12 h12 hc x0 x1 x2 x3 x4 x5 x6 x7 = stNew (i 1).val (pad (fun _ => 0) x0 x1) x2 x3 x4 x5 x6 (fun _ => 0) := by
  funext y
  obtain ⟨U, hU⟩ : ∃ U, U = pad (fun _ => 0) x0 x1 := ⟨_, rfl⟩
  have hl := loads_A a11 x0 x1 U hU
  obtain ⟨Z, hZ⟩ : ∃ Z : Vec Ideal S4x512x128 .f32, Z = k0_pay2 (F := Ideal) := ⟨_, rfl⟩
  rw [← hU, ← zeros_eq, ← hZ]
  unfold sout0_A_1
  have hcov := scover0_A_1 c i a2 h2 a3 h3 a4 h4 a5 h5 a6 h6 a7 h7 a8 h8 a9 h9 a10 h10 a11 h11 a12 h12 hc x0 x1 x2 x3 x4 x5 x6 x7
  rw [View.read_writes_eq_canon _ _ _ hcov, ← List.take_append_drop 32 (kernelRun0_A c i a2 h2 a3 h3 a4 h4 a5 h5 a6 h6 a7 h7 a8 h8 a9 h9 a10 h10 a11 h11 a12 h12 hc x0 x1 x2 x3 x4 x5 x6 x7).2.2.1]
  refine View.canon_append_of_piecesOf (fun y : S4x512x128.Idx => stNew (i 1).val U x2 x3 x4 x5 x6 Z y) _ _ ?_ y
    (View.cover_of_tiledL ((kernelRun0_A c i a2 h2 a3 h3 a4 h4 a5 h5 a6 h6 a7 h7 a8 h8 a9 h9 a10 h10 a11 h11 a12 h12 hc x0 x1 x2 x3 x4 x5 x6 x7).2.2.1.take 32) S1x64x128.size (by sl_kernel_rfl) y)
  clear hcov
  unfold kernelRun0_A
  dsimp only
  unfold fills at hl
  simp only [List.cons_append, List.nil_append] at hl
  repeat' apply And.intro
  all_goals first | trivial | intro x
  all_goals
    dsimp only
    sl_unfold_words
    simp only [View.readAt_eq_ld, h2.read_unread, h3.read_unread, h4.read_unread, h5.read_unread, h6.read_unread, h7.read_unread, h8.read_unread,
      h9.read_unread, hl]
    simp (disch := decide) only [↓View.readCov_skip, View.readCov_fill]
    rw [← hZ]
    clear hl hU hZ
    obtain ⟨r, j, rfl⟩ : ∃ (r : Fin 64) (j : Fin 128), x = ix3 (0 : Fin 1) r j :=
      ⟨x 1, x 2, funext fun a => match a with | ⟨0, _⟩ => Subsingleton.elim (α := Fin 1) _ _ | ⟨1, _⟩ => rfl | ⟨2, _⟩ => rfl⟩
    unfold_payloads
    pointwise
    simp only [zero_sub]
    refine Eq.trans ?_ (stNew_piece (i 1).val U x2 x3 x4 x5 x6 Z _ _ _ rfl r j (by decide) (by decide))
    try simp only [Nat.mul_zero, Nat.zero_add]
    unfold stM cv silu msk
    rfl

end Cert.SsdIdeal.RefValue
-- ==== Proof.SsdStateB.lean ====
module

public import proofs.«01_k».proof.Proof.SsdPad
public import Idealize.ShloMosaic.Lib.Pointwise
public import Idealize.ShloMosaic.Lib.ValueIdx
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdIdeal.RefValue

open Cert.SsdIdeal Cert.SsdIdeal.Gen Cert.SsdIdeal.Value
open Cert.MergeIdeal.RefValue (silu)

/-! A point after the first of its row: what it leaves in its output block, its padded rows and its state. -/

variable (c : Dev nD) (i : grid0.Coords) (a2 : Memref sig .tc .vmem S1x64x2048 .f32) (h2 : a2.IsWhole) (a3 : Memref sig .tc .vmem S1x64x1024 .f32) (h3 : a3.IsWhole)
  (a4 : Memref sig .tc .vmem S4x3072 .f32) (h4 : a4.IsWhole) (a5 : Memref sig .tc .vmem S1x3072 .f32) (h5 : a5.IsWhole) (a6 : Memref sig .tc .vmem S1x64x128 .f32) (h6 : a6.IsWhole)
  (a7 : Memref sig .tc .vmem S1x64x128 .f32) (h7 : a7.IsWhole) (a8 : Memref sig .tc .vmem S1x1x32x64 .f32) (h8 : a8.IsWhole) (a9 : Memref sig .tc .vmem S1x2048 .f32) (h9 : a9.IsWhole)
  (a10 : Memref sig .tc .vmem S1x64x2048 .f32) (h10 : a10.IsWhole) (a11 : Memref sig .tc .vmem S72x3072 .f32) (h11 : a11.IsWhole) (a12 : Memref sig .tc .vmem S4x512x128 .f32) (h12 : a12.IsWhole)
  (x0 : Vec Ideal S1x64x2048 .f32) (x1 : Vec Ideal S1x64x1024 .f32) (x2 : Vec Ideal S4x3072 .f32) (x3 : Vec Ideal S1x3072 .f32) (x4 : Vec Ideal S1x64x128 .f32) (x5 : Vec Ideal S1x64x128 .f32)
  (x6 : Vec Ideal S1x1x32x64 .f32) (x7 : Vec Ideal S1x2048 .f32) (xs0 : Vec Ideal S72x3072 .f32) (xs1 : Vec Ideal S4x512x128 .f32)

/-- The loads of the carried rows and of the chunk's, over the two stores, read the padded rows. -/
theorem loads_B (U : Vec Ideal S72x3072 .f32) (hU : U = pad xs0 x0 x1) :
    View.read (Elt Ideal) a11.view (a11.view.writes (Elt Ideal) (h11.unread xs0) (fills x0 x1)) = U
    ∧ ∀ (k o : ℕ) (sz : Fin 2 → ℕ) (inb : ∀ a, (![k, o] : Fin 2 → ℕ) a + sz a ≤ S72x3072.size a), 8 ≤ k →
        a11.view.readCov (fills x0 x1) (Rect.unit (s := S72x3072) ![k, o] sz inb).toLoadRect = View.ld U (Rect.unit ![k, o] sz inb) := by
  subst hU
  refine ⟨fills_read x0 x1 a11.view _ xs0 (h11.read_unread xs0), fun k o sz inb h => ?_⟩
  have := fills_load x0 x1 a11.view xs0 [] ![k, o] sz inb h
  rwa [List.append_nil] at this

set_option maxHeartbeats 8000000 in
/-- The state that a later point leaves. -/
theorem state_B (hc : ¬cond0_0 i) : sout0_B_1 c i a2 h2 a3 h3 a4 h4 a5 h5 a6 h6 a7 h7 a8 h8 a9 h9 a10 h10 a11 h11 a12 h12 hc x0 x1 x2 x3 x4 x5 x6 x7 xs0 xs1 = stNew (i 1).val (pad xs0 x0 x1) x2 x3 x4 x5 x6 xs1 := by
  funext y
  obtain ⟨U, hU⟩ : ∃ U, U = pad xs0 x0 x1 := ⟨_, rfl⟩
  obtain ⟨hr, hl⟩ := loads_B a11 h11 x0 x1 xs0 U hU
  rw [← hU]
  unfold sout0_B_1
  have hcov := scover0_B_1 c i a2 h2 a3 h3 a4 h4 a5 h5 a6 h6 a7 h7 a8 h8 a9 h9 a10 h10 a11 h11 a12 h12 hc x0 x1 x2 x3 x4 x5 x6 x7 xs0 xs1
  rw [View.read_writes_eq_canon _ _ _ hcov, ← List.append_nil (kernelRun0_B c i a2 h2 a3 h3 a4 h4 a5 h5 a6 h6 a7 h7 a8 h8 a9 h9 a10 h10 a11 h11 a12 h12 hc x0 x1 x2 x3 x4 x5 x6 x7 xs0 xs1).2.2.1]
  refine View.canon_append_of_piecesOf (fun y : S4x512x128.Idx => stNew (i 1).val U x2 x3 x4 x5 x6 xs1 y) [] _ ?_ y (hcov y)
  clear hcov
  unfold kernelRun0_B
  dsimp only
  unfold fills at hr hl
  repeat' apply And.intro
  all_goals first | trivial | intro x
  all_goals
    dsimp only
    sl_unfold_words
    simp only [View.readAt_eq_ld, h2.read_unread, h3.read_unread, h4.read_unread, h5.read_unread, h6.read_unread, h7.read_unread, h8.read_unread,
      h9.read_unread, h12.read_unread, hr, hl 8 _ _ _ (le_refl 8)]
    clear hr hl hU
    obtain ⟨r, j, rfl⟩ : ∃ (r : Fin 64) (j : Fin 128), x = ix3 (0 : Fin 1) r j :=
      ⟨x 1, x 2, funext fun a => match a with | ⟨0, _⟩ => Subsingleton.elim (α := Fin 1) _ _ | ⟨1, _⟩ => rfl | ⟨2, _⟩ => rfl⟩
    unfold_payloads
    pointwise
    simp only [zero_sub]
    refine Eq.trans ?_ (stNew_piece (i 1).val U x2 x3 x4 x5 x6 xs1 _ _ _ rfl r j (by decide) (by decide))
    try simp only [Nat.mul_zero, Nat.zero_add]
    unfold stM cv silu msk
    rfl

end Cert.SsdIdeal.RefValue
-- ==== Proof.SsdOutB.lean ====
/- What a later chunk leaves in its output block. -/
module

public import proofs.«01_k».proof.Proof.SsdStateB
public import Idealize.ShloMosaic.Lib.Pointwise
public import Idealize.ShloMosaic.Lib.ValueIdx
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdIdeal.RefValue

open Cert.SsdIdeal Cert.SsdIdeal.Gen Cert.SsdIdeal.Value
open Cert.MergeIdeal.RefValue (silu)

section

variable (ci : ℕ) (U : Vec Ideal S72x3072 .f32) (x2 : Vec Ideal S4x3072 .f32) (x3 : Vec Ideal S1x3072 .f32) (x4 x5 : Vec Ideal S1x64x128 .f32)
  (x6 : Vec Ideal S1x1x32x64 .f32) (x7 : Vec Ideal S1x2048 .f32) (S : Vec Ideal S4x512x128 .f32)

/-- An entry of the output block, with its two choices the other way round. -/
theorem yNew_piece_swapped (w o : ℕ) (inb : ∀ a, (![0, 0, w] : Fin 3 → ℕ) a + (![1, 64, 512] : Fin 3 → ℕ) a ≤ S1x64x2048.size a) (ho : o % 64 = 0)
    (r p : Fin 64) (hw : w % 512 = 0) (hw' : w + 512 ≤ 2048) (ho' : o + 64 ≤ 512) :
    yM' ci U x2 x3 x4 x5 x6 x7 S r ⟨w / 512, by omega⟩ ⟨o + p.val, by omega⟩ ⟨w / 64 + o / 64, by omega⟩ ⟨w / 64 + o / 64, by omega⟩
        ⟨w + (o + p.val), by omega⟩ ⟨w + (o + p.val), by omega⟩
        (fun n => ⟨2048 + 128 * (w / 512) + n.val, by omega⟩) (fun n => ⟨2560 + 128 * (w / 512) + n.val, by omega⟩)
      = yNew ci U x2 x3 x4 x5 x6 x7 S ((Rect.unit (s := S1x64x2048) ![0, 0, w] ![1, 64, 512] inb).emb
          (ix3 (0 : Fin 1) r (⟨o + p.val, by omega⟩ : Fin 512))) :=
  (yM_swap ci U x2 x3 x4 x5 x6 x7 S _ _ _ _ _ _ _ _ _).symm.trans (yNew_piece ci U x2 x3 x4 x5 x6 x7 S w o inb ho r p hw hw' ho')

end

/-! A point after the first of its row: what it leaves in its output block, its padded rows and its state. -/

variable (c : Dev nD) (i : grid0.Coords) (a2 : Memref sig .tc .vmem S1x64x2048 .f32) (h2 : a2.IsWhole) (a3 : Memref sig .tc .vmem S1x64x1024 .f32) (h3 : a3.IsWhole)
  (a4 : Memref sig .tc .vmem S4x3072 .f32) (h4 : a4.IsWhole) (a5 : Memref sig .tc .vmem S1x3072 .f32) (h5 : a5.IsWhole) (a6 : Memref sig .tc .vmem S1x64x128 .f32) (h6 : a6.IsWhole)
  (a7 : Memref sig .tc .vmem S1x64x128 .f32) (h7 : a7.IsWhole) (a8 : Memref sig .tc .vmem S1x1x32x64 .f32) (h8 : a8.IsWhole) (a9 : Memref sig .tc .vmem S1x2048 .f32) (h9 : a9.IsWhole)
  (a10 : Memref sig .tc .vmem S1x64x2048 .f32) (h10 : a10.IsWhole) (a11 : Memref sig .tc .vmem S72x3072 .f32) (h11 : a11.IsWhole) (a12 : Memref sig .tc .vmem S4x512x128 .f32) (h12 : a12.IsWhole)
  (x0 : Vec Ideal S1x64x2048 .f32) (x1 : Vec Ideal S1x64x1024 .f32) (x2 : Vec Ideal S4x3072 .f32) (x3 : Vec Ideal S1x3072 .f32) (x4 : Vec Ideal S1x64x128 .f32) (x5 : Vec Ideal S1x64x128 .f32)
  (x6 : Vec Ideal S1x1x32x64 .f32) (x7 : Vec Ideal S1x2048 .f32) (xs0 : Vec Ideal S72x3072 .f32) (xs1 : Vec Ideal S4x512x128 .f32)

set_option maxHeartbeats 8000000 in
/-- The output that a later point leaves in its block. -/
theorem out_B (hc : ¬cond0_0 i) : out0_B_8 c i a2 h2 a3 h3 a4 h4 a5 h5 a6 h6 a7 h7 a8 h8 a9 h9 a10 h10 a11 h11 a12 h12 hc x0 x1 x2 x3 x4 x5 x6 x7 xs0 xs1 = yNew (i 1).val (pad xs0 x0 x1) x2 x3 x4 x5 x6 x7 xs1 := by
  funext y
  obtain ⟨U, hU⟩ : ∃ U, U = pad xs0 x0 x1 := ⟨_, rfl⟩
  obtain ⟨hr, hl⟩ := loads_B a11 h11 x0 x1 xs0 U hU
  rw [← hU]
  unfold out0_B_8
  have hcov := cover0_B_8 c i a2 h2 a3 h3 a4 h4 a5 h5 a6 h6 a7 h7 a8 h8 a9 h9 a10 h10 a11 h11 a12 h12 hc x0 x1 x2 x3 x4 x5 x6 x7 xs0 xs1
  rw [View.read_writes_eq_canon _ _ _ hcov, ← List.append_nil (kernelRun0_B c i a2 h2 a3 h3 a4 h4 a5 h5 a6 h6 a7 h7 a8 h8 a9 h9 a10 h10 a11 h11 a12 h12 hc x0 x1 x2 x3 x4 x5 x6 x7 xs0 xs1).1]
  refine View.canon_append_of_piecesOf (fun y : S1x64x2048.Idx => yNew (i 1).val U x2 x3 x4 x5 x6 x7 xs1 y) [] _ ?_ y (hcov y)
  clear hcov
  unfold kernelRun0_B
  dsimp only
  unfold fills at hr hl
  repeat' apply And.intro
  all_goals first | trivial | intro x
  all_goals
    obtain ⟨r, j, rfl⟩ : ∃ (r : Fin 64) (j : Fin 512), x = ix3 (0 : Fin 1) r j :=
      ⟨x 1, x 2, funext fun a => match a with | ⟨0, _⟩ => Subsingleton.elim (α := Fin 1) _ _ | ⟨1, _⟩ => rfl | ⟨2, _⟩ => rfl⟩
    dsimp only
  on_goal 1 => unfold kernelRun0_B.sl.r_128
  all_goals
    unfold_payloads
    pointwise
    rcases head_of_col j with ⟨p, rfl⟩ | ⟨p, rfl⟩ | ⟨p, rfl⟩ | ⟨p, rfl⟩ | ⟨p, rfl⟩ | ⟨p, rfl⟩ | ⟨p, rfl⟩ | ⟨p, rfl⟩
    on_goal 8 => refine Eq.trans ?_ (yNew_piece_swapped (i 1).val U x2 x3 x4 x5 x6 x7 xs1 _ _ _ rfl r p rfl (by decide) (by decide))
    iterate 7
      refine Eq.trans ?_ (yNew_piece (i 1).val U x2 x3 x4 x5 x6 x7 xs1 _ _ _ rfl r p rfl (by decide) (by decide))
      rotate_left
  all_goals
    simp (disch := omega) only [dif_pos, dif_neg, Nat.sub_sub, Nat.reduceAdd, Nat.add_sub_cancel_left, Nat.sub_zero, Nat.zero_add]
    sl_unfold_words
    simp only [View.readAt_eq_ld, h2.read_unread, h3.read_unread, h4.read_unread, h5.read_unread, h6.read_unread, h7.read_unread, h8.read_unread,
      h9.read_unread, h12.read_unread, hr, hl 8 _ _ _ (le_refl 8)]
    clear hr hl hU
    unfold_payloads
    pointwise
    simp only [zero_sub]
    try simp only [Nat.mul_zero, Nat.zero_add]
    first
    | unfold yM' cv silu msk
      rfl
    | unfold yM cv silu msk
      rfl

end Cert.SsdIdeal.RefValue
-- ==== Proof.SsdChunks.lean ====
/- The reference's values at an index, and its loop's buffers after every chunk, as the scan's functions of the arguments. -/
module

public import proofs.«01_k».proof.Proof.SsdRefLoop
public import proofs.«01_k».proof.Proof.SsdSpec
public import Idealize.ShloMosaic.Lib.DynamicIndex

@[expose] public section

set_option maxRecDepth 16384

noncomputable section

open Idealize.ShloMosaic Idealize.ShloMosaic.TcCoe Idealize.SL.Sem

namespace Cert.SsdRefIdeal.Chunks

open Cert.SsdRefIdeal Cert.SsdRefIdeal.Gen Cert.SsdRefIdeal.Step
open Cert.MergeIdeal.RefValue (silu sigm mul_sigm)
open Cert.SsdIdeal.RefValue (row row_eq rowsAt w3 w4 w6 w7 xb cv msk xc stateAt outAt cv_last stateAt_succ outAt_apply select_eq)

variable (p : Vec Ideal S4x2112x9216 .f32) (w : Vec Ideal S4x3072 .f32) (bi : Vec Ideal S3072 .f32) (dt a : Vec Ideal S4x2112x128 .f32) (D : Vec Ideal S32 .f32)
  (b : Fin 4) (j : Fin 33) (l x : Fin 64) (g : Fin 4) (r : Fin 8) (pp : Fin 64) (nn : Fin 128)

/-- A tap of the convolution reads the padded rows: `q` counts from three rows before the sequence. -/
theorem tap (t q : ℕ) (hl : t + l.val < 72) (hq : q + 5 = j.val * 64 + l.val + t) (d : Fin 3072) :
    (if h : 3 ≤ q ∧ q - 3 < 2112 then p (ix3 b (⟨q - 3, h.2⟩ : Fin 2112) (⟨6144 + d.val, by omega⟩ : Fin 9216)) else 0)
      = rowsAt p b j.val (ix2 (⟨t + l.val, hl⟩ : Fin 72) d) := by
  have e : ∀ hd, rowsAt p b j.val (ix2 (⟨t + l.val, hl⟩ : Fin 72) d)
      = if 8 ≤ 64 * j.val + (t + l.val) then row p b (64 * j.val + (t + l.val) - 8) (⟨6144 + d.val, hd⟩ : Fin 9216) else 0 := fun _ => rfl
  rw [e (by omega)]
  unfold row
  by_cases h3 : 3 ≤ q
  · rw [if_pos (by omega)]
    by_cases h9 : q - 3 < 2112
    · rw [dif_pos ⟨h3, h9⟩, dif_pos (by omega)]
      exact congrArg (fun k => p (ix3 b k _)) (Fin.ext (by show q - 3 = 64 * j.val + (t + l.val) - 8; omega))
    · rw [dif_neg (fun h => h9 h.2), dif_neg (by omega)]
  · rw [dif_neg (fun h => h3 h.1), if_neg (by omega)]

theorem tap_last (q : ℕ) (hq : q = j.val * 64 + l.val) (d : Fin 3072) :
    (if h : q < 2112 then p (ix3 b (⟨q, h⟩ : Fin 2112) (⟨6144 + d.val, by omega⟩ : Fin 9216)) else 0)
      = rowsAt p b j.val (ix2 (⟨8 + l.val, by omega⟩ : Fin 72) d) := by
  rw [← tap p b j l 8 (q + 3) (by omega) (by omega) d]
  by_cases h : q < 2112
  · rw [dif_pos h, dif_pos (by omega)]
    rfl
  · rw [dif_neg h, dif_neg (by omega)]

theorem row_of {n : ℕ} (x : Vec Ideal ⟨3, ![4, 2112, n]⟩ .f32) (q : Fin 2112) (d : Fin n) (q' : ℕ) (h : q.val = q') :
    x (ix3 b q d) = row x b q' d := by
  rw [← h, row_eq]

/-- The mask on the sequence's positions is the chunk's. -/
theorem mask_eq : IntOp.cmpi .sge (BitVec.ofNat 32 (j.val * 64 + l.val)) 48#32 = msk j.val l.val := by
  unfold msk
  refine congrArg (IntOp.cmpi .sge · 48#32) ?_
  show _ = BitVec.ofNat 32 l.val + BitVec.ofNat 32 j.val * BitVec.ofNat 32 64
  rw [← BitVec.ofNat_mul, ← BitVec.ofNat_add, add_comm]

/-- A value times a mask read as a number is the mask's choice of it. -/
theorem mul_mask (v : EReal) (m : BitVec 1) : v * FloatOps.uitofp (F := Ideal) .f32 m = Scalar.select m v 0 := by
  rw [select_eq]
  show v * ((m.toNat : ℝ) : EReal) = _
  rcases (by decide : ∀ m : BitVec 1, m = 0#1 ∨ m = 1#1) m with rfl | rfl <;> simp

theorem sitofp_zero : FloatOps.sitofp (F := Ideal) .f32 0#32 = 0 := by
  show (((0#32 : BitVec 32).toInt : ℝ) : EReal) = 0
  simp

theorem v41 (d : Fin 3072) : A_main_v41 p w bi dt a D (ix3 b (⟨j.val * 64 + l.val, by omega⟩ : Fin 2112) d) = xc p w bi b j.val l d := by
  unfold A_main_v41 A_main_v39 A_main_call1_v5 A_main_call1_v3 A_main_call1_v1 A_main_call1_v0 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v12 A_main_v11 A_main_v10 A_main_v9 A_main_v8 A_main_v7 A_main_v6 A_main_v5
    K_main_v40 K_main_v4 K_main_v3 K_main_v2 K_main_v1 K_main_v0 K_main_c K_main_call1_v4 K_main_call1_v2 K_main_call1_cst K_main_call1_cst_0 K_main_v13 K_main_cst K_main_call0_v0 K_main_c_0
  pointwise
  simp only [sitofp_zero]
  have ec := cv_last (rowsAt p b j.val) w (w3 bi) l d
  rw [show w3 bi (ix2 0 d) = bi (ix1 d) from rfl] at ec
  have t0 := tap p b j l 5 (j.val * 64 + l.val) (by omega) (by omega) d
  have t1 := tap p b j l 6 (1 + (j.val * 64 + l.val)) (by omega) (by omega) d
  have t2 := tap p b j l 7 (2 + (j.val * 64 + l.val)) (by omega) (by omega) d
  have t3 := tap_last p b j l (j.val * 64 + l.val) rfl d
  simp only [t0, t1, t2, t3, ← ec]
  unfold xc xb
  rw [mul_mask, mask_eq, ← mul_sigm]
  rfl

theorem v52 : A_main_v52 p w bi dt a D (ix6 b j l g r pp)
    = xc p w bi b j.val l ⟨(g.val * 8 + r.val) * 64 + pp.val, by omega⟩ * row dt b (64 * j.val + l.val) ⟨g.val * 8 + r.val, by omega⟩ := by
  unfold A_main_v52 A_main_v51 A_main_v43 A_main_v50 A_main_v49 A_main_v48 A_main_v42
  pointwise
  rw [v41, row_of b dt _ _ (64 * j.val + l.val) (by show j.val * 64 + l.val = _; omega)]

theorem v45 : A_main_v45 p w bi dt a D (ix5 b j l g nn) = xc p w bi b j.val l ⟨2048 + (g.val * 128 + nn.val), by omega⟩ := by
  unfold A_main_v45 A_main_v44
  pointwise
  rw [v41]

theorem v47 : A_main_v47 p w bi dt a D (ix5 b j l g nn) = xc p w bi b j.val l ⟨2560 + (g.val * 128 + nn.val), by omega⟩ := by
  unfold A_main_v47 A_main_v46
  pointwise
  rw [v41]

theorem v55 : A_main_v55 p w bi dt a D (ix5 b g r j l) = row a b (64 * j.val + l.val) ⟨g.val * 8 + r.val, by omega⟩ := by
  unfold A_main_v55 A_main_v54 A_main_v53
  pointwise
  rw [row_of b a _ _ (64 * j.val + l.val) (by show j.val * 64 + l.val = _; omega)]

theorem v56 : A_main_v56 p w bi dt a D (ix5 b g j l x)
    = ∑ n : Fin 128, xc p w bi b j.val l ⟨2560 + (g.val * 128 + n.val), by omega⟩ * xc p w bi b j.val x ⟨2048 + (g.val * 128 + n.val), by omega⟩ := by
  unfold A_main_v56
  pointwise [dot_S4x33x64x4x128_S4x33x64x4x128_S4x4x33x64x64_4_4_2_2_031_031]
  exact Finset.sum_congr rfl fun n _ => by rw [v45, v47]

/-- The exponential of a difference that the mask replaces by `-∞`. -/
theorem mul_exp_select (v d : EReal) (m : BitVec 1) : v * Ideal.exp (Scalar.select m d ⊥) = Scalar.select m (v * Ideal.exp d) 0 := by
  rw [select_eq, select_eq]
  split_ifs <;> simp

theorem v73 : A_main_v73 p w bi dt a D (ix6 b g r j l x)
    = Scalar.select (IntOp.cmpi .sge (BitVec.ofNat 32 l.val) (BitVec.ofNat 32 x.val))
        ((∑ n : Fin 128, xc p w bi b j.val l ⟨2560 + (g.val * 128 + n.val), by omega⟩ * xc p w bi b j.val x ⟨2048 + (g.val * 128 + n.val), by omega⟩)
          * Ideal.exp (row a b (64 * j.val + l.val) ⟨g.val * 8 + r.val, by omega⟩ - row a b (64 * j.val + x.val) ⟨g.val * 8 + r.val, by omega⟩)) 0 := by
  unfold A_main_v73 A_main_v72 A_main_v71 A_main_v70 A_main_v69 A_main_v68 A_main_v67 A_main_v66 A_main_v65 A_main_v64 K_main_call2_v2 K_main_call2_v1 K_main_call2_v0 K_main_cst_1 K_main_v63 K_main_v62 K_main_v61 K_main_v60 K_main_v59 K_main_v58 K_main_v57
  pointwise
  rw [v56, v55, v55, ← mul_exp_select]
  refine congrArg (fun z => _ * Ideal.exp (Scalar.select _ _ z)) ?_
  show Ideal.ofBits .f32 0xFF800000#32 = ⊥
  simp [Ideal.ofBits, Ideal.ieee]

theorem v100_sum : A_main_v100 p w bi dt a D (ix6 j b l g r pp)
    = ∑ x : Fin 64, A_main_v52 p w bi dt a D (ix6 b j x g r pp) * A_main_v73 p w bi dt a D (ix6 b g r j l x) := by
  unfold A_main_v100 A_main_v75 A_main_v74
  pointwise [dot_S4x33x64x4x8x64_S4x4x8x33x64x64_S4x33x4x8x64x64_2_5_5_4_0134_0312]

theorem v100 : A_main_v100 p w bi dt a D (ix6 j b l g r pp)
    = ∑ x : Fin 64, Scalar.select (IntOp.cmpi .sge (BitVec.ofNat 32 l.val) (BitVec.ofNat 32 x.val))
        ((∑ n : Fin 128, xc p w bi b j.val l ⟨2560 + (g.val * 128 + n.val), by omega⟩ * xc p w bi b j.val x ⟨2048 + (g.val * 128 + n.val), by omega⟩)
          * Ideal.exp (row a b (64 * j.val + l.val) ⟨g.val * 8 + r.val, by omega⟩ - row a b (64 * j.val + x.val) ⟨g.val * 8 + r.val, by omega⟩)) 0
        * (xc p w bi b j.val x ⟨(g.val * 8 + r.val) * 64 + pp.val, by omega⟩ * row dt b (64 * j.val + x.val) ⟨g.val * 8 + r.val, by omega⟩) :=
  (v100_sum p w bi dt a D b j l g r pp).trans (Finset.sum_congr rfl fun x _ => by rw [v52, v73]; exact EReal.mul_comm _ _)

theorem v96 : A_main_v96 p w bi dt a D (ix6 j b g r pp nn)
    = ∑ x : Fin 64, xc p w bi b j.val x ⟨(g.val * 8 + r.val) * 64 + pp.val, by omega⟩ * row dt b (64 * j.val + x.val) ⟨g.val * 8 + r.val, by omega⟩
        * Ideal.exp (row a b (64 * j.val + 63) ⟨g.val * 8 + r.val, by omega⟩ - row a b (64 * j.val + x.val) ⟨g.val * 8 + r.val, by omega⟩)
        * xc p w bi b j.val x ⟨2048 + (g.val * 128 + nn.val), by omega⟩ := by
  unfold A_main_v96 A_main_v84 A_main_v83 A_main_v82 A_main_v81 A_main_v80 A_main_v79 A_main_v78 A_main_v77 A_main_v76
  pointwise [dot_S4x33x64x4x8x64_S4x33x64x4x128_S4x33x4x8x64x128_2_2_45_4_013_013]
  exact Finset.sum_congr rfl fun x _ => by rw [v52, v45, v55, v55]; rfl

theorem v97 : A_main_v97 p w bi dt a D (ix4 j b g r) = Ideal.exp (row a b (64 * j.val + 63) ⟨g.val * 8 + r.val, by omega⟩) := by
  unfold A_main_v97 A_main_v87 A_main_v86 A_main_v85
  pointwise
  rw [v55]
  rfl

theorem v98 : A_main_v98 p w bi dt a D (ix5 j b l g nn) = xc p w bi b j.val l ⟨2560 + (g.val * 128 + nn.val), by omega⟩ := by
  unfold A_main_v98
  pointwise
  rw [v47]

theorem v99 : A_main_v99 p w bi dt a D (ix5 j b l g r) = Ideal.exp (row a b (64 * j.val + l.val) ⟨g.val * 8 + r.val, by omega⟩) := by
  unfold A_main_v99 A_main_v89 A_main_v88
  pointwise
  rw [v55]

theorem v101 : A_main_v101 p w bi dt a D (ix6 j b l g r pp)
    = D (ix1 (⟨g.val * 8 + r.val, by omega⟩ : Fin 32)) * xc p w bi b j.val l ⟨(g.val * 8 + r.val) * 64 + pp.val, by omega⟩ := by
  unfold A_main_v101 A_main_v94 A_main_v93 A_main_v92 A_main_v91 A_main_v90 A_main_v43 A_main_v42
  pointwise
  rw [v41]

/-! ## A trip's values -/

section
variable (s : State Ideal)

theorem start_first : (BitVec.ofNat 32 j.val).toInt = (j.val : ℤ) := toInt_ofNat_of_lt (by omega)

/-- One entry of a table along its first axis lies inside it. -/
theorem slices_state : S33x4x4x8x64x128.Slices ![j.val, 0, 0, 0, 0, 0] S1x4x4x8x64x128 :=
  ⟨rfl, fun k => match k with
    | ⟨0, _⟩ => by show j.val + 1 ≤ 33; omega
    | ⟨1, _⟩ => le_rfl | ⟨2, _⟩ => le_rfl | ⟨3, _⟩ => le_rfl | ⟨4, _⟩ => le_rfl | ⟨5, _⟩ => le_rfl⟩

theorem slices_rates : S33x4x4x8.Slices ![j.val, 0, 0, 0] S1x4x4x8 :=
  ⟨rfl, fun k => match k with
    | ⟨0, _⟩ => by show j.val + 1 ≤ 33; omega
    | ⟨1, _⟩ => le_rfl | ⟨2, _⟩ => le_rfl | ⟨3, _⟩ => le_rfl⟩

theorem slices_cols : S33x4x64x4x128.Slices ![j.val, 0, 0, 0, 0] S1x4x64x4x128 :=
  ⟨rfl, fun k => match k with
    | ⟨0, _⟩ => by show j.val + 1 ≤ 33; omega
    | ⟨1, _⟩ => le_rfl | ⟨2, _⟩ => le_rfl | ⟨3, _⟩ => le_rfl | ⟨4, _⟩ => le_rfl⟩

theorem slices_heads : S33x4x64x4x8.Slices ![j.val, 0, 0, 0, 0] S1x4x64x4x8 :=
  ⟨rfl, fun k => match k with
    | ⟨0, _⟩ => by show j.val + 1 ≤ 33; omega
    | ⟨1, _⟩ => le_rfl | ⟨2, _⟩ => le_rfl | ⟨3, _⟩ => le_rfl | ⟨4, _⟩ => le_rfl⟩

theorem slices_rows : S33x4x64x4x8x64.Slices ![j.val, 0, 0, 0, 0, 0] S1x4x64x4x8x64 :=
  ⟨rfl, fun k => match k with
    | ⟨0, _⟩ => by show j.val + 1 ≤ 33; omega
    | ⟨1, _⟩ => le_rfl | ⟨2, _⟩ => le_rfl | ⟨3, _⟩ => le_rfl | ⟨4, _⟩ => le_rfl | ⟨5, _⟩ => le_rfl⟩

/-- Entry `j` of a table along its first axis, read at an index. -/
theorem b6_apply : b6 j.val s (ix5 b g r pp nn) = s.main_v103_0 (ix6 j b g r pp nn) := by
  unfold b6
  pointwise
  unfold b5
  refine (congrFun (Host.dynamicSlice_eq_extractStridedSlice _ _ _ ![j.val, 0, 0, 0, 0, 0] _
    (slices_state j)
    (fun k => match k with
      | ⟨0, _⟩ => start_first j
      | ⟨1, _⟩ => rfl | ⟨2, _⟩ => rfl | ⟨3, _⟩ => rfl | ⟨4, _⟩ => rfl | ⟨5, _⟩ => rfl)) _).trans ?_
  pointwise

theorem b11_apply : b11 j.val s (ix3 b g r) = s.main_v103_1 (ix4 j b g r) := by
  unfold b11
  pointwise
  unfold b10
  refine (congrFun (Host.dynamicSlice_eq_extractStridedSlice _ _ _ ![j.val, 0, 0, 0] _
    (slices_rates j)
    (fun k => match k with
      | ⟨0, _⟩ => start_first j
      | ⟨1, _⟩ => rfl | ⟨2, _⟩ => rfl | ⟨3, _⟩ => rfl)) _).trans ?_
  pointwise

theorem b17_apply : b17 j.val s (ix4 b l g nn) = s.main_v103_2 (ix5 j b l g nn) := by
  unfold b17
  pointwise
  unfold b16
  refine (congrFun (Host.dynamicSlice_eq_extractStridedSlice _ _ _ ![j.val, 0, 0, 0, 0] _
    (slices_cols j)
    (fun k => match k with
      | ⟨0, _⟩ => start_first j
      | ⟨1, _⟩ => rfl | ⟨2, _⟩ => rfl | ⟨3, _⟩ => rfl | ⟨4, _⟩ => rfl)) _).trans ?_
  pointwise

theorem b23_apply : b23 j.val s (ix4 b l g r) = s.main_v103_3 (ix5 j b l g r) := by
  unfold b23
  pointwise
  unfold b22
  refine (congrFun (Host.dynamicSlice_eq_extractStridedSlice _ _ _ ![j.val, 0, 0, 0, 0] _
    (slices_heads j)
    (fun k => match k with
      | ⟨0, _⟩ => start_first j
      | ⟨1, _⟩ => rfl | ⟨2, _⟩ => rfl | ⟨3, _⟩ => rfl | ⟨4, _⟩ => rfl)) _).trans ?_
  pointwise

theorem b30_apply : b30 j.val s (ix5 b l g r pp) = s.main_v103_4 (ix6 j b l g r pp) := by
  unfold b30
  pointwise
  unfold b29
  refine (congrFun (Host.dynamicSlice_eq_extractStridedSlice _ _ _ ![j.val, 0, 0, 0, 0, 0] _ (slices_rows j)
    (fun k => match k with
      | ⟨0, _⟩ => start_first j
      | ⟨1, _⟩ => rfl | ⟨2, _⟩ => rfl | ⟨3, _⟩ => rfl | ⟨4, _⟩ => rfl | ⟨5, _⟩ => rfl)) _).trans ?_
  pointwise

theorem b37_apply : b37 j.val s (ix5 b l g r pp) = s.main_v103_5 (ix6 j b l g r pp) := by
  unfold b37
  pointwise
  unfold b36
  refine (congrFun (Host.dynamicSlice_eq_extractStridedSlice _ _ _ ![j.val, 0, 0, 0, 0, 0] _ (slices_rows j)
    (fun k => match k with
      | ⟨0, _⟩ => start_first j
      | ⟨1, _⟩ => rfl | ⟨2, _⟩ => rfl | ⟨3, _⟩ => rfl | ⟨4, _⟩ => rfl | ⟨5, _⟩ => rfl)) _).trans ?_
  pointwise

theorem b46_apply : b46 j.val s (ix5 b g r pp nn)
    = s.main_v103_7 (ix5 b g r pp nn) * s.main_v103_1 (ix4 j b g r) + s.main_v103_0 (ix6 j b g r pp nn) := by
  unfold b46 b45 b44 b43
  pointwise
  rw [b6_apply, b11_apply]

theorem b48_apply : b48 j.val s (ix5 b l g r pp)
    = s.main_v103_4 (ix6 j b l g r pp) + (∑ n : Fin 128, s.main_v103_2 (ix5 j b l g n) * s.main_v103_7 (ix5 b g r pp n)) * s.main_v103_3 (ix5 j b l g r)
      + s.main_v103_5 (ix6 j b l g r pp) := by
  unfold b48 b47 b42 b41 b40 b39 b38
  pointwise [dot_S4x4x8x64x128_S4x64x4x128_S4x4x8x64x64_4_3_23_1_01_02]
  rw [b30_apply, b37_apply, b23_apply]
  refine congrArg (· + _) (congrArg (_ + ·) (congrArg (· * _) (Finset.sum_congr rfl fun n _ => ?_)))
  rw [b17_apply]
  exact EReal.mul_comm _ _

/-- A trip writes its own chunk's output. -/
theorem b55_apply (i : Fin 33) : b55 j.val s (ix6 i b l g r pp) = if i = j then b48 j.val s (ix5 b l g r pp) else s.main_v103_8 (ix6 i b l g r pp) := by
  unfold b55
  refine (congrFun (Host.dynamicUpdateSlice_eq_updateSlice _ _ _ _ ![j.val, 0, 0, 0, 0, 0]
    (fun k => match k with
      | ⟨0, _⟩ => by show (min (max (BitVec.ofNat 32 j.val).toInt 0) ((33 - 1 : ℕ) : ℤ)).toNat = j.val; rw [start_first]; omega
      | ⟨1, _⟩ => rfl | ⟨2, _⟩ => rfl | ⟨3, _⟩ => rfl | ⟨4, _⟩ => rfl | ⟨5, _⟩ => rfl) (slices_rows j)) _).trans ?_
  pointwise
  by_cases hij : i = j
  · subst hij
    rw [dif_pos ⟨le_rfl, Nat.lt_succ_self _⟩, if_pos rfl]
    unfold b49
    pointwise
  · rw [dif_neg (fun h => hij (Fin.ext (by omega))), if_neg hij]

end

/-! ## The loop's buffers -/

section
variable (m : (ℓ : Loc nD τ sig) → Buf (Elt Ideal) ℓ) (c : Dev nD)

open Cert.SsdRefIdeal.Loop (states)

/-- The arguments. -/
abbrev P := m ((c.tc : Thread nD τ).loc main_arg0)
abbrev W := m ((c.tc : Thread nD τ).loc main_arg1)
abbrev BI := m ((c.tc : Thread nD τ).loc main_arg2)
abbrev DT := m ((c.tc : Thread nD τ).loc main_arg3)
abbrev AA := m ((c.tc : Thread nD τ).loc main_arg4)
abbrev DD := m ((c.tc : Thread nD τ).loc main_arg5)

/-- No trip changes what it reads. -/
theorem tables (n : ℕ) :
    (states m c n).main_v103_0 = A_main_v96 (P m c) (W m c) (BI m c) (DT m c) (AA m c) (DD m c)
    ∧ (states m c n).main_v103_1 = A_main_v97 (P m c) (W m c) (BI m c) (DT m c) (AA m c) (DD m c)
    ∧ (states m c n).main_v103_2 = A_main_v98 (P m c) (W m c) (BI m c) (DT m c) (AA m c) (DD m c)
    ∧ (states m c n).main_v103_3 = A_main_v99 (P m c) (W m c) (BI m c) (DT m c) (AA m c) (DD m c)
    ∧ (states m c n).main_v103_4 = A_main_v100 (P m c) (W m c) (BI m c) (DT m c) (AA m c) (DD m c)
    ∧ (states m c n).main_v103_5 = A_main_v101 (P m c) (W m c) (BI m c) (DT m c) (AA m c) (DD m c) := by
  induction n with
  | zero => exact ⟨rfl, rfl, rfl, rfl, rfl, rfl⟩
  | succ n ih => exact ih

theorem state_zero : (states m c 0).main_v103_7 (ix5 b g r pp nn) = 0 := by
  show K_main_v95 (F := Ideal) (ix5 b g r pp nn) = 0
  unfold K_main_v95 K_main_cst_2
  pointwise

/-- The carried state before trip `n` is the scan's before chunk `n`. -/
theorem state_eq (n : ℕ) (hn : n ≤ 33) : ∀ b g r pp nn, (states m c n).main_v103_7 (ix5 b g r pp nn)
    = stateAt (P m c) (W m c) (BI m c) (DT m c) (AA m c) b n (ix3 g (⟨r.val * 64 + pp.val, by omega⟩ : Fin 512) nn) := by
  induction n with
  | zero => exact fun b g r pp nn => state_zero b g r pp nn m c
  | succ n ih =>
    intro b g r pp nn
    have hs : (states m c (n + 1)).main_v103_7 = b46 n (states m c n) := step_main_v103_7 n _
    obtain ⟨t0, t1, -⟩ := tables m c n
    rw [hs]
    refine (b46_apply b ⟨n, by omega⟩ g r pp nn (states m c n)).trans ?_
    rw [ih (by omega), t0, t1, v96, v97]
    exact (stateAt_succ _ _ _ _ _ b n g r pp nn).symm

/-- Trip `n` leaves chunk `n`'s output, and later trips leave it there. -/
theorem out_eq (n : ℕ) (hn : n ≤ 33) (i : Fin 33) (hi : i.val < n) : ∀ b l g r pp, (states m c n).main_v103_8 (ix6 i b l g r pp)
    = outAt (P m c) (W m c) (BI m c) (DT m c) (AA m c) (DD m c) b i.val (ix3 (0 : Fin 1) l (⟨(g.val * 8 + r.val) * 64 + pp.val, by omega⟩ : Fin 2048)) := by
  induction n with
  | zero => omega
  | succ n ih =>
    intro b l g r pp
    have hs : (states m c (n + 1)).main_v103_8 = b55 n (states m c n) := step_main_v103_8 n _
    rw [hs]
    refine (b55_apply b ⟨n, by omega⟩ l g r pp (states m c n) i).trans ?_
    by_cases h : i = ⟨n, by omega⟩
    · rw [if_pos h]
      rw [show i.val = n from congrArg Fin.val h]
      obtain ⟨-, -, t2, t3, t4, t5⟩ := tables m c n
      refine (b48_apply b ⟨n, by omega⟩ l g r pp (states m c n)).trans ?_
      rw [t2, t3, t4, t5, v99, v100, v101]
      refine Eq.trans ?_ (outAt_apply _ _ _ _ _ _ b n l g r pp).symm
      refine congrArg (· + _) (congrArg (_ + ·) (congrArg (· * _) (Finset.sum_congr rfl fun x _ => ?_)))
      rw [state_eq m c n (by omega), v98]
    · rw [if_neg h]
      exact ih (by omega) (by have : i.val ≠ n := fun e => h (Fin.ext e); omega) b l g r pp

/-- The reference's result. -/
theorem result_apply (b : Fin 4) (q col : Fin 2048) : R_main_v106 (states m c 33) (ix3 b q col)
    = outAt (P m c) (W m c) (BI m c) (DT m c) (AA m c) (DD m c) b (q.val / 64 + 1) (ix3 (0 : Fin 1) (⟨q.val % 64, by omega⟩ : Fin 64) col) := by
  unfold R_main_v106
  pointwise
  have e1 : (64 + q.val) / 64 = q.val / 64 + 1 := by omega
  have e2 : (64 + q.val) % 64 = q.val % 64 := by omega
  have e3 : (col.val / 512 * 8 + col.val / 64 % 8) * 64 + col.val % 64 = col.val := by omega
  refine (out_eq m c 33 le_rfl ⟨(64 + q.val) / 64, by omega⟩ (by show (64 + q.val) / 64 < 33; omega) b ⟨(64 + q.val) % 64, by omega⟩
    ⟨col.val / 512, by omega⟩ ⟨col.val / 64 % 8, by omega⟩ ⟨col.val % 64, by omega⟩).trans ?_
  simp only [e1, e2, e3]

end

end Cert.SsdRefIdeal.Chunks

end
-- ==== Proof.SsdValue.lean ====
/- The scan's result is the reference's: every point's blocks over the run of the grid, the result's array, and the claim. -/
module

public import proofs.«01_k».proof.Defs
public import proofs.«01_k».proof.Proof.SsdBlocks
public import proofs.«01_k».proof.Proof.SsdNext
public import proofs.«01_k».proof.Proof.SsdStateA
public import proofs.«01_k».proof.Proof.SsdStateB
public import proofs.«01_k».proof.Proof.SsdOutB
public import proofs.«01_k».proof.Proof.SsdChunks

@[expose] public section

set_option maxRecDepth 16384

noncomputable section

open Idealize.ShloMosaic Idealize.ShloMosaic.TcCoe Idealize.SL.Sem
open Idealize.ShloMosaic.Pipeline (Dat)

/-! ## The blocks a point leaves -/

namespace Cert.SsdIdeal.RefValue

open Cert.SsdIdeal Cert.SsdIdeal.Gen Cert.SsdIdeal.Value

variable (m : (ℓ : Loc nD τ sig) → Buf (Elt Ideal) ℓ) (c : Dev nD)

/-- The states between a sequence's chunks and a chunk's output, of this call's arguments. -/
abbrev stOf (b : Fin 4) (j : ℕ) : Vec Ideal S4x512x128 .f32 := stateAt (argP m c) (argW m c) (argB m c) (argT m c) (argA m c) b j
abbrev outOf (b : Fin 4) (j : ℕ) : Vec Ideal S1x64x2048 .f32 := outAt (argP m c) (argW m c) (argB m c) (argT m c) (argA m c) (argD m c) b j

theorem first_rows (t : Fin cfg0.N) (h0 : t.val % 33 = 0) :
    pad (fun _ => 0) (X0_0 m c t) (iblk m c 1 t) = rowsAt (argP m c) (seqOf t) (t.val % 33) :=
  pad_eq m c t _ fun y hy => by rw [h0]; exact halo_zero _ _ y hy

theorem next_rows (t : Fin cfg0.N) (j : ℕ) (h : t.val % 33 = j + 1) :
    pad (padNext (rowsAt (argP m c) (seqOf t) j)) (X0_0 m c t) (iblk m c 1 t) = rowsAt (argP m c) (seqOf t) (t.val % 33) :=
  pad_eq m c t _ fun y hy => by rw [h]; exact halo_next _ j _ y hy

/-- What a row's first point leaves for the next. -/
theorem carried_first (t : Fin cfg0.N) (h0 : t.val % 33 = 0) :
    (outsAt0 m c t.val t.isLt).2.1 = padNext (rowsAt (argP m c) (seqOf t) (t.val % 33))
    ∧ (outsAt0 m c t.val t.isLt).2.2 = stOf m c (seqOf t) (t.val % 33 + 1) := by
  rw [outsAt0_A m c t h0]
  dsimp only
  rw [rows_A, state_A, first_rows m c t h0, coord1, blk2, blk3, blk4, blk5, blk6, h0]
  exact ⟨rfl, rfl⟩

/-- A later point, over what the point before left. -/
theorem carried_next (t : Fin cfg0.N) (j : ℕ) (h : t.val % 33 = j + 1) (xs0 : Vec Ideal S72x3072 .f32) (xs1 : Vec Ideal S4x512x128 .f32)
    (e0 : xs0 = padNext (rowsAt (argP m c) (seqOf t) j)) (e1 : xs1 = stOf m c (seqOf t) (j + 1)) :
    padNext (pad xs0 (X0_0 m c t) (iblk m c 1 t)) = padNext (rowsAt (argP m c) (seqOf t) (t.val % 33))
    ∧ stNew (grid0.coords t 1).val (pad xs0 (X0_0 m c t) (iblk m c 1 t)) (iblk m c 2 t) (iblk m c 3 t) (iblk m c 4 t) (iblk m c 5 t) (iblk m c 6 t) xs1
        = stOf m c (seqOf t) (t.val % 33 + 1)
    ∧ yNew (grid0.coords t 1).val (pad xs0 (X0_0 m c t) (iblk m c 1 t)) (iblk m c 2 t) (iblk m c 3 t) (iblk m c 4 t) (iblk m c 5 t) (iblk m c 6 t) (iblk m c 7 t) xs1
        = outOf m c (seqOf t) (t.val % 33) := by
  subst e0 e1
  rw [next_rows m c t j h, coord1, blk2, blk3, blk4, blk5, blk6, blk7, h]
  exact ⟨rfl, rfl, rfl⟩

/-- After every point the carried rows and the carried state are the chunk's. -/
theorem carried (n : ℕ) : ∀ hn : n < cfg0.N,
    (outsAt0 m c n hn).2.1 = padNext (rowsAt (argP m c) (seqOf ⟨n, hn⟩) (n % 33))
    ∧ (outsAt0 m c n hn).2.2 = stOf m c (seqOf ⟨n, hn⟩) (n % 33 + 1) := by
  induction n with
  | zero => exact fun hn => carried_first m c ⟨0, hn⟩ rfl
  | succ n ih =>
    intro hn
    by_cases h0 : (n + 1) % 33 = 0
    · exact carried_first m c ⟨n + 1, hn⟩ h0
    · obtain ⟨i0, i1⟩ := ih (by omega)
      have hs : seqOf (⟨n, by omega⟩ : Fin cfg0.N) = seqOf (⟨n + 1, hn⟩ : Fin cfg0.N) := Fin.ext (by show n / 33 = (n + 1) / 33; omega)
      rw [hs] at i0 i1
      obtain ⟨k0, k1, -⟩ := carried_next m c ⟨n + 1, hn⟩ (n % 33) (by show (n + 1) % 33 = n % 33 + 1; omega) _ _ i0 i1
      rw [outsAt0_B m c ⟨n + 1, hn⟩ h0]
      dsimp only
      rw [rows_B, state_B]
      exact ⟨k0, k1⟩

/-- A later point's output block. -/
theorem block_out (t : Fin cfg0.N) (h0 : ¬t.val % 33 = 0) : (outsAt0 m c t.val t.isLt).1 = outOf m c (seqOf t) (t.val % 33) := by
  have ht : t.val < 132 := t.isLt
  obtain ⟨i0, i1⟩ := carried m c (t.val - 1) (by have := t.isLt; omega)
  have hs : seqOf (⟨t.val - 1, by have := t.isLt; omega⟩ : Fin cfg0.N) = seqOf t := Fin.ext (by show (t.val - 1) / 33 = t.val / 33; omega)
  rw [hs] at i0 i1
  obtain ⟨-, -, k⟩ := carried_next m c t ((t.val - 1) % 33) (by omega) _ _ i0 i1
  rw [outsAt0_B m c t h0]
  dsimp only
  rw [out_B]
  exact k

/-! ## The result's array -/

/-- The result: a position's row is in the chunk after the one its number names. -/
def result : Vec Ideal S4x2048x2048 .f32 := fun i =>
  outOf m c (i 0) ((i 1).val / 64 + 1) (ix3 (0 : Fin 1) (⟨(i 1).val % 64, by omega⟩ : Fin 64) (i 2))

theorem flush8 : ∀ t : Fin grid0.N, win0_8.flush t = true ↔ ¬t.val % 33 = 0 := by decide +kernel

theorem flushed_eq (t : Fin cfg0.N) (hf : (cfg0.win 8).flush t = true) :
    (dats m 0 c).flushed 8 t = ((cfg0.win 8).blk t).view.read (Elt Ideal) (result m c) := by
  have h0 := (flush8 t).mp hf
  obtain ⟨e0, e1, e2⟩ := idxO t
  have ht : t.val < 132 := t.isLt
  rw [flushed8, block_out m c t h0]
  funext y
  have y0 : (y 0).val < 1 := (y 0).isLt
  have y1 : (y 1).val < 64 := (y 1).isLt
  have y2 : (y 2).val < 2048 := (y 2).isLt
  have k0 : (((cfg0.win 8).blk t).view.emb y 0).val = t.val / 33 := by
    show win0_8.index t 0 * 1 + 1 * (y 0).val = _; rw [e0]; omega
  have k1 : (((cfg0.win 8).blk t).view.emb y 1).val = (t.val % 33 - 1) * 64 + (y 1).val := by
    show win0_8.index t 1 * 64 + 1 * (y 1).val = _; rw [e1]; omega
  have k2 : (((cfg0.win 8).blk t).view.emb y 2).val = (y 2).val := by
    show win0_8.index t 2 * 2048 + 1 * (y 2).val = _; rw [e2]; omega
  show outOf m c (seqOf t) (t.val % 33) ((cfg0.win 8).xinj (grid0.coords t) y) = result m c (((cfg0.win 8).blk t).view.emb y)
  generalize ((cfg0.win 8).blk t).view.emb y = i at k0 k1 k2
  have hb : (i 0 : Fin 4) = seqOf t := Fin.ext k0
  have hq : (i 1).val / 64 + 1 = t.val % 33 := by omega
  unfold result
  rw [hb, hq]
  refine congrArg (outOf m c (seqOf t) (t.val % 33)) (funext fun a => Fin.ext ?_)
  match a with
  | ⟨0, _⟩ => show (y 0).val = 0; omega
  | ⟨1, _⟩ => show (y 1).val = (i 1).val % 64; omega
  | ⟨2, _⟩ => exact k2.symm

theorem covered (i : S4x2048x2048.Idx) : ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 2048 := (i 2).isLt
  obtain ⟨t, ht⟩ : ∃ t : Fin cfg0.N, t.val = 33 * (i 0).val + ((i 1).val / 64 + 1) :=
    ⟨⟨33 * (i 0).val + ((i 1).val / 64 + 1), lt_of_lt_of_eq (by omega) N_0.symm⟩, rfl⟩
  obtain ⟨e0, e1, e2⟩ := idxO t
  refine ⟨t, (flush8 t).mpr (by omega), ?_⟩
  show i ∈ ((View.whole main_v7).slice (win0_8.rect t)).set
  rw [View.set_slice_whole, Rect.mem_set_unit]
  intro a
  match a with
  | ⟨0, _⟩ => show win0_8.index t 0 * 1 ≤ (i 0).val ∧ (i 0).val < win0_8.index t 0 * 1 + 1; omega
  | ⟨1, _⟩ => show win0_8.index t 1 * 64 ≤ (i 1).val ∧ (i 1).val < win0_8.index t 1 * 64 + 64; omega
  | ⟨2, _⟩ => show win0_8.index t 2 * 2048 ≤ (i 2).val ∧ (i 2).val < win0_8.index t 2 * 2048 + 2048; omega

theorem final_eq : (dats m 0 c).arrAt 8 cfg0.N = result m c :=
  (dats m 0 c).arrAt_eq_of_cover 8 _ (fun t h => flushed_eq m c t h) covered

theorem result_apply (b : Fin 4) (q k : Fin 2048) :
    result m c (ix3 b q k) = outOf m c b (q.val / 64 + 1) (ix3 (0 : Fin 1) (⟨q.val % 64, by omega⟩ : Fin 64) k) := rfl

/-! ## The claim -/

theorem outAt_congr {p p' : Vec Ideal S4x2112x9216 .f32} {w w' : Vec Ideal S4x3072 .f32} {bi bi' : Vec Ideal S3072 .f32}
    {dt dt' a a' : Vec Ideal S4x2112x128 .f32} {D D' : Vec Ideal S32 .f32} (hp : p = p') (hw : w = w') (hb : bi = bi') (ht : dt = dt') (ha : a = a')
    (hD : D = D') (b : Fin 4) (j : ℕ) (y : S1x64x2048.Idx) : outAt p w bi dt a D b j y = outAt p' w' bi' dt' a' D' b j y := by
  rw [hp, hw, hb, ht, ha, hD]

theorem algebraic : Cert.algebraic_SsdIdeal_SsdRefIdeal := by
  intro m ρ m' ρ' _ hag
  refine ⟨fun c => result m c, ?_, ?_⟩
  · exact (θ_run Cert.SsdIdeal.defs _ _).mono (fun _ h c => ⟨(h c).1.trans (final_eq m c), (h c).2⟩)
      (Cert.SsdIdeal.Value.run_blocks (F := Ideal) m ρ)
  refine (θ_run Cert.SsdRefIdeal.defs _ _).mono (fun _ h c => ⟨(h c).1.trans ?_, (h c).2⟩)
    (Cert.SsdRefIdeal.Loop.run (F := Ideal) m' ρ')
  obtain ⟨g0, g1, g2, g3, g4, g5⟩ := hag c
  funext i
  obtain ⟨b, q, k, rfl⟩ : ∃ (b : Fin 4) (q k : Fin 2048), i = ix3 b q k :=
    ⟨i 0, i 1, i 2, funext fun a => match a with | ⟨0, _⟩ => rfl | ⟨1, _⟩ => rfl | ⟨2, _⟩ => rfl⟩
  refine Eq.trans ?_ (result_apply m c b q k).symm
  exact (Cert.SsdRefIdeal.Chunks.result_apply m' c b q k).trans (outAt_congr g0 g1 g2 g3 g4 g5 _ _ _)

end Cert.SsdIdeal.RefValue

end
-- ==== Proof.InScanValue.lean ====
module

public import proofs.«01_k».proof.Defs
public import proofs.«01_k».proof.Proof.Gen.InScanIdeal.Value
public import proofs.«01_k».proof.Proof.Gen.InScanRefIdeal.Run
public import proofs.«01_k».proof.Proof.Gen.InScanRefIdeal.Read
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InScanIdeal.RefValue

open Cert.InScanIdeal Cert.InScanIdeal.Gen Cert.InScanIdeal.Value

theorem hz : (![0, 0] : Fin 2 → Nat) = fun _ => 0 := funext fun a => by fin_cases a <;> rfl

section
variable {F : FTy → Type} [FloatOps F]

theorem out_B (c : Dev nD) (i : grid0.Coords) (a2 : Memref sig .tc .vmem S768x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S768x1024 .f32) (h5 : a5.IsWhole) (a6 : Memref sig .tc .vmem S768x2048 .bf16) (h6 : a6.IsWhole)
    (hc : ¬cond0_0 i) (x0 : Vec F S768x2048 .f32) (x1 : Vec F S1x2048 .f32) (x2 : Vec F S2048x1024 .bf16) (xs : Vec F S768x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S768x2048) hz, View.ld_unit_zero (S := S2048x1024) hz]

theorem sout_A (c : Dev nD) (i : grid0.Coords) (a2 : Memref sig .tc .vmem S768x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S768x1024 .f32) (h5 : a5.IsWhole) (a6 : Memref sig .tc .vmem S768x2048 .bf16) (h6 : a6.IsWhole)
    (hc : cond0_0 i) (x0 : Vec F S768x2048 .f32) (x1 : Vec F S1x2048 .f32) (x2 : Vec F S2048x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, h6.read_unread,
    View.ld_unit_zero (S := S768x2048) hz, View.ld_unit_zero (S := S1x2048) hz]

theorem out_A (c : Dev nD) (i : grid0.Coords) (a2 : Memref sig .tc .vmem S768x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S768x1024 .f32) (h5 : a5.IsWhole) (a6 : Memref sig .tc .vmem S768x2048 .bf16) (h6 : a6.IsWhole)
    (hc : cond0_0 i) (x0 : Vec F S768x2048 .f32) (x1 : Vec F S1x2048 .f32) (x2 : Vec F S2048x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S768x2048) _ hz]
  simp only [View.readAt_eq_ld, h2.read_unread, h3.read_unread, h4.read_unread, h6.read_unread,
    View.ld_unit_zero (S := S768x2048) hz, View.ld_unit_zero (S := S1x2048) hz, View.ld_unit_zero (S := S2048x1024) hz]

end

/-- A row, divided by the root of its mean square plus the constant, times the gain. -/
def norm (x g : Fin 2048 → EReal) (k : Fin 2048) : EReal :=
  x k * Ideal.rsqrt (Ideal.div (∑ k', x k' * x k') (Ideal.ofBits .f32 0x45000000#32) + Ideal.ofBits .f32 0x358637BD#32) * g k

theorem pay1_apply (x : Vec Ideal S768x2048 .f32) (g : Vec Ideal S1x2048 .f32) (r : Fin 768) (k : Fin 2048) :
    k0_pay1 x g (ix2 r k) = norm (fun k => x (ix2 r k)) (fun k => g (ix2 0 k)) k := by
  unfold_payloads
  pointwise
  rfl

theorem pay2_apply (x : Vec Ideal S768x2048 .bf16) (w : Vec Ideal S2048x1024 .bf16) (r : Fin 768) (j : Fin 1024) :
    k0_pay2 x w (ix2 r j) = ∑ k : Fin 2048, x (ix2 r k) * w (ix2 k j) := by
  unfold_payloads
  pointwise [dot_S768x2048_S2048x1024_S768x1024_1_0_0_1_n_n]

variable (m : (ℓ : Loc nD τ sig) → Buf (Elt Ideal) ℓ) (ρ : Dev nD → PrngReg)

/-- The arguments, as the value speaks of them. -/
abbrev X (c : Dev nD) (r : Fin 8448) (k : Fin 2048) : EReal := (m ((c : Thread nD τ).loc main_arg0) : Vec Ideal S8448x2048 .f32) (ix2 r k)
abbrev gain (c : Dev nD) (k : Fin 2048) : EReal := (m ((c : Thread nD τ).loc main_arg1) : Vec Ideal S2048 .f32) (ix1 k)
abbrev W (c : Dev nD) (k : Fin 2048) (j : Fin 9216) : EReal := (m ((c : Thread nD τ).loc main_arg2) : Vec Ideal S2048x9216 .f32) (ix2 k j)

theorem V_w (c : Dev nD) (k : Fin 2048) (j : Fin 9216) : (V m c main_v0 : Vec Ideal S2048x9216 .bf16) (ix2 k j) = W m c k j := by
  have e : @Eq (FVec Ideal S2048x9216 .bf16) (V m c main_v0)
      (truncf .bf16 (m ((c : Thread nD τ).loc main_arg2) : FVec Ideal S2048x9216 .f32) bitsLt_bf16_f32) := by
    unfold V; after_results
  rw [e]; rfl

theorem V_g (c : Dev nD) (k : Fin 2048) : (V m c main_v1 : Vec Ideal S1x2048 .f32) (ix2 0 k) = gain m c k := by
  have e : (V m c main_v1 : Vec Ideal S1x2048 .f32) = shapeCast S1x2048 (m ((c : Thread nD τ).loc main_arg1) : Vec Ideal S2048 .f32) shapeCasts_S2048_S1x2048 := by
    unfold V; after_results; rfl
  rw [e]; pointwise

/-! The windows' blocks. -/

theorem idx0 : ∀ t : Fin grid0.N, win0_0.index t 0 = t.val / 9 ∧ win0_0.index t 1 = 0 ∧ win0_1.index t 0 = 0 ∧ win0_1.index t 1 = 0
    ∧ win0_2.index t 0 = 0 ∧ win0_2.index t 1 = t.val % 9 := by decide +kernel

theorem blk0 (c : Dev nD) (t : Fin cfg0.N) (r : Fin 768) (k : Fin 2048) (R : Fin 8448) (hR : R.val = t.val / 9 * 768 + r.val) :
    (iblk m c 0 t : Vec Ideal S768x2048 .f32) (ix2 r k) = X m c R k := by
  obtain ⟨e0, e1, -⟩ := idx0 t
  unfold iblk
  rw [View.read_apply]
  show V m c main_arg0 _ = m (c.tc.loc main_arg0) _
  rw [V_main_arg0]
  congr 1
  funext a
  apply Fin.ext
  match a with
  | ⟨0, _⟩ => show win0_0.index t 0 * 768 + 1 * r.val = R.val; rw [e0]; omega
  | ⟨1, _⟩ => show win0_0.index t 1 * 2048 + 1 * k.val = k.val; rw [e1]; omega

theorem blk1 (c : Dev nD) (t : Fin cfg0.N) (k : Fin 2048) :
    (iblk m c 1 t : Vec Ideal S1x2048 .f32) (ix2 0 k) = gain m c k := by
  obtain ⟨-, -, e0, e1, -⟩ := idx0 t
  rw [← V_g]
  unfold iblk
  rw [View.read_apply]
  show V m c main_v1 _ = V m c main_v1 _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem blk2 (c : Dev nD) (t : Fin cfg0.N) (k : Fin 2048) (j : Fin 1024) (J : Fin 9216) (hJ : J.val = t.val % 9 * 1024 + j.val) :
    (iblk m c 2 t : Vec Ideal S2048x1024 .bf16) (ix2 k j) = W m c k J := by
  obtain ⟨-, -, -, -, e0, e1⟩ := idx0 t
  rw [← V_w]
  unfold iblk
  rw [View.read_apply]
  show V m c main_v0 _ = V m c main_v0 _
  congr 1
  funext a
  apply Fin.ext
  match a with
  | ⟨0, _⟩ => show win0_2.index t 0 * 2048 + 1 * k.val = k.val; rw [e0]; omega
  | ⟨1, _⟩ => show win0_2.index t 1 * 1024 + 1 * j.val = J.val; rw [e1]; omega

/-- After every point the scratch holds the normalised rows of the point's row tile. -/
theorem scratch_eq (c : Dev nD) (n : ℕ) (hn : n < cfg0.N) (r : Fin 768) (k : Fin 2048) (R : Fin 8448) (hR : R.val = n / 9 * 768 + r.val) :
    (outsAt0 m c n hn).2 (ix2 r k) = norm (X m c R) (gain m c) k := by
  induction n with
  | zero =>
    rw [outsAt0_A m c ⟨0, hn⟩ rfl]
    dsimp only
    rw [sout_A, pay1_apply]
    congr 1
    · funext k; exact blk0 m c _ r k R hR
    · funext k; exact blk1 m c _ k
  | succ n ih =>
    by_cases h : (n + 1) % 9 = 0
    · rw [outsAt0_A m c ⟨n + 1, hn⟩ h]
      dsimp only
      rw [sout_A, pay1_apply]
      congr 1
      · funext k; exact blk0 m c _ r k R hR
      · funext k; exact blk1 m c _ k
    · rw [outsAt0_B m c ⟨n + 1, hn⟩ h]
      exact ih (Nat.lt_of_succ_lt hn) (by omega)

/-- What a point leaves in the output's block. -/
theorem block_eq (c : Dev nD) (n : ℕ) (hn : n < cfg0.N) (r : Fin 768) (j : Fin 1024) (R : Fin 8448) (hR : R.val = n / 9 * 768 + r.val)
    (J : Fin 9216) (hJ : J.val = n % 9 * 1024 + j.val) :
    (outsAt0 m c n hn).1 (ix2 r j) = ∑ k : Fin 2048, norm (X m c R) (gain m c) k * W m c k J := by
  by_cases h : n % 9 = 0
  · rw [outsAt0_A m c ⟨n, hn⟩ h]
    dsimp only
    rw [out_A, pay2_apply]
    refine Finset.sum_congr rfl fun k _ => ?_
    rw [blk2 m c ⟨n, hn⟩ k j J hJ, ← scratch_eq m c n hn r k R hR, outsAt0_A m c ⟨n, hn⟩ h]
    dsimp only
    rw [sout_A]
  · have e := outsAt0_B m c ⟨n, hn⟩ h
    dsimp only at e
    rw [e]
    dsimp only
    rw [out_B, pay2_apply]
    refine Finset.sum_congr rfl fun k _ => ?_
    rw [blk2 m c ⟨n, hn⟩ k j J hJ, scratch_eq m c (n - 1) _ r k R (by omega)]

/-- The result array. -/
def result (c : Dev nD) : Vec Ideal S8448x9216 .f32 := fun i =>
  ∑ k : Fin 2048, norm (X m c (i 0)) (gain m c) k * W m c k (i 1)

theorem G3_eq (c : Dev nD) : G3 m c = result m c := by
  funext i
  have h0 : (i 0).val < 8448 := (i 0).isLt
  have h1 : (i 1).val < 9216 := (i 1).isLt
  have hN : cfg0.N = 99 := N_0
  have hp : pt3Of i < cfg0.N := by
    rw [hN]; show 9 * ((i 0).val / 768 - 0) + 1 * ((i 1).val / 1024 - 0) < 99; omega
  unfold G3
  rw [dif_pos hp, ← outsAt0_sweep m c _ hp]
  rw [show loc3Of i = ix2 (⟨(i 0).val % 768, Nat.mod_lt _ (by decide)⟩ : Fin 768) (⟨(i 1).val % 1024, Nat.mod_lt _ (by decide)⟩ : Fin 1024) from
    funext fun a => match a with | ⟨0, _⟩ => rfl | ⟨1, _⟩ => rfl]
  refine block_eq m c _ _ _ _ (i 0) ?_ (i 1) ?_
  · show (i 0).val = (9 * ((i 0).val / 768 - 0) + 1 * ((i 1).val / 1024 - 0)) / 9 * 768 + (i 0).val % 768; omega
  · show (i 1).val = (9 * ((i 0).val / 768 - 0) + 1 * ((i 1).val / 1024 - 0)) % 9 * 1024 + (i 1).val % 1024; omega

end Cert.InScanIdeal.RefValue

/-! ## The reference's result is the same array -/

namespace Cert.InScanRefIdeal.RefValue

open Cert.InScanRefIdeal Cert.InScanRefIdeal.Gen Cert.InScanRefIdeal.Read

theorem result_apply (x : Vec Ideal S8448x2048 .f32) (g : Vec Ideal S2048 .f32) (w : Vec Ideal S2048x9216 .f32) (r : Fin 8448) (j : Fin 9216) :
    val_main_v13 (F := Ideal) x g w (ix2 r j)
      = ∑ k : Fin 2048, InScanIdeal.RefValue.norm (fun k => x (ix2 r k)) (fun k => g (ix1 k)) k * w (ix2 k j) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [dot_S8448x2048_S2048x9216_S8448x9216_1_0_0_1_n_n]
  rfl

end Cert.InScanRefIdeal.RefValue

/-! ## The claims -/

namespace Cert.InScanIdeal.RefValue

/-- The reference leaves the values its operations compute, and every argument as it was; it has no semaphore. -/
theorem frame_reference : Cert.quiescent_InScanRefIdeal := fun m ρ _ =>
  (θ_run Cert.InScanRefIdeal.defs _ _).mono (fun r h => ⟨fun c => (h c).2, sem_eq_zero_of_no_sems (by decide) r.2⟩)
    (Cert.InScanRefIdeal.Value.run (F := Ideal) m ρ)

theorem algebraic : Cert.algebraic_InScanIdeal_InScanRefIdeal := by
  intro m ρ m' ρ' _ hag
  refine ⟨fun c => result m c, ?_, ?_⟩
  · exact (θ_run Cert.InScanIdeal.defs _ _).mono (fun _ h c => ⟨(h c).1.trans (G3_eq m c), (h c).2⟩)
      (Cert.InScanIdeal.Value.run (F := Ideal) m ρ)
  refine (θ_run Cert.InScanRefIdeal.defs _ _).mono (fun _ h c => ⟨(h c).1.trans ?_, (h c).2⟩)
    (Cert.InScanRefIdeal.Value.run (F := Ideal) m' ρ')
  refine (Cert.InScanRefIdeal.Read.val_main_v13_eq _ _ _).trans ?_
  rw [(hag c).1, (hag c).2.1, (hag c).2.2]
  funext i
  rw [show i = ix2 (i 0 : Fin 8448) (i 1 : Fin 9216) from funext fun a => match a with | ⟨0, _⟩ => rfl | ⟨1, _⟩ => rfl]
  exact Cert.InScanRefIdeal.RefValue.result_apply _ _ _ _ _

end Cert.InScanIdeal.RefValue

end
-- ==== Proof.InTokValue.lean ====
module

public import proofs.«01_k».proof.Defs
public import proofs.«01_k».proof.Proof.Gen.InTokIdeal.Value
public import proofs.«01_k».proof.Proof.Gen.InTokRefIdeal.Run
public import proofs.«01_k».proof.Proof.Gen.InTokRefIdeal.Read
public import proofs.«01_k».proof.Proof.InScanValue
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InTokIdeal.RefValue

open Cert.InTokIdeal Cert.InTokIdeal.Gen Cert.InTokIdeal.Value
open Cert.InScanIdeal.RefValue (norm hz)

section
variable {F : FTy → Type} [FloatOps F]

theorem out_B (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole)
    (hc : ¬cond0_0 i) (x0 : Vec F S512x2048 .f32) (x1 : Vec F S1x2048 .f32) (x2 : Vec F S2048x1024 .bf16) (xs : Vec F S512x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S512x2048) hz, View.ld_unit_zero (S := S2048x1024) hz]

theorem sout_A (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole)
    (hc : cond0_0 i) (x0 : Vec F S512x2048 .f32) (x1 : Vec F S1x2048 .f32) (x2 : Vec F S2048x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, h6.read_unread,
    View.ld_unit_zero (S := S512x2048) hz, View.ld_unit_zero (S := S1x2048) hz]

theorem out_A (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole)
    (hc : cond0_0 i) (x0 : Vec F S512x2048 .f32) (x1 : Vec F S1x2048 .f32) (x2 : Vec F S2048x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S512x2048) _ hz]
  simp only [View.readAt_eq_ld, h2.read_unread, h3.read_unread, h4.read_unread, h6.read_unread,
    View.ld_unit_zero (S := S512x2048) hz, View.ld_unit_zero (S := S1x2048) hz, View.ld_unit_zero (S := S2048x1024) hz]

end

theorem pay1_apply (x : Vec Ideal S512x2048 .f32) (g : Vec Ideal S1x2048 .f32) (r : Fin 512) (k : Fin 2048) :
    k0_pay1 x g (ix2 r k) = norm (fun k => x (ix2 r k)) (fun k => g (ix2 0 k)) k := by
  unfold_payloads
  pointwise
  rfl

theorem pay2_apply (x : Vec Ideal S512x2048 .bf16) (w : Vec Ideal S2048x1024 .bf16) (r : Fin 512) (j : Fin 1024) :
    k0_pay2 x w (ix2 r j) = ∑ k : Fin 2048, x (ix2 r k) * w (ix2 k j) := by
  unfold_payloads
  pointwise [dot_S512x2048_S2048x1024_S512x1024_1_0_0_1_n_n]

variable (m : (ℓ : Loc nD τ sig) → Buf (Elt Ideal) ℓ) (ρ : Dev nD → PrngReg)

/-- The arguments, as the value speaks of them. -/
abbrev X (c : Dev nD) (r : Fin 8192) (k : Fin 2048) : EReal := (m ((c : Thread nD τ).loc main_arg0) : Vec Ideal S8192x2048 .f32) (ix2 r k)
abbrev gain (c : Dev nD) (k : Fin 2048) : EReal := (m ((c : Thread nD τ).loc main_arg1) : Vec Ideal S2048 .f32) (ix1 k)
abbrev W (c : Dev nD) (k : Fin 2048) (j : Fin 8192) : EReal := (m ((c : Thread nD τ).loc main_arg2) : Vec Ideal S2048x8192 .f32) (ix2 k j)

theorem V_w (c : Dev nD) (k : Fin 2048) (j : Fin 8192) : (V m c main_v0 : Vec Ideal S2048x8192 .bf16) (ix2 k j) = W m c k j := by
  have e : @Eq (FVec Ideal S2048x8192 .bf16) (V m c main_v0)
      (truncf .bf16 (m ((c : Thread nD τ).loc main_arg2) : FVec Ideal S2048x8192 .f32) bitsLt_bf16_f32) := by
    unfold V; after_results
  rw [e]; rfl

theorem V_g (c : Dev nD) (k : Fin 2048) : (V m c main_v1 : Vec Ideal S1x2048 .f32) (ix2 0 k) = gain m c k := by
  have e : (V m c main_v1 : Vec Ideal S1x2048 .f32) = shapeCast S1x2048 (m ((c : Thread nD τ).loc main_arg1) : Vec Ideal S2048 .f32) shapeCasts_S2048_S1x2048 := by
    unfold V; after_results; rfl
  rw [e]; pointwise

/-! The windows' blocks. -/

theorem idx0 : ∀ t : Fin grid0.N, win0_0.index t 0 = t.val / 8 ∧ win0_0.index t 1 = 0 ∧ win0_1.index t 0 = 0 ∧ win0_1.index t 1 = 0
    ∧ win0_2.index t 0 = 0 ∧ win0_2.index t 1 = t.val % 8 := by decide +kernel

theorem blk0 (c : Dev nD) (t : Fin cfg0.N) (r : Fin 512) (k : Fin 2048) (R : Fin 8192) (hR : R.val = t.val / 8 * 512 + r.val) :
    (iblk m c 0 t : Vec Ideal S512x2048 .f32) (ix2 r k) = X m c R k := by
  obtain ⟨e0, e1, -⟩ := idx0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [e0]; omega
  | ⟨1, _⟩ => show win0_0.index t 1 * 2048 + 1 * k.val = k.val; rw [e1]; omega

theorem blk1 (c : Dev nD) (t : Fin cfg0.N) (k : Fin 2048) :
    (iblk m c 1 t : Vec Ideal S1x2048 .f32) (ix2 0 k) = gain m c k := by
  obtain ⟨-, -, e0, e1, -⟩ := idx0 t
  rw [← V_g]
  unfold iblk
  rw [View.read_apply]
  show V m c main_v1 _ = V m c main_v1 _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem blk2 (c : Dev nD) (t : Fin cfg0.N) (k : Fin 2048) (j : Fin 1024) (J : Fin 8192) (hJ : J.val = t.val % 8 * 1024 + j.val) :
    (iblk m c 2 t : Vec Ideal S2048x1024 .bf16) (ix2 k j) = W m c k J := by
  obtain ⟨-, -, -, -, e0, e1⟩ := idx0 t
  rw [← V_w]
  unfold iblk
  rw [View.read_apply]
  show V m c main_v0 _ = V m c main_v0 _
  congr 1
  funext a
  apply Fin.ext
  match a with
  | ⟨0, _⟩ => show win0_2.index t 0 * 2048 + 1 * k.val = k.val; rw [e0]; omega
  | ⟨1, _⟩ => show win0_2.index t 1 * 1024 + 1 * j.val = J.val; rw [e1]; omega

/-- After every point the scratch holds the normalised rows of the point's row tile. -/
theorem scratch_eq (c : Dev nD) (n : ℕ) (hn : n < cfg0.N) (r : Fin 512) (k : Fin 2048) (R : Fin 8192) (hR : R.val = n / 8 * 512 + r.val) :
    (outsAt0 m c n hn).2 (ix2 r k) = norm (X m c R) (gain m c) k := by
  induction n with
  | zero =>
    rw [outsAt0_A m c ⟨0, hn⟩ rfl]
    dsimp only
    rw [sout_A, pay1_apply]
    congr 1
    · funext k; exact blk0 m c _ r k R hR
    · funext k; exact blk1 m c _ k
  | succ n ih =>
    by_cases h : (n + 1) % 8 = 0
    · rw [outsAt0_A m c ⟨n + 1, hn⟩ h]
      dsimp only
      rw [sout_A, pay1_apply]
      congr 1
      · funext k; exact blk0 m c _ r k R hR
      · funext k; exact blk1 m c _ k
    · rw [outsAt0_B m c ⟨n + 1, hn⟩ h]
      exact ih (Nat.lt_of_succ_lt hn) (by omega)

/-- What a point leaves in the output's block. -/
theorem block_eq (c : Dev nD) (n : ℕ) (hn : n < cfg0.N) (r : Fin 512) (j : Fin 1024) (R : Fin 8192) (hR : R.val = n / 8 * 512 + r.val)
    (J : Fin 8192) (hJ : J.val = n % 8 * 1024 + j.val) :
    (outsAt0 m c n hn).1 (ix2 r j) = ∑ k : Fin 2048, norm (X m c R) (gain m c) k * W m c k J := by
  by_cases h : n % 8 = 0
  · rw [outsAt0_A m c ⟨n, hn⟩ h]
    dsimp only
    rw [out_A, pay2_apply]
    refine Finset.sum_congr rfl fun k _ => ?_
    rw [blk2 m c ⟨n, hn⟩ k j J hJ, ← scratch_eq m c n hn r k R hR, outsAt0_A m c ⟨n, hn⟩ h]
    dsimp only
    rw [sout_A]
  · have e := outsAt0_B m c ⟨n, hn⟩ h
    dsimp only at e
    rw [e]
    dsimp only
    rw [out_B, pay2_apply]
    refine Finset.sum_congr rfl fun k _ => ?_
    rw [blk2 m c ⟨n, hn⟩ k j J hJ, scratch_eq m c (n - 1) _ r k R (by omega)]

/-- The result array. -/
def result (c : Dev nD) : Vec Ideal S8192x8192 .f32 := fun i =>
  ∑ k : Fin 2048, norm (X m c (i 0)) (gain m c) k * W m c k (i 1)

theorem G3_eq (c : Dev nD) : G3 m c = result m c := by
  funext i
  have h0 : (i 0).val < 8192 := (i 0).isLt
  have h1 : (i 1).val < 8192 := (i 1).isLt
  have hN : cfg0.N = 128 := N_0
  have hp : pt3Of i < cfg0.N := by
    rw [hN]; show 8 * ((i 0).val / 512 - 0) + 1 * ((i 1).val / 1024 - 0) < 128; omega
  unfold G3
  rw [dif_pos hp, ← outsAt0_sweep m c _ hp]
  rw [show loc3Of i = ix2 (⟨(i 0).val % 512, Nat.mod_lt _ (by decide)⟩ : Fin 512) (⟨(i 1).val % 1024, Nat.mod_lt _ (by decide)⟩ : Fin 1024) from
    funext fun a => match a with | ⟨0, _⟩ => rfl | ⟨1, _⟩ => rfl]
  refine block_eq m c _ _ _ _ (i 0) ?_ (i 1) ?_
  · show (i 0).val = (8 * ((i 0).val / 512 - 0) + 1 * ((i 1).val / 1024 - 0)) / 8 * 512 + (i 0).val % 512; omega
  · show (i 1).val = (8 * ((i 0).val / 512 - 0) + 1 * ((i 1).val / 1024 - 0)) % 8 * 1024 + (i 1).val % 1024; omega

end Cert.InTokIdeal.RefValue

/-! ## The reference's result is the same array -/

namespace Cert.InTokRefIdeal.RefValue

open Cert.InTokRefIdeal Cert.InTokRefIdeal.Gen Cert.InTokRefIdeal.Read

theorem result_apply (x : Vec Ideal S8192x2048 .f32) (g : Vec Ideal S2048 .f32) (w : Vec Ideal S2048x8192 .f32) (r : Fin 8192) (j : Fin 8192) :
    val_main_v13 (F := Ideal) x g w (ix2 r j)
      = ∑ k : Fin 2048, InScanIdeal.RefValue.norm (fun k => x (ix2 r k)) (fun k => g (ix1 k)) k * w (ix2 k j) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [dot_S8192x2048_S2048x8192_S8192x8192_1_0_0_1_n_n]
  rfl

end Cert.InTokRefIdeal.RefValue

/-! ## The claims -/

namespace Cert.InTokIdeal.RefValue

/-- The reference leaves the values its operations compute, and every argument as it was; it has no semaphore. -/
theorem frame_reference : Cert.quiescent_InTokRefIdeal := fun m ρ _ =>
  (θ_run Cert.InTokRefIdeal.defs _ _).mono (fun r h => ⟨fun c => (h c).2, sem_eq_zero_of_no_sems (by decide) r.2⟩)
    (Cert.InTokRefIdeal.Value.run (F := Ideal) m ρ)

theorem algebraic : Cert.algebraic_InTokIdeal_InTokRefIdeal := by
  intro m ρ m' ρ' _ hag
  refine ⟨fun c => result m c, ?_, ?_⟩
  · exact (θ_run Cert.InTokIdeal.defs _ _).mono (fun _ h c => ⟨(h c).1.trans (G3_eq m c), (h c).2⟩)
      (Cert.InTokIdeal.Value.run (F := Ideal) m ρ)
  refine (θ_run Cert.InTokRefIdeal.defs _ _).mono (fun _ h c => ⟨(h c).1.trans ?_, (h c).2⟩)
    (Cert.InTokRefIdeal.Value.run (F := Ideal) m' ρ')
  refine (Cert.InTokRefIdeal.Read.val_main_v13_eq _ _ _).trans ?_
  rw [(hag c).1, (hag c).2.1, (hag c).2.2]
  funext i
  rw [show i = ix2 (i 0 : Fin 8192) (i 1 : Fin 8192) from funext fun a => match a with | ⟨0, _⟩ => rfl | ⟨1, _⟩ => rfl]
  exact Cert.InTokRefIdeal.RefValue.result_apply _ _ _ _ _

end Cert.InTokIdeal.RefValue

end
-- ==== Proof.OutProjValue.lean ====
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen Cert.OutProjIdeal.Value

theorem hz : (![0, 0] : Fin 2 → Nat) = fun _ => 0 := funext fun a => by fin_cases a <;> rfl

theorem out_apply (a : Vec Ideal S512x2048 .f32) (w : Vec Ideal S2048x1024 .bf16) (s : Vec Ideal S512x1024 .f32) (r : Fin 512) (j : Fin 1024) :
    out0_3 a w s (ix2 r j) = s (ix2 r j) + ∑ k : Fin 2048, a (ix2 r k) * w (ix2 k j) := by
  unfold out0_3
  rw [View.canon_unit_zero hz]
  simp only [View.ld_unit_zero (S := S512x2048) hz, View.ld_unit_zero (S := S512x1024) hz, View.ld_unit_zero (S := S2048x1024) hz]
  unfold_payloads
  pointwise [dot_S512x2048_S2048x1024_S512x1024_1_0_0_1_n_n]

variable (m : (ℓ : Loc nD τ sig) → Buf (Elt Ideal) ℓ) (ρ : Dev nD → PrngReg)

/-- The arguments, as the value speaks of them. -/
abbrev M (c : Dev nD) (r : Fin 8192) (k : Fin 2048) : EReal := (m ((c : Thread nD τ).loc main_arg0) : Vec Ideal S8192x2048 .f32) (ix2 r k)
abbrev W (c : Dev nD) (k j : Fin 2048) : EReal := (m ((c : Thread nD τ).loc main_arg1) : Vec Ideal S2048x2048 .f32) (ix2 k j)
abbrev X (c : Dev nD) (r : Fin 8192) (j : Fin 2048) : EReal := (m ((c : Thread nD τ).loc main_arg2) : Vec Ideal S8192x2048 .f32) (ix2 r j)

theorem V_w (c : Dev nD) (k j : Fin 2048) : (V m c main_v0 : Vec Ideal S2048x2048 .bf16) (ix2 k j) = W m c k j := by
  have e : @Eq (FVec Ideal S2048x2048 .bf16) (V m c main_v0)
      (truncf .bf16 (m ((c : Thread nD τ).loc main_arg1) : FVec Ideal S2048x2048 .f32) bitsLt_bf16_f32) := by
    unfold V; after_results
  rw [e]; rfl

/-! The windows' blocks. -/

theorem idx0 : ∀ t : Fin grid0.N, win0_0.index t 0 = t.val / 2 ∧ win0_0.index t 1 = 0 ∧ win0_1.index t 0 = 0 ∧ win0_1.index t 1 = t.val % 2
    ∧ win0_2.index t 0 = t.val / 2 ∧ win0_2.index t 1 = t.val % 2 := by decide +kernel

theorem blk0 (c : Dev nD) (t : Fin cfg0.N) (r : Fin 512) (k : Fin 2048) (R : Fin 8192) (hR : R.val = t.val / 2 * 512 + r.val) :
    (iblk m c 0 t : Vec Ideal S512x2048 .f32) (ix2 r k) = M m c R k := by
  obtain ⟨e0, e1, -⟩ := idx0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [e0]; omega
  | ⟨1, _⟩ => show win0_0.index t 1 * 2048 + 1 * k.val = k.val; rw [e1]; omega

theorem blk1 (c : Dev nD) (t : Fin cfg0.N) (k : Fin 2048) (j : Fin 1024) (J : Fin 2048) (hJ : J.val = t.val % 2 * 1024 + j.val) :
    (iblk m c 1 t : Vec Ideal S2048x1024 .bf16) (ix2 k j) = W m c k J := by
  obtain ⟨-, -, e0, e1, -⟩ := idx0 t
  rw [← V_w]
  unfold iblk
  rw [View.read_apply]
  show V m c main_v0 _ = V m c main_v0 _
  congr 1
  funext a
  apply Fin.ext
  match a with
  | ⟨0, _⟩ => show win0_1.index t 0 * 2048 + 1 * k.val = k.val; rw [e0]; omega
  | ⟨1, _⟩ => show win0_1.index t 1 * 1024 + 1 * j.val = J.val; rw [e1]; omega

theorem blk2 (c : Dev nD) (t : Fin cfg0.N) (r : Fin 512) (j : Fin 1024) (R : Fin 8192) (hR : R.val = t.val / 2 * 512 + r.val)
    (J : Fin 2048) (hJ : J.val = t.val % 2 * 1024 + j.val) :
    (iblk m c 2 t : Vec Ideal S512x1024 .f32) (ix2 r j) = X m c R J := by
  obtain ⟨-, -, -, -, e0, e1⟩ := idx0 t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = R.val; rw [e0]; omega
  | ⟨1, _⟩ => show win0_2.index t 1 * 1024 + 1 * j.val = J.val; rw [e1]; omega

/-- The result array. -/
def result (c : Dev nD) : Vec Ideal S8192x2048 .f32 := fun i =>
  X m c (i 0) (i 1) + ∑ k : Fin 2048, M m c (i 0) k * W m c k (i 1)

/-- What a point leaves in the output's block. -/
theorem block_eq (c : Dev nD) (t : Fin cfg0.N) (r : Fin 512) (j : Fin 1024) (R : Fin 8192) (hR : R.val = t.val / 2 * 512 + r.val)
    (J : Fin 2048) (hJ : J.val = t.val % 2 * 1024 + j.val) :
    out0_3 (iblk m c 0 t) (iblk m c 1 t) (iblk m c 2 t) (ix2 r j) = X m c R J + ∑ k : Fin 2048, M m c R k * W m c k J := by
  rw [out_apply, blk2 m c t r j R hR J hJ]
  congr 1
  refine Finset.sum_congr rfl fun k _ => ?_
  rw [blk0 m c t r k R hR, blk1 m c t k j J hJ]

/-! The blocks make up the array. -/

theorem idx3 : ∀ t : Fin grid0.N, win0_3.index t 0 = t.val / 2 ∧ win0_3.index t 1 = t.val % 2 := by decide +kernel

theorem idx3_onto : ∀ (p : Fin 16) (q : Fin 2), ∃ t : Fin cfg0.N, (cfg0.win 3).flush t = true ∧ t.val = 2 * p.val + q.val :=
  fun p q => ⟨⟨2 * p.val + q.val, lt_of_lt_of_eq (by omega) N_0.symm⟩,
    (by decide +kernel : ∀ (p : Fin 16) (q : Fin 2), win0_3.flush (⟨2 * p.val + q.val, lt_of_lt_of_eq (by omega) N_0.symm⟩ : Fin grid0.N) = true) p q, rfl⟩

theorem flushed_eq (c : Dev nD) (t : Fin cfg0.N) :
    (dats m 0 c).flushed 3 t = ((cfg0.win 3).blk t).view.read (Elt Ideal) (result m c) := by
  obtain ⟨e0, e1⟩ := idx3 t
  rw [flushed3]
  funext y
  have h0 : (y 0).val < 512 := (y 0).isLt
  have h1 : (y 1).val < 1024 := (y 1).isLt
  show out0_3 (iblk m c 0 t) (iblk m c 1 t) (iblk m c 2 t) ((cfg0.win 3).xinj (grid0.coords t) y) = result m c (((cfg0.win 3).blk t).view.emb y)
  rw [show (cfg0.win 3).xinj (grid0.coords t) y = ix2 (⟨(y 0).val, h0⟩ : Fin 512) (⟨(y 1).val, h1⟩ : Fin 1024) from
    funext fun a => match a with | ⟨0, _⟩ => rfl | ⟨1, _⟩ => rfl]
  refine block_eq m c t _ _ (((cfg0.win 3).blk t).view.emb y 0) ?_ (((cfg0.win 3).blk t).view.emb y 1) ?_
  · show win0_3.index t 0 * 512 + 1 * (y 0).val = t.val / 2 * 512 + (y 0).val; rw [e0]; omega
  · show win0_3.index t 1 * 1024 + 1 * (y 1).val = t.val % 2 * 1024 + (y 1).val; rw [e1]; omega

theorem covered (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  obtain ⟨t, hf, ht⟩ := idx3_onto ⟨(i 0).val / 512, by omega⟩ ⟨(i 1).val / 1024, by omega⟩
  obtain ⟨e0, e1⟩ := idx3 t
  dsimp only at ht
  refine ⟨t, hf, ?_⟩
  show i ∈ ((View.whole main_v1).slice (win0_3.rect t)).set
  rw [View.set_slice_whole, Rect.mem_set_unit]
  intro a
  match a with
  | ⟨0, _⟩ => show win0_3.index t 0 * 512 ≤ (i 0).val ∧ (i 0).val < win0_3.index t 0 * 512 + 512; omega
  | ⟨1, _⟩ => show win0_3.index t 1 * 1024 ≤ (i 1).val ∧ (i 1).val < win0_3.index t 1 * 1024 + 1024; omega

theorem final_eq (c : Dev nD) : (dats m 0 c).arrAt 3 cfg0.N = result m c :=
  (dats m 0 c).arrAt_eq_of_cover 3 _ (fun t _ => flushed_eq m c t) covered

end Cert.OutProjIdeal.RefValue

/-! ## The reference's result is the same array -/

namespace Cert.OutProjRefIdeal.RefValue

open Cert.OutProjRefIdeal Cert.OutProjRefIdeal.Gen Cert.OutProjRefIdeal.Read

theorem result_apply (a : Vec Ideal S8192x2048 .f32) (w : Vec Ideal S2048x2048 .f32) (x : Vec Ideal S8192x2048 .f32) (r : Fin 8192) (j : Fin 2048) :
    val_main_v1 (F := Ideal) a w x (ix2 r j) = x (ix2 r j) + ∑ k : Fin 2048, a (ix2 r k) * w (ix2 k j) := by
  unfold val_main_v1 val_main_v0
  pointwise [dot_S8192x2048_S2048x2048_S8192x2048_1_0_0_1_n_n]

end Cert.OutProjRefIdeal.RefValue

/-! ## The claims -/

namespace Cert.OutProjIdeal.RefValue

/-- The reference leaves the values its operations compute, and every argument as it was; it has no semaphore. -/
theorem frame_reference : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem algebraic : Cert.algebraic_OutProjIdeal_OutProjRefIdeal := by
  intro m ρ m' ρ' _ hag
  refine ⟨fun c => result m c, ?_, ?_⟩
  · exact (θ_run Cert.OutProjIdeal.defs _ _).mono (fun _ h c => ⟨(h c).1.trans (final_eq m c), (h c).2⟩)
      (Cert.OutProjIdeal.Value.run_blocks (F := Ideal) m ρ)
  refine (θ_run Cert.OutProjRefIdeal.defs _ _).mono (fun _ h c => ⟨(h c).1.trans ?_, (h c).2⟩)
    (Cert.OutProjRefIdeal.Value.run (F := Ideal) m' ρ')
  refine (Cert.OutProjRefIdeal.Read.val_main_v1_eq _ _ _).trans ?_
  rw [(hag c).1, (hag c).2.1, (hag c).2.2]
  funext i
  rw [show i = ix2 (i 0 : Fin 8192) (i 1 : Fin 2048) from funext fun a => match a with | ⟨0, _⟩ => rfl | ⟨1, _⟩ => rfl]
  exact Cert.OutProjRefIdeal.RefValue.result_apply _ _ _ _ _

end Cert.OutProjIdeal.RefValue

end
-- ==== Proof.QueryValue.lean ====
module

public import proofs.«01_k».proof.Defs
public import proofs.«01_k».proof.Proof.Gen.QueryIdeal.Value
public import proofs.«01_k».proof.Proof.Gen.QueryRefIdeal.Run
public import proofs.«01_k».proof.Proof.Gen.QueryRefIdeal.Read
public import proofs.«01_k».proof.Proof.InScanValue
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.QueryIdeal.RefValue

open Cert.QueryIdeal Cert.QueryIdeal.Gen Cert.QueryIdeal.Value
open Cert.InScanIdeal.RefValue (norm hz)

section
variable {F : FTy → Type} [FloatOps F]

theorem out_B (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole)
    (hc : ¬cond0_0 i) (x0 : Vec F S512x2048 .f32) (x1 : Vec F S1x2048 .f32) (x2 : Vec F S2048x1024 .bf16) (xs : Vec F S512x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S512x2048) hz, View.ld_unit_zero (S := S2048x1024) hz]

theorem sout_A (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole)
    (hc : cond0_0 i) (x0 : Vec F S512x2048 .f32) (x1 : Vec F S1x2048 .f32) (x2 : Vec F S2048x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, h6.read_unread,
    View.ld_unit_zero (S := S512x2048) hz, View.ld_unit_zero (S := S1x2048) hz]

theorem out_A (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole)
    (hc : cond0_0 i) (x0 : Vec F S512x2048 .f32) (x1 : Vec F S1x2048 .f32) (x2 : Vec F S2048x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S512x2048) _ hz]
  simp only [View.readAt_eq_ld, h2.read_unread, h3.read_unread, h4.read_unread, h6.read_unread,
    View.ld_unit_zero (S := S512x2048) hz, View.ld_unit_zero (S := S1x2048) hz, View.ld_unit_zero (S := S2048x1024) hz]

end

theorem pay1_apply (x : Vec Ideal S512x2048 .f32) (g : Vec Ideal S1x2048 .f32) (r : Fin 512) (k : Fin 2048) :
    k0_pay1 x g (ix2 r k) = norm (fun k => x (ix2 r k)) (fun k => g (ix2 0 k)) k := by
  unfold_payloads
  pointwise
  rfl

theorem pay2_apply (x : Vec Ideal S512x2048 .bf16) (w : Vec Ideal S2048x1024 .bf16) (r : Fin 512) (j : Fin 1024) :
    k0_pay2 x w (ix2 r j) = ∑ k : Fin 2048, x (ix2 r k) * w (ix2 k j) := by
  unfold_payloads
  pointwise [dot_S512x2048_S2048x1024_S512x1024_1_0_0_1_n_n]

variable (m : (ℓ : Loc nD τ sig) → Buf (Elt Ideal) ℓ) (ρ : Dev nD → PrngReg)

/-- The arguments, as the value speaks of them. -/
abbrev X (c : Dev nD) (r : Fin 8192) (k : Fin 2048) : EReal := (m ((c : Thread nD τ).loc main_arg0) : Vec Ideal S8192x2048 .f32) (ix2 r k)
abbrev gain (c : Dev nD) (k : Fin 2048) : EReal := (m ((c : Thread nD τ).loc main_arg1) : Vec Ideal S2048 .f32) (ix1 k)
abbrev W (c : Dev nD) (k : Fin 2048) (j : Fin 2048) : EReal := (m ((c : Thread nD τ).loc main_arg2) : Vec Ideal S2048x2048 .f32) (ix2 k j)

theorem V_w (c : Dev nD) (k : Fin 2048) (j : Fin 2048) : (V m c main_v0 : Vec Ideal S2048x2048 .bf16) (ix2 k j) = W m c k j := by
  have e : @Eq (FVec Ideal S2048x2048 .bf16) (V m c main_v0)
      (truncf .bf16 (m ((c : Thread nD τ).loc main_arg2) : FVec Ideal S2048x2048 .f32) bitsLt_bf16_f32) := by
    unfold V; after_results
  rw [e]; rfl

theorem V_g (c : Dev nD) (k : Fin 2048) : (V m c main_v1 : Vec Ideal S1x2048 .f32) (ix2 0 k) = gain m c k := by
  have e : (V m c main_v1 : Vec Ideal S1x2048 .f32) = shapeCast S1x2048 (m ((c : Thread nD τ).loc main_arg1) : Vec Ideal S2048 .f32) shapeCasts_S2048_S1x2048 := by
    unfold V; after_results; rfl
  rw [e]; pointwise

/-! The windows' blocks. -/

theorem idx0 : ∀ t : Fin grid0.N, win0_0.index t 0 = t.val / 2 ∧ win0_0.index t 1 = 0 ∧ win0_1.index t 0 = 0 ∧ win0_1.index t 1 = 0
    ∧ win0_2.index t 0 = 0 ∧ win0_2.index t 1 = t.val % 2 := by decide +kernel

theorem blk0 (c : Dev nD) (t : Fin cfg0.N) (r : Fin 512) (k : Fin 2048) (R : Fin 8192) (hR : R.val = t.val / 2 * 512 + r.val) :
    (iblk m c 0 t : Vec Ideal S512x2048 .f32) (ix2 r k) = X m c R k := by
  obtain ⟨e0, e1, -⟩ := idx0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [e0]; omega
  | ⟨1, _⟩ => show win0_0.index t 1 * 2048 + 1 * k.val = k.val; rw [e1]; omega

theorem blk1 (c : Dev nD) (t : Fin cfg0.N) (k : Fin 2048) :
    (iblk m c 1 t : Vec Ideal S1x2048 .f32) (ix2 0 k) = gain m c k := by
  obtain ⟨-, -, e0, e1, -⟩ := idx0 t
  rw [← V_g]
  unfold iblk
  rw [View.read_apply]
  show V m c main_v1 _ = V m c main_v1 _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem blk2 (c : Dev nD) (t : Fin cfg0.N) (k : Fin 2048) (j : Fin 1024) (J : Fin 2048) (hJ : J.val = t.val % 2 * 1024 + j.val) :
    (iblk m c 2 t : Vec Ideal S2048x1024 .bf16) (ix2 k j) = W m c k J := by
  obtain ⟨-, -, -, -, e0, e1⟩ := idx0 t
  rw [← V_w]
  unfold iblk
  rw [View.read_apply]
  show V m c main_v0 _ = V m c main_v0 _
  congr 1
  funext a
  apply Fin.ext
  match a with
  | ⟨0, _⟩ => show win0_2.index t 0 * 2048 + 1 * k.val = k.val; rw [e0]; omega
  | ⟨1, _⟩ => show win0_2.index t 1 * 1024 + 1 * j.val = J.val; rw [e1]; omega

/-- After every point the scratch holds the normalised rows of the point's row tile. -/
theorem scratch_eq (c : Dev nD) (n : ℕ) (hn : n < cfg0.N) (r : Fin 512) (k : Fin 2048) (R : Fin 8192) (hR : R.val = n / 2 * 512 + r.val) :
    (outsAt0 m c n hn).2 (ix2 r k) = norm (X m c R) (gain m c) k := by
  induction n with
  | zero =>
    rw [outsAt0_A m c ⟨0, hn⟩ rfl]
    dsimp only
    rw [sout_A, pay1_apply]
    congr 1
    · funext k; exact blk0 m c _ r k R hR
    · funext k; exact blk1 m c _ k
  | succ n ih =>
    by_cases h : (n + 1) % 2 = 0
    · rw [outsAt0_A m c ⟨n + 1, hn⟩ h]
      dsimp only
      rw [sout_A, pay1_apply]
      congr 1
      · funext k; exact blk0 m c _ r k R hR
      · funext k; exact blk1 m c _ k
    · rw [outsAt0_B m c ⟨n + 1, hn⟩ h]
      exact ih (Nat.lt_of_succ_lt hn) (by omega)

/-- What a point leaves in the output's block. -/
theorem block_eq (c : Dev nD) (n : ℕ) (hn : n < cfg0.N) (r : Fin 512) (j : Fin 1024) (R : Fin 8192) (hR : R.val = n / 2 * 512 + r.val)
    (J : Fin 2048) (hJ : J.val = n % 2 * 1024 + j.val) :
    (outsAt0 m c n hn).1 (ix2 r j) = ∑ k : Fin 2048, norm (X m c R) (gain m c) k * W m c k J := by
  by_cases h : n % 2 = 0
  · rw [outsAt0_A m c ⟨n, hn⟩ h]
    dsimp only
    rw [out_A, pay2_apply]
    refine Finset.sum_congr rfl fun k _ => ?_
    rw [blk2 m c ⟨n, hn⟩ k j J hJ, ← scratch_eq m c n hn r k R hR, outsAt0_A m c ⟨n, hn⟩ h]
    dsimp only
    rw [sout_A]
  · have e := outsAt0_B m c ⟨n, hn⟩ h
    dsimp only at e
    rw [e]
    dsimp only
    rw [out_B, pay2_apply]
    refine Finset.sum_congr rfl fun k _ => ?_
    rw [blk2 m c ⟨n, hn⟩ k j J hJ, scratch_eq m c (n - 1) _ r k R (by omega)]

/-- The result array. -/
def result (c : Dev nD) : Vec Ideal S8192x2048 .f32 := fun i =>
  ∑ k : Fin 2048, norm (X m c (i 0)) (gain m c) k * W m c k (i 1)

theorem G3_eq (c : Dev nD) : G3 m c = result m c := by
  funext i
  have h0 : (i 0).val < 8192 := (i 0).isLt
  have h1 : (i 1).val < 2048 := (i 1).isLt
  have hN : cfg0.N = 32 := N_0
  have hp : pt3Of i < cfg0.N := by
    rw [hN]; show 2 * ((i 0).val / 512 - 0) + 1 * ((i 1).val / 1024 - 0) < 32; omega
  unfold G3
  rw [dif_pos hp, ← outsAt0_sweep m c _ hp]
  rw [show loc3Of i = ix2 (⟨(i 0).val % 512, Nat.mod_lt _ (by decide)⟩ : Fin 512) (⟨(i 1).val % 1024, Nat.mod_lt _ (by decide)⟩ : Fin 1024) from
    funext fun a => match a with | ⟨0, _⟩ => rfl | ⟨1, _⟩ => rfl]
  refine block_eq m c _ _ _ _ (i 0) ?_ (i 1) ?_
  · show (i 0).val = (2 * ((i 0).val / 512 - 0) + 1 * ((i 1).val / 1024 - 0)) / 2 * 512 + (i 0).val % 512; omega
  · show (i 1).val = (2 * ((i 0).val / 512 - 0) + 1 * ((i 1).val / 1024 - 0)) % 2 * 1024 + (i 1).val % 1024; omega

end Cert.QueryIdeal.RefValue

/-! ## The reference's result is the same array -/

namespace Cert.QueryRefIdeal.RefValue

open Cert.QueryRefIdeal Cert.QueryRefIdeal.Gen Cert.QueryRefIdeal.Read

theorem result_apply (x : Vec Ideal S8192x2048 .f32) (g : Vec Ideal S2048 .f32) (w : Vec Ideal S2048x2048 .f32) (r : Fin 8192) (j : Fin 2048) :
    val_main_v13 (F := Ideal) x g w (ix2 r j)
      = ∑ k : Fin 2048, InScanIdeal.RefValue.norm (fun k => x (ix2 r k)) (fun k => g (ix1 k)) k * w (ix2 k j) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [dot_S8192x2048_S2048x2048_S8192x2048_1_0_0_1_n_n]
  rfl

end Cert.QueryRefIdeal.RefValue

/-! ## The claims -/

namespace Cert.QueryIdeal.RefValue

/-- The reference leaves the values its operations compute, and every argument as it was; it has no semaphore. -/
theorem frame_reference : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

theorem algebraic : Cert.algebraic_QueryIdeal_QueryRefIdeal := by
  intro m ρ m' ρ' _ hag
  refine ⟨fun c => result m c, ?_, ?_⟩
  · exact (θ_run Cert.QueryIdeal.defs _ _).mono (fun _ h c => ⟨(h c).1.trans (G3_eq m c), (h c).2⟩)
      (Cert.QueryIdeal.Value.run (F := Ideal) m ρ)
  refine (θ_run Cert.QueryRefIdeal.defs _ _).mono (fun _ h c => ⟨(h c).1.trans ?_, (h c).2⟩)
    (Cert.QueryRefIdeal.Value.run (F := Ideal) m' ρ')
  refine (Cert.QueryRefIdeal.Read.val_main_v13_eq _ _ _).trans ?_
  rw [(hag c).1, (hag c).2.1, (hag c).2.2]
  funext i
  rw [show i = ix2 (i 0 : Fin 8192) (i 1 : Fin 2048) from funext fun a => match a with | ⟨0, _⟩ => rfl | ⟨1, _⟩ => rfl]
  exact Cert.QueryRefIdeal.RefValue.result_apply _ _ _ _ _

end Cert.QueryIdeal.RefValue

end
-- ==== Proof.ExpertsTrip.lean ====
/- One trip of the loop over the first keys, and the gated activations that all eight trips leave. -/
module

public import proofs.«01_k».proof.Proof.Gen.ExpertsIdeal.Value
public import Idealize.ShloMosaic.Lib.Pointwise
public import Idealize.ShloMosaic.Lib.ValueIdx
public import Idealize.ShloMosaic.Lib.Tactic
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ExpertsIdeal.RefValue

open Cert.ExpertsIdeal Cert.ExpertsIdeal.Gen Cert.ExpertsIdeal.Value

variable (𝒱 : Variants) (c : Dev nD) (bd : Option 𝒱.V) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x8x256 .f32) (harg7 : arg7.IsWhole) (arg8 : Memref sig .tc .vmem S8x8x256 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S256x2048 .f32) (harg11 : arg11.IsWhole) (arg12 : Memref sig .tc .vmem S256x2048 .bf16) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S2048x256 .f32) (harg15 : arg15.IsWhole)
  (x3 x4 : Vec Ideal S8x128x256 .f32) (x5 x6 : Vec Ideal S8x8x256 .f32) (A : Vec Ideal S1024x256 .f32)

/-- One head's gate at expert `(q, j)` of the block and token `t`. -/
def gate (hd q : Fin 8) (j : Fin 128) (t : Fin 256) : EReal :=
  x6 (ix3 hd q t) * if x5 (ix3 hd q t) ≤ x3 (ix3 hd j t) then x4 (ix3 hd j t) else 0

/-- The heads' gates. -/
def gates (q : Fin 8) (j : Fin 128) (t : Fin 256) : EReal :=
  gate x3 x4 x5 x6 0 q j t + gate x3 x4 x5 x6 1 q j t + gate x3 x4 x5 x6 2 q j t + gate x3 x4 x5 x6 3 q j t
    + gate x3 x4 x5 x6 4 q j t + gate x3 x4 x5 x6 5 q j t + gate x3 x4 x5 x6 6 q j t + gate x3 x4 x5 x6 7 q j t

/-- The expert's activation, as the kernel computes it. -/
def gl (a : EReal) : EReal := Ideal.ofBits .f32 0x3F000000#32 * a * (1 + Ideal.erf (a * Ideal.ofBits .f32 0x3F3504F3#32))

/-- The gated activations of a block's experts. -/
def pM : Vec Ideal S1024x256 .bf16 := fun y =>
  gates x3 x4 x5 x6 ⟨(y 0).val / 128, by have := (y 0).isLt; simp at this; omega⟩ ⟨(y 0).val % 128, by omega⟩ (y 1) * gl (A y)

theorem pM_rect (o0 o1 : ℕ) (inb : ∀ a, (![o0, o1] : Fin 2 → ℕ) a + S128x128.size a ≤ S1024x256.size a) (r j : Fin 128) (t : Fin 256)
    (hq : o0 / 128 < 8) (h0 : o0 % 128 = 0) (ht : o1 + j.val = t.val) :
    pM x3 x4 x5 x6 A ((Rect.unit (s := S1024x256) ![o0, o1] S128x128.size inb).emb (ix2 r j)) = gates x3 x4 x5 x6 ⟨o0 / 128, hq⟩ r t * gl (A (ix2 (⟨o0 + r.val, by omega⟩ : Fin 1024) t)) := by
  have e : (Rect.unit (s := S1024x256) ![o0, o1] S128x128.size inb).emb (ix2 r j) = ix2 (⟨o0 + r.val, by omega⟩ : Fin 1024) t :=
    funext fun a => Fin.ext (match a with
      | ⟨0, _⟩ => by show o0 + 1 * r.val = o0 + r.val; omega
      | ⟨1, _⟩ => by show o1 + 1 * j.val = t.val; omega)
  have hq' : (o0 + r.val) / 128 = o0 / 128 := by omega
  have hr : (o0 + r.val) % 128 = r.val := by omega
  rw [e]
  show gates x3 x4 x5 x6 ⟨(o0 + r.val) / 128, _⟩ ⟨(o0 + r.val) % 128, _⟩ t * gl (A (ix2 (⟨o0 + r.val, _⟩ : Fin 1024) t)) = _
  simp only [hq', hr]

/-- The column a trip starts at. -/
theorem col_lt : ∀ k : Fin k0_t1_loop.trips, BitVec.toNat (Scalar.indexCast (Scalar.muli (Scf.iv 0#32 1#32 k.val) 128#32)) + 128 ≤ 256 := by decide +kernel

set_option maxHeartbeats 2000000 in
/-- What one trip of the loop stores. -/
theorem trip_pieces (X13 : BufTy.Contents (Elt Ideal) arg13.view.ty) (hX : View.read (Elt Ideal) arg13.view X13 = A) (k : Fin k0_t1_loop.trips) :
    View.PiecesOf (fun y : S1024x256.Idx => pM x3 x4 x5 x6 A y) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg5.unread x3) (harg6.unread x4) (harg7.unread x5) (harg8.unread x6) X13 k) := by
  unfold tripL_k0_t1 trip_k0_t1
  dsimp only
  repeat' apply And.intro
  all_goals first | trivial | intro x
  all_goals
    obtain ⟨r, j, rfl⟩ : ∃ (r j : Fin 128), x = ix2 r j := ⟨x 0, x 1, funext fun a => match a with | ⟨0, _⟩ => rfl | ⟨1, _⟩ => rfl⟩
    dsimp only
    obtain ⟨t, ht⟩ : ∃ t : Fin 256, BitVec.toNat (Scalar.indexCast (Scalar.muli (Scf.iv 0#32 1#32 k.val) 128#32)) + j.val = t.val :=
      ⟨⟨_, lt_of_lt_of_le (Nat.add_lt_add_left j.isLt _) (col_lt k)⟩, rfl⟩
    sl_unfold_words
    simp only [View.readAt_eq_ld, harg5.read_unread, harg6.read_unread, harg7.read_unread, harg8.read_unread, hX]
    unfold_payloads
    pointwise
    simp only [ht, Fin.eta]
    refine Eq.trans ?_ (pM_rect x3 x4 x5 x6 A _ _ _ r j t ?_ ?_ ht).symm
  all_goals first | decide | skip
  all_goals
    try simp only [Nat.zero_add]
    unfold gates gate gl
    rfl

theorem piecesOf_append {G : S1024x256.Idx → Elt Ideal .bf16} : ∀ {L L' : List (View.Piece (Elt Ideal) S1024x256 .bf16)}, View.PiecesOf G L → View.PiecesOf G L' → View.PiecesOf G (L ++ L')
  | [], _, _, h' => h'
  | _ :: _, _, h, h' => ⟨h.1, piecesOf_append h.2 h'⟩

/-- What all the trips store. -/
theorem loop_pieces (X13 : BufTy.Contents (Elt Ideal) arg13.view.ty) (hX : View.read (Elt Ideal) arg13.view X13 = A) (n : ℕ) (hn : n ≤ k0_t1_loop.trips) :
    View.PiecesOf (fun y : S1024x256.Idx => pM x3 x4 x5 x6 A y) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg5.unread x3) (harg6.unread x4) (harg7.unread x5) (harg8.unread x6) X13 n) := by
  induction n with
  | zero => unfold pb_k0_t1; trivial
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 (harg5.unread x3) (harg6.unread x4) (harg7.unread x5) (harg8.unread x6) X13 (⟨n, hn⟩ : Fin k0_t1_loop.trips)]
    exact piecesOf_append (trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 x3 x4 x5 x6 A X13 hX ⟨n, hn⟩) (ih (by omega))

end Cert.ExpertsIdeal.RefValue
end
-- ==== Proof.ExpertsStep.lean ====
/- What one point of the experts' grid computes: the normalized rows, the activations, the sum so far and the output block. -/
module

public import proofs.«01_k».proof.Proof.ExpertsTrip

@[expose] public section

set_option maxRecDepth 16384

noncomputable section

open Idealize.ShloMosaic Idealize.ShloMosaic.TcCoe Idealize.SL.Sem
open Idealize.ShloMosaic.Pipeline (Dat)

namespace Cert.ExpertsIdeal.RefValue

open Cert.ExpertsIdeal Cert.ExpertsIdeal.Gen Cert.ExpertsIdeal.Value

/-! What a point leaves in its output block and its two carried scratches. -/

variable (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x8x256 .f32) (harg7 : arg7.IsWhole) (arg8 : Memref sig .tc .vmem S8x8x256 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S256x2048 .f32) (harg11 : arg11.IsWhole) (arg12 : Memref sig .tc .vmem S256x2048 .bf16) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S2048x256 .f32) (harg15 : arg15.IsWhole)
  (x0 : Vec Ideal S256x2048 .f32) (x1 x2 : Vec Ideal S1x2048 .f32) (x3 x4 : Vec Ideal S8x128x256 .f32) (x5 x6 : Vec Ideal S8x8x256 .f32)
  (x7 : Vec Ideal S1024x2048 .bf16) (x8 : Vec Ideal S2048x1024 .bf16) (xs0 : Vec Ideal S256x2048 .bf16) (xs3 : Vec Ideal S2048x256 .f32)

theorem hz : (![0, 0] : Fin 2 → Nat) = fun _ => 0 := funext fun a => by fin_cases a <;> rfl

/-- A row's entry over the root of the row's mean square, times the gain. -/
def rms (x g : Fin 2048 → EReal) (k : Fin 2048) : EReal :=
  x k * Ideal.rsqrt (Ideal.div (∑ j, x j * x j) (Ideal.ofBits .f32 0x45000000#32) + Ideal.ofBits .f32 0x358637BD#32) * g k

/-- The normalized rows. -/
def hnB : Vec Ideal S256x2048 .bf16 := fun y => rms (fun k => x0 (ix2 (y 0 : Fin 256) k)) (fun k => x1 (ix2 (0 : Fin 1) k)) (y 1)

/-- The block's experts' inner products with the normalized rows. -/
def actM : Vec Ideal S1024x256 .f32 := fun y => ∑ k : Fin 2048, x7 (ix2 (y 0 : Fin 1024) k) * xs0 (ix2 (y 1 : Fin 256) k)

/-- The sum, with the block's experts added. -/
def accN : Vec Ideal S2048x256 .f32 := fun y =>
  xs3 y + ∑ e : Fin 1024, x8 (ix2 (y 0 : Fin 2048) e) * pM x3 x4 x5 x6 (actM x7 xs0) (ix2 e (y 1 : Fin 256))

/-- The rows plus the sum, normalized. -/
def outN : Vec Ideal S256x2048 .f32 := fun y =>
  rms (fun k => x0 (ix2 (y 0 : Fin 256) k) + xs3 (ix2 k (y 0 : Fin 256))) (fun k => x2 (ix2 (0 : Fin 1) k)) (y 1)

theorem pay1_eq : k0_pay1 x0 x1 = hnB x0 x1 := by
  funext y
  obtain ⟨r, j, rfl⟩ : ∃ (r : Fin 256) (j : Fin 2048), y = ix2 r j := ⟨y 0, y 1, funext fun a => match a with | ⟨0, _⟩ => rfl | ⟨1, _⟩ => rfl⟩
  unfold_payloads
  pointwise
  rfl

theorem pay2_eq : k0_pay2 (F := Ideal) = fun _ => 0 := by
  funext y
  unfold_payloads
  pointwise

theorem pay3_eq : k0_pay3 x7 xs0 = actM x7 xs0 := by
  funext y
  obtain ⟨r, j, rfl⟩ : ∃ (r : Fin 1024) (j : Fin 256), y = ix2 r j := ⟨y 0, y 1, funext fun a => match a with | ⟨0, _⟩ => rfl | ⟨1, _⟩ => rfl⟩
  unfold_payloads
  pointwise [dot_S1024x2048_S256x2048_S1024x256_1_1_0_0_n_n]
  rfl

theorem pay5_eq (P : Vec Ideal S1024x256 .bf16) (y : S2048x256.Idx) :
    k0_pay5 xs3 x8 P y = xs3 y + ∑ e : Fin 1024, x8 (ix2 (y 0 : Fin 2048) e) * P (ix2 e (y 1 : Fin 256)) := by
  obtain ⟨r, j, rfl⟩ : ∃ (r : Fin 2048) (j : Fin 256), y = ix2 r j := ⟨y 0, y 1, funext fun a => match a with | ⟨0, _⟩ => rfl | ⟨1, _⟩ => rfl⟩
  unfold_payloads
  pointwise [dot_S2048x1024_S1024x256_S2048x256_1_0_0_1_n_n]
  try rfl

theorem pay6_eq : k0_pay6 x0 xs3 x2 = outN x0 x2 xs3 := by
  funext y
  obtain ⟨r, j, rfl⟩ : ∃ (r : Fin 256) (j : Fin 2048), y = ix2 r j := ⟨y 0, y 1, funext fun a => match a with | ⟨0, _⟩ => rfl | ⟨1, _⟩ => rfl⟩
  unfold_payloads
  pointwise
  rfl

/-- What the loop's stores leave, read whole. -/
theorem loop_read (X13 : BufTy.Contents (Elt Ideal) arg13.view.ty) (A : Vec Ideal S1024x256 .f32) (hX : View.read (Elt Ideal) arg13.view X13 = A)
    (N : ℕ) (hN : N = k0_t1_loop.trips)
    (inb : ∀ a, (![0, 0] : Fin 2 → ℕ) a + S1024x256.size a ≤ S1024x256.size a) :
    arg14.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg5.unread x3) (harg6.unread x4) (harg7.unread x5) (harg8.unread x6) X13 N) (Rect.unit (s := S1024x256) ![0, 0] S1024x256.size inb).toLoadRect
      = pM x3 x4 x5 x6 A := by
  subst hN
  have hp := loop_pieces Variants.none c none i arg2 harg2 arg3 harg3 arg4 harg4 arg5 harg5 arg6 harg6 arg7 harg7 arg8 harg8 arg9 harg9 arg10 harg10 arg11 harg11 arg12 harg12 arg13 harg13 arg14 harg14 arg15 harg15 x3 x4 x5 x6 A X13 hX k0_t1_loop.trips (le_refl _)
  have hc : ∀ y, ∃ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg5.unread x3) (harg6.unread x4) (harg7.unread x5) (harg8.unread x6) X13 k0_t1_loop.trips, y ∈ p.1.set := fun y => View.cover_of_tiledL (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg5.unread x3) (harg6.unread x4) (harg7.unread x5) (harg8.unread x6) X13 k0_t1_loop.trips) S128x128.size (by sl_kernel_rfl) y
  rw [View.readCov_eq_canon_ld _ _ _ hc, View.ld_unit_zero (S := S1024x256) hz]
  funext y
  rw [← List.append_nil (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg5.unread x3) (harg6.unread x4) (harg7.unread x5) (harg8.unread x6) X13 k0_t1_loop.trips)]
  exact View.canon_append_of_piecesOf (fun y : S1024x256.Idx => pM x3 x4 x5 x6 A y) [] _ hp y (hc y)

/-- A store of the whole, read whole. -/
theorem act_read (w : Vec Ideal S1024x256 .f32) (inb : ∀ a, (![0, 0] : Fin 2 → ℕ) a + S1024x256.size a ≤ S1024x256.size a) :
    View.read (Elt Ideal) arg13.view (arg13.view.writes (Elt Ideal) arg13.view.junk [⟨Rect.unit (s := S1024x256) ![0, 0] S1024x256.size inb, w⟩]) = w := by
  rw [View.read_writes_junk_eq_canon, View.canon_unit_zero hz]

theorem hn_A (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = hnB x0 x1 := by
  unfold sout0_A_0
  funext y
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  sl_unfold_words
  rw [View.canon_unit_zero hz]
  simp only [View.readAt_eq_ld, harg2.read_unread, harg3.read_unread, View.ld_unit_zero (S := S256x2048) hz, View.ld_unit_zero (S := S1x2048) hz]
  rw [pay1_eq]

theorem acc_A (hc0 : cond0_0 i) (hc1 : ¬cond0_1 i) : sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8
    = accN x3 x4 x5 x6 x7 x8 (hnB x0 x1) (fun _ => 0) := by
  unfold sout0_A_3
  funext y
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  sl_unfold_words
  rw [View.canon_cons_unit_zero hz, View.readCov_unit_zero (S := S2048x256) _ hz, View.readCov_unit_zero (S := S256x2048) _ hz]
  rw [loop_read c i arg2 harg2 arg3 harg3 arg4 harg4 arg5 harg5 arg6 harg6 arg7 harg7 arg8 harg8 arg9 harg9 arg10 harg10 arg11 harg11 arg12 harg12 arg13 harg13 arg14 harg14 arg15 harg15 x3 x4 x5 x6 _ _ (act_read arg13 _ _) _ rfl]
  simp only [View.readAt_eq_ld, harg2.read_unread, harg3.read_unread, harg9.read_unread, harg10.read_unread, View.ld_unit_zero (S := S2048x1024) hz,
    View.ld_unit_zero (S := S1024x2048) hz, View.ld_unit_zero (S := S256x2048) hz, View.ld_unit_zero (S := S1x2048) hz]
  rw [pay5_eq, pay3_eq, pay1_eq, pay2_eq]
  rfl

theorem acc_B (hc0 : ¬cond0_0 i) (hc1 : ¬cond0_1 i) : sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3
    = accN x3 x4 x5 x6 x7 x8 xs0 xs3 := by
  unfold sout0_B_3
  funext y
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3)]
  unfold kernelRun0_B
  dsimp only
  sl_unfold_words
  rw [View.canon_unit_zero hz]
  rw [loop_read c i arg2 harg2 arg3 harg3 arg4 harg4 arg5 harg5 arg6 harg6 arg7 harg7 arg8 harg8 arg9 harg9 arg10 harg10 arg11 harg11 arg12 harg12 arg13 harg13 arg14 harg14 arg15 harg15 x3 x4 x5 x6 _ _ (act_read arg13 _ _) _ rfl]
  simp only [View.readAt_eq_ld, harg9.read_unread, harg10.read_unread, harg12.read_unread, harg15.read_unread, View.ld_unit_zero (S := S2048x1024) hz,
    View.ld_unit_zero (S := S1024x2048) hz, View.ld_unit_zero (S := S256x2048) hz, View.ld_unit_zero (S := S2048x256) hz]
  rw [pay5_eq, pay3_eq]
  rfl

theorem acc_C (hc0 : ¬cond0_0 i) (hc1 : cond0_1 i) : sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3
    = accN x3 x4 x5 x6 x7 x8 xs0 xs3 := by
  unfold sout0_C_3
  funext y
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3)]
  unfold kernelRun0_C
  dsimp only
  sl_unfold_words
  rw [View.canon_unit_zero hz]
  rw [loop_read c i arg2 harg2 arg3 harg3 arg4 harg4 arg5 harg5 arg6 harg6 arg7 harg7 arg8 harg8 arg9 harg9 arg10 harg10 arg11 harg11 arg12 harg12 arg13 harg13 arg14 harg14 arg15 harg15 x3 x4 x5 x6 _ _ (act_read arg13 _ _) _ rfl]
  simp only [View.readAt_eq_ld, harg9.read_unread, harg10.read_unread, harg12.read_unread, harg15.read_unread, View.ld_unit_zero (S := S2048x1024) hz,
    View.ld_unit_zero (S := S1024x2048) hz, View.ld_unit_zero (S := S256x2048) hz, View.ld_unit_zero (S := S2048x256) hz]
  rw [pay5_eq, pay3_eq]
  rfl

theorem out_C (hc0 : ¬cond0_0 i) (hc1 : cond0_1 i) : out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3
    = outN x0 x2 (accN x3 x4 x5 x6 x7 x8 xs0 xs3) := by
  unfold out0_C_9
  funext y
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3)]
  unfold kernelRun0_C
  dsimp only
  sl_unfold_words
  rw [View.canon_unit_zero hz, View.readCov_unit_zero (S := S2048x256) _ hz]
  rw [loop_read c i arg2 harg2 arg3 harg3 arg4 harg4 arg5 harg5 arg6 harg6 arg7 harg7 arg8 harg8 arg9 harg9 arg10 harg10 arg11 harg11 arg12 harg12 arg13 harg13 arg14 harg14 arg15 harg15 x3 x4 x5 x6 _ _ (act_read arg13 _ _) _ rfl]
  simp only [View.readAt_eq_ld, harg2.read_unread, harg4.read_unread, harg9.read_unread, harg10.read_unread, harg12.read_unread, harg15.read_unread,
    View.ld_unit_zero (S := S2048x1024) hz, View.ld_unit_zero (S := S1024x2048) hz, View.ld_unit_zero (S := S256x2048) hz, View.ld_unit_zero (S := S2048x256) hz,
    View.ld_unit_zero (S := S1x2048) hz]
  rw [pay3_eq, show k0_pay5 xs3 x8 (pM x3 x4 x5 x6 (actM x7 xs0)) = accN x3 x4 x5 x6 x7 x8 xs0 xs3 from funext fun y => pay5_eq x8 xs3 _ y, pay6_eq]

end Cert.ExpertsIdeal.RefValue

end
-- ==== Proof.ExpertsBlocks.lean ====
/- What every point of the experts' grid reads: its windows' blocks, as functions of the call's arguments. -/
module

public import proofs.«01_k».proof.Proof.ExpertsStep

@[expose] public section

set_option maxRecDepth 16384

noncomputable section

open Idealize.ShloMosaic Idealize.ShloMosaic.TcCoe Idealize.SL.Sem
open Idealize.ShloMosaic.Pipeline (Dat)

namespace Cert.ExpertsIdeal.RefValue

open Cert.ExpertsIdeal Cert.ExpertsIdeal.Gen Cert.ExpertsIdeal.Value

variable (m : (ℓ : Loc nD τ sig) → Buf (Elt Ideal) ℓ) (c : Dev nD)

/-- The arguments. -/
abbrev argH : Vec Ideal S8192x2048 .f32 := m ((c : Thread nD τ).loc main_arg0)
abbrev argN : Vec Ideal S2048 .f32 := m ((c : Thread nD τ).loc main_arg1)
abbrev argF : Vec Ideal S2048 .f32 := m ((c : Thread nD τ).loc main_arg2)
abbrev argS : Vec Ideal S8x128x8192 .f32 := m ((c : Thread nD τ).loc main_arg3)
abbrev argE : Vec Ideal S8x128x8192 .f32 := m ((c : Thread nD τ).loc main_arg4)
abbrev argT : Vec Ideal S8x128x8192 .f32 := m ((c : Thread nD τ).loc main_arg5)
abbrev argG : Vec Ideal S8x128x8192 .f32 := m ((c : Thread nD τ).loc main_arg6)
abbrev argD : Vec Ideal S16384x2048 .f32 := m ((c : Thread nD τ).loc main_arg7)
abbrev argU : Vec Ideal S16384x2048 .f32 := m ((c : Thread nD τ).loc main_arg8)

theorem idxA : ∀ t : Fin grid0.N, win0_0.index t 0 = t.val / 16 ∧ win0_0.index t 1 = 0 ∧ win0_1.index t 0 = 0 ∧ win0_1.index t 1 = 0
    ∧ win0_2.index t 0 = 0 ∧ win0_2.index t 1 = 0 ∧ win0_7.index t 0 = t.val % 16 ∧ win0_7.index t 1 = 0
    ∧ win0_8.index t 0 = 0 ∧ win0_8.index t 1 = t.val % 16 := by decide +kernel

theorem idxB : ∀ t : Fin grid0.N, win0_3.index t 0 = 0 ∧ win0_3.index t 1 = 0 ∧ win0_3.index t 2 = t.val / 16
    ∧ win0_4.index t 0 = 0 ∧ win0_4.index t 1 = 0 ∧ win0_4.index t 2 = t.val / 16
    ∧ win0_5.index t 0 = 0 ∧ win0_5.index t 1 = t.val % 16 ∧ win0_5.index t 2 = t.val / 16
    ∧ win0_6.index t 0 = 0 ∧ win0_6.index t 1 = t.val % 16 ∧ win0_6.index t 2 = t.val / 16 := by decide +kernel

/-- The row that a point's local row is. -/
def rowOf (t : Fin cfg0.N) (r : Fin 256) : Fin 8192 := ⟨t.val / 16 * 256 + r.val, by have : t.val < 512 := t.isLt; omega⟩

/-- The expert that a point's local expert is. -/
def expOf (t : Fin cfg0.N) (x : Fin 1024) : Fin 16384 := ⟨t.val % 16 * 1024 + x.val, by omega⟩

/-- The first half of an expert's key, of a point's local ones. -/
def keyOf (t : Fin cfg0.N) (q : Fin 8) : Fin 128 := ⟨t.val % 16 * 8 + q.val, by omega⟩

theorem blk0 (t : Fin cfg0.N) (r : Fin 256) (k : Fin 2048) : (iblk m c 0 t : Vec Ideal S256x2048 .f32) (ix2 r k) = argH m c (ix2 (rowOf t r) k) := by
  obtain ⟨e0, e1, -⟩ := idxA t
  unfold iblk
  rw [View.read_apply]
  show V m c main_arg0 _ = _
  rw [V_main_arg0]
  refine congrArg (argH m c) (funext fun a => Fin.ext ?_)
  match a with
  | ⟨0, _⟩ => show win0_0.index t 0 * 256 + 1 * r.val = t.val / 16 * 256 + r.val; rw [e0]; omega
  | ⟨1, _⟩ => show win0_0.index t 1 * 2048 + 1 * k.val = k.val; rw [e1]; omega

/-- A gain, laid out as one row. -/
theorem V_n (k : Fin 2048) : (V m c main_v3 : Vec Ideal S1x2048 .f32) (ix2 (0 : Fin 1) k) = argN m c (ix1 k)
    ∧ (V m c main_v4 : Vec Ideal S1x2048 .f32) (ix2 (0 : Fin 1) k) = argF m c (ix1 k) := by
  have e3 : (V m c main_v3 : Vec Ideal S1x2048 .f32) = shapeCast S1x2048 (argN m c) shapeCasts_S2048_S1x2048 := by
    unfold V; after_results; rfl
  have e4 : (V m c main_v4 : Vec Ideal S1x2048 .f32) = shapeCast S1x2048 (argF m c) shapeCasts_S2048_S1x2048 := by
    unfold V; after_results; rfl
  rw [e3, e4]
  constructor <;> pointwise

theorem blk1 (t : Fin cfg0.N) (k : Fin 2048) : (iblk m c 1 t : Vec Ideal S1x2048 .f32) (ix2 (0 : Fin 1) k) = argN m c (ix1 k) := by
  obtain ⟨-, -, e0, e1, -⟩ := idxA t
  rw [← (V_n m c k).1]
  unfold iblk
  rw [View.read_apply]
  show V m c main_v3 _ = V m c main_v3 _
  refine congrArg (V m c main_v3) (funext fun a => Fin.ext ?_)
  match a with
  | ⟨0, _⟩ => show win0_1.index t 0 * 1 + 1 * 0 = 0; rw [e0]
  | ⟨1, _⟩ => show win0_1.index t 1 * 2048 + 1 * k.val = k.val; rw [e1]; omega

theorem blk2 (t : Fin cfg0.N) (k : Fin 2048) : (iblk m c 2 t : Vec Ideal S1x2048 .f32) (ix2 (0 : Fin 1) k) = argF m c (ix1 k) := by
  obtain ⟨-, -, -, -, e0, e1, -⟩ := idxA t
  rw [← (V_n m c k).2]
  unfold iblk
  rw [View.read_apply]
  show V m c main_v4 _ = V m c main_v4 _
  refine congrArg (V m c main_v4) (funext fun a => Fin.ext ?_)
  match a with
  | ⟨0, _⟩ => show win0_2.index t 0 * 1 + 1 * 0 = 0; rw [e0]
  | ⟨1, _⟩ => show win0_2.index t 1 * 2048 + 1 * k.val = k.val; rw [e1]; omega

theorem blk3 (t : Fin cfg0.N) (hd : Fin 8) (n : Fin 128) (r : Fin 256) :
    (iblk m c 3 t : Vec Ideal S8x128x256 .f32) (ix3 hd n r) = argS m c (ix3 hd n (rowOf t r)) := by
  obtain ⟨e0, e1, e2, -⟩ := idxB t
  unfold iblk
  rw [View.read_apply]
  show V m c main_arg3 _ = _
  rw [V_main_arg3]
  refine congrArg (argS m c) (funext fun a => Fin.ext ?_)
  match a with
  | ⟨0, _⟩ => show win0_3.index t 0 * 8 + 1 * hd.val = hd.val; rw [e0]; omega
  | ⟨1, _⟩ => show win0_3.index t 1 * 128 + 1 * n.val = n.val; rw [e1]; omega
  | ⟨2, _⟩ => show win0_3.index t 2 * 256 + 1 * r.val = t.val / 16 * 256 + r.val; rw [e2]; omega

theorem blk4 (t : Fin cfg0.N) (hd : Fin 8) (n : Fin 128) (r : Fin 256) :
    (iblk m c 4 t : Vec Ideal S8x128x256 .f32) (ix3 hd n r) = argE m c (ix3 hd n (rowOf t r)) := by
  obtain ⟨-, -, -, e0, e1, e2, -⟩ := idxB t
  unfold iblk
  rw [View.read_apply]
  show V m c main_arg4 _ = _
  rw [V_main_arg4]
  refine congrArg (argE m c) (funext fun a => Fin.ext ?_)
  match a with
  | ⟨0, _⟩ => show win0_4.index t 0 * 8 + 1 * hd.val = hd.val; rw [e0]; omega
  | ⟨1, _⟩ => show win0_4.index t 1 * 128 + 1 * n.val = n.val; rw [e1]; omega
  | ⟨2, _⟩ => show win0_4.index t 2 * 256 + 1 * r.val = t.val / 16 * 256 + r.val; rw [e2]; omega

theorem blk5 (t : Fin cfg0.N) (hd q : Fin 8) (r : Fin 256) :
    (iblk m c 5 t : Vec Ideal S8x8x256 .f32) (ix3 hd q r) = argT m c (ix3 hd (keyOf t q) (rowOf t r)) := by
  obtain ⟨-, -, -, -, -, -, e0, e1, e2, -⟩ := idxB t
  unfold iblk
  rw [View.read_apply]
  show V m c main_arg5 _ = _
  rw [V_main_arg5]
  refine congrArg (argT m c) (funext fun a => Fin.ext ?_)
  match a with
  | ⟨0, _⟩ => show win0_5.index t 0 * 8 + 1 * hd.val = hd.val; rw [e0]; omega
  | ⟨1, _⟩ => show win0_5.index t 1 * 8 + 1 * q.val = t.val % 16 * 8 + q.val; rw [e1]; omega
  | ⟨2, _⟩ => show win0_5.index t 2 * 256 + 1 * r.val = t.val / 16 * 256 + r.val; rw [e2]; omega

theorem blk6 (t : Fin cfg0.N) (hd q : Fin 8) (r : Fin 256) :
    (iblk m c 6 t : Vec Ideal S8x8x256 .f32) (ix3 hd q r) = argG m c (ix3 hd (keyOf t q) (rowOf t r)) := by
  obtain ⟨-, -, -, -, -, -, -, -, -, e0, e1, e2⟩ := idxB t
  unfold iblk
  rw [View.read_apply]
  show V m c main_arg6 _ = _
  rw [V_main_arg6]
  refine congrArg (argG m c) (funext fun a => Fin.ext ?_)
  match a with
  | ⟨0, _⟩ => show win0_6.index t 0 * 8 + 1 * hd.val = hd.val; rw [e0]; omega
  | ⟨1, _⟩ => show win0_6.index t 1 * 8 + 1 * q.val = t.val % 16 * 8 + q.val; rw [e1]; omega
  | ⟨2, _⟩ => show win0_6.index t 2 * 256 + 1 * r.val = t.val / 16 * 256 + r.val; rw [e2]; omega

theorem V_d (E : Fin 16384) (k : Fin 2048) : (V m c main_v0 : Vec Ideal S16384x2048 .bf16) (ix2 E k) = argD m c (ix2 E k) := by
  have e : @Eq (FVec Ideal S16384x2048 .bf16) (V m c main_v0) (truncf .bf16 (argD m c : FVec Ideal S16384x2048 .f32) bitsLt_bf16_f32) := by
    unfold V; after_results
  rw [e]; rfl

theorem V_u (E : Fin 16384) (k : Fin 2048) : (V m c main_v2 : Vec Ideal S2048x16384 .bf16) (ix2 k E) = argU m c (ix2 E k) := by
  have e : @Eq (FVec Ideal S2048x16384 .bf16) (V m c main_v2)
      (truncf .bf16 (transpose S2048x16384 [1, 0] (argU m c : FVec Ideal S16384x2048 .f32) transposes_S16384x2048_S2048x16384_1_0) bitsLt_bf16_f32) := by
    unfold V; after_results
  rw [e]
  pointwise

theorem blk7 (t : Fin cfg0.N) (x : Fin 1024) (k : Fin 2048) :
    (iblk m c 7 t : Vec Ideal S1024x2048 .bf16) (ix2 x k) = argD m c (ix2 (expOf t x) k) := by
  obtain ⟨-, -, -, -, -, -, e0, e1, -⟩ := idxA t
  rw [← V_d]
  unfold iblk
  rw [View.read_apply]
  show V m c main_v0 _ = V m c main_v0 _
  refine congrArg (V m c main_v0) (funext fun a => Fin.ext ?_)
  match a with
  | ⟨0, _⟩ => show win0_7.index t 0 * 1024 + 1 * x.val = t.val % 16 * 1024 + x.val; rw [e0]; omega
  | ⟨1, _⟩ => show win0_7.index t 1 * 2048 + 1 * k.val = k.val; rw [e1]; omega

theorem blk8 (t : Fin cfg0.N) (k : Fin 2048) (x : Fin 1024) :
    (iblk m c 8 t : Vec Ideal S2048x1024 .bf16) (ix2 k x) = argU m c (ix2 (expOf t x) k) := by
  obtain ⟨-, -, -, -, -, -, -, -, e0, e1⟩ := idxA t
  rw [← V_u]
  unfold iblk
  rw [View.read_apply]
  show V m c main_v2 _ = V m c main_v2 _
  refine congrArg (V m c main_v2) (funext fun a => Fin.ext ?_)
  match a with
  | ⟨0, _⟩ => show win0_8.index t 0 * 2048 + 1 * k.val = k.val; rw [e0]; omega
  | ⟨1, _⟩ => show win0_8.index t 1 * 1024 + 1 * x.val = t.val % 16 * 1024 + x.val; rw [e1]; omega

end Cert.ExpertsIdeal.RefValue

end
-- ==== Proof.ExpertsRef.lean ====
/- The reference's result, entry by entry, as one sum over the experts. -/
module

public import proofs.«01_k».proof.Proof.ExpertsStep
public import proofs.«01_k».proof.Proof.Gen.ExpertsRefIdeal.Read

@[expose] public section

set_option maxRecDepth 16384

noncomputable section

open Idealize.ShloMosaic Idealize.ShloMosaic.TcCoe Idealize.SL.Sem

namespace Cert.ExpertsRefIdeal.RefValue

open Cert.ExpertsRefIdeal Cert.ExpertsRefIdeal.Gen Cert.ExpertsRefIdeal.Read
open Cert.ExpertsIdeal.RefValue (rms gl)

/-! What the reference's operations compute. -/

variable (h : Vec Ideal S8192x2048 .f32) (nw fw : Vec Ideal S2048 .f32) (s2 e2 thr f1 : Vec Ideal S8x128x8192 .f32) (dn up : Vec Ideal S16384x2048 .f32)

/-- One head's gate of expert `(q, n)` at row `r`. -/
def gateR (r : Fin 8192) (q n : Fin 128) (hd : Fin 8) : EReal := f1 (ix3 hd q r) * if thr (ix3 hd q r) ≤ s2 (ix3 hd n r) then e2 (ix3 hd n r) else 0

/-- An expert's inner product with a normalized row. -/
def actR (r : Fin 8192) (E : Fin 16384) : EReal := ∑ k : Fin 2048, rms (fun k => h (ix2 r k)) (fun k => nw (ix1 k)) k * dn (ix2 E k)

/-- An expert's gated activation at a row. -/
def expR (r : Fin 8192) (E : Fin 16384) : EReal :=
  gl (actR h nw dn r E) * ∑ hd : Fin 8, gateR s2 e2 thr f1 r ⟨E.val / 128, by omega⟩ ⟨E.val % 128, by omega⟩ hd

theorem norm_read (r : Fin 8192) (k : Fin 2048) : val_main_v12 (F := Ideal) h nw (ix2 r k) = rms (fun k => h (ix2 r k)) (fun k => nw (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem act_read (r : Fin 8192) (E : Fin 16384) : val_main_v14 (F := Ideal) h nw dn (ix2 r E) = actR h nw dn r E := by
  unfold val_main_v14 val_main_v13
  pointwise [dot_S8192x2048_S2048x16384_S8192x16384_1_0_0_1_n_n]
  unfold actR
  exact Finset.sum_congr rfl fun k _ => by rw [norm_read]

theorem gelu_read (r : Fin 8192) (E : Fin 16384) : val_main_v21 (F := Ideal) h nw dn (ix2 r E) = gl (actR h nw dn r E) := by
  unfold val_main_v21 val_main_v20 val_main_v19 val_main_v18 val_main_v17 val_main_v16 val_main_v15 val_main_cst_2 val_main_cst_3
  pointwise
  rw [act_read]
  unfold gl
  rw [EReal.neg_mul, Ideal.erfc_neg]

theorem gate_read (r : Fin 8192) (q n : Fin 128) (hd : Fin 8) : val_main_v31 (F := Ideal) s2 e2 thr f1 (ix4 hd q n r) = gateR s2 e2 thr f1 r q n hd := by
  unfold val_main_v31 val_main_v30 val_main_v29 val_main_v27 val_main_v26 val_main_v25 val_main_v24 val_main_v23 val_main_v22 val_main_call0_v2 val_main_call0_v1 val_main_call0_v0 val_main_v28 val_main_cst_4
  pointwise
  unfold gateR
  rw [show id (constant (F := Ideal) S_ .f32 0#32) ix0 = 0 from Ideal.ofBits_zero_f32]

theorem gates_read (r : Fin 8192) (E : Fin 16384) : val_main_v34 (F := Ideal) s2 e2 thr f1 (ix2 r E)
    = ∑ hd : Fin 8, gateR s2 e2 thr f1 r ⟨E.val / 128, by omega⟩ ⟨E.val % 128, by omega⟩ hd := by
  rw [val_main_v34_apply, val_main_v33_apply, val_main_v32_apply]
  refine Eq.trans (congrArg₂ (· + ·) (show val_main_cst_5 (F := Ideal) (Shape.Idx.first h_S_) = 0 from Ideal.ofBits_zero_f32) (Finset.sum_congr rfl fun hd _ => ?_)) (zero_add _)
  rw [← gate_read]
  refine congrArg _ (funext fun a => Fin.ext ?_)
  have hr := r.isLt
  match a with
  | ⟨0, _⟩ => rfl
  | ⟨1, _⟩ => show (E.val * 8192 + r.val) / 1048576 = E.val / 128; omega
  | ⟨2, _⟩ => show (E.val * 8192 + r.val) / 8192 % 128 = E.val % 128; omega
  | ⟨3, _⟩ => show (E.val * 8192 + r.val) % 8192 = r.val; omega

theorem exp_read (r : Fin 8192) (E : Fin 16384) : val_main_v35 (F := Ideal) h nw s2 e2 thr f1 dn (ix2 r E) = expR h nw s2 e2 thr f1 dn r E := by
  unfold val_main_v35
  pointwise
  rw [gelu_read, gates_read]
  rfl

theorem result_apply (r : Fin 8192) (k : Fin 2048) : val_main_v50 (F := Ideal) h nw fw s2 e2 thr f1 dn up (ix2 r k)
    = rms (fun k => h (ix2 r k) + ∑ E : Fin 16384, expR h nw s2 e2 thr f1 dn r E * up (ix2 E k)) (fun k => fw (ix1 k)) k := by
  have e : ∀ k : Fin 2048, val_main_v37 (F := Ideal) h nw s2 e2 thr f1 dn up (ix2 r k) = h (ix2 r k) + ∑ E : Fin 16384, expR h nw s2 e2 thr f1 dn r E * up (ix2 E k) := by
    intro k
    unfold val_main_v37 val_main_v36
    pointwise [dot_S8192x16384_S16384x2048_S8192x2048_1_0_0_1_n_n]
    exact congrArg (h (ix2 r k) + ·) (Finset.sum_congr rfl fun E _ => by rw [exp_read])
  unfold val_main_v50 val_main_v49 val_main_v48 val_main_v47 val_main_v46 val_main_v45 val_main_v44 val_main_v43 val_main_v42 val_main_v41 val_main_v40 val_main_v39 val_main_v38 val_main_cst_6 val_main_cst_7 val_main_cst_8
  generalize hv : val_main_v37 (F := Ideal) h nw s2 e2 thr f1 dn up = v at e ⊢
  pointwise
  simp only [e]
  rfl

end Cert.ExpertsRefIdeal.RefValue
end
-- ==== Proof.ExpertsValue.lean ====
/- The experts' kernel writes the reference's array: the sum over the experts, in blocks of 1024, is carried from point to point. -/
module

public import proofs.«01_k».proof.Defs
public import proofs.«01_k».proof.Proof.ExpertsBlocks
public import proofs.«01_k».proof.Proof.ExpertsRef

@[expose] public section

set_option maxRecDepth 16384

noncomputable section

open Idealize.ShloMosaic Idealize.ShloMosaic.TcCoe Idealize.SL.Sem
open Idealize.ShloMosaic.Pipeline (Dat)

namespace Cert.ExpertsIdeal.RefValue

open Cert.ExpertsIdeal Cert.ExpertsIdeal.Gen Cert.ExpertsIdeal.Value
open Cert.ExpertsRefIdeal.RefValue (gateR actR expR)

variable (m : (ℓ : Loc nD τ sig) → Buf (Elt Ideal) ℓ) (ρ : Dev nD → PrngReg) (c : Dev nD)

/-- An expert's gated activation at a row, of the call's arguments. -/
abbrev expV (R : Fin 8192) (E : Fin 16384) : EReal :=
  expR (argH m c) (argN m c) (argS m c) (argE m c) (argT m c) (argG m c) (argD m c) R E

/-- What an expert adds to a row's entry. -/
def term (R : Fin 8192) (k : Fin 2048) (E : ℕ) : EReal := if h : E < 16384 then expV m c R ⟨E, h⟩ * argU m c (ix2 ⟨E, h⟩ k) else 0

/-- What the experts of the first `n` blocks add. -/
def part (R : Fin 8192) (k : Fin 2048) (n : ℕ) : EReal := ∑ E ∈ Finset.range (1024 * n), term m c R k E

theorem part_succ (R : Fin 8192) (k : Fin 2048) (n : ℕ) : part m c R k (n + 1) = part m c R k n + ∑ x : Fin 1024, term m c R k (1024 * n + x.val) := by
  unfold part
  rw [show 1024 * (n + 1) = 1024 * n + 1024 by ring, Finset.sum_range_add, Finset.sum_range (fun x => term m c R k (1024 * n + x))]

theorem part_all (R : Fin 8192) (k : Fin 2048) : part m c R k 16 = ∑ E : Fin 16384, expV m c R E * argU m c (ix2 E k) := by
  unfold part
  rw [show 1024 * 16 = 16384 by norm_num, Finset.sum_range]
  refine Finset.sum_congr rfl fun E _ => ?_
  unfold term
  rw [dif_pos E.isLt]

/-- The normalized rows of a point. -/
def hnS (t : Fin cfg0.N) : Vec Ideal S256x2048 .bf16 := fun y => rms (fun k => argH m c (ix2 (rowOf t (y 0)) k)) (fun k => argN m c (ix1 k)) (y 1)

/-- The sum that a point leaves. -/
def accS (t : Fin cfg0.N) (n : ℕ) : Vec Ideal S2048x256 .f32 := fun y => part m c (rowOf t (y 1)) (y 0) n

theorem hn_eq (t : Fin cfg0.N) : hnB (iblk m c 0 t) (iblk m c 1 t) = hnS m c t := by
  funext y
  exact congrArg₂ (fun f g => rms f g (y 1)) (funext fun k => blk0 m c t (y 0) k) (funext fun k => blk1 m c t k)

theorem gates_eq (t : Fin cfg0.N) (q : Fin 8) (n : Fin 128) (r : Fin 256) :
    gates (iblk m c 3 t) (iblk m c 4 t) (iblk m c 5 t) (iblk m c 6 t) q n r
      = ∑ hd : Fin 8, gateR (argS m c) (argE m c) (argT m c) (argG m c) (rowOf t r) (keyOf t q) n hd := by
  unfold gates gate gateR
  rw [Fin.sum_univ_eight]
  simp only [blk3, blk4, blk5, blk6]

theorem pM_eq (t : Fin cfg0.N) (x : Fin 1024) (r : Fin 256) :
    pM (iblk m c 3 t) (iblk m c 4 t) (iblk m c 5 t) (iblk m c 6 t) (actM (iblk m c 7 t) (hnS m c t)) (ix2 x r) = expV m c (rowOf t r) (expOf t x) := by
  have ha : actM (iblk m c 7 t) (hnS m c t) (ix2 x r) = actR (argH m c) (argN m c) (argD m c) (rowOf t r) (expOf t x) := by
    unfold actM actR hnS
    exact Finset.sum_congr rfl fun k _ => (congrArg (fun z : EReal => z * _) (blk7 m c t x k)).trans (mul_comm _ _)
  unfold expV expR
  rw [← ha, mul_comm]
  refine congrArg (· * _) ((gates_eq m c t _ _ _).trans ?_)
  have h0 : keyOf t ⟨x.val / 128, by omega⟩ = ⟨(expOf t x).val / 128, by have := (expOf t x).isLt; omega⟩ :=
    Fin.ext (by show t.val % 16 * 8 + x.val / 128 = (t.val % 16 * 1024 + x.val) / 128; omega)
  have h1 : (⟨x.val % 128, by omega⟩ : Fin 128) = ⟨(expOf t x).val % 128, by omega⟩ :=
    Fin.ext (by show x.val % 128 = (t.val % 16 * 1024 + x.val) % 128; omega)
  exact congrArg₂ (fun q n => ∑ hd : Fin 8, gateR (argS m c) (argE m c) (argT m c) (argG m c) (rowOf t r) q n hd) h0 h1

theorem acc_eq (t : Fin cfg0.N) (n : ℕ) (hn : n = t.val % 16) (a : Vec Ideal S2048x256 .f32) (ha : a = accS m c t n) :
    accN (iblk m c 3 t) (iblk m c 4 t) (iblk m c 5 t) (iblk m c 6 t) (iblk m c 7 t) (iblk m c 8 t) (hnS m c t) a = accS m c t (t.val % 16 + 1) := by
  subst hn ha
  funext y
  unfold accN accS
  refine Eq.trans ?_ (part_succ m c (rowOf t (y 1)) (y 0) _).symm
  refine congrArg (_ + ·) (Finset.sum_congr rfl fun x _ => ?_)
  refine (congrArg₂ (fun a b : EReal => a * b) (blk8 m c t (y 0) x) (pM_eq m c t x (y 1))).trans ?_
  unfold term
  rw [dif_pos (show 1024 * (t.val % 16) + x.val < 16384 by omega), mul_comm]
  have e : expOf t x = ⟨1024 * (t.val % 16) + x.val, by omega⟩ := Fin.ext (by show t.val % 16 * 1024 + x.val = 1024 * (t.val % 16) + x.val; omega)
  rw [e]

theorem acc_zero (t : Fin cfg0.N) : (fun _ => 0 : Vec Ideal S2048x256 .f32) = accS m c t 0 := by
  funext y
  unfold accS part
  simp

/-- After every point the carried rows are its tile's, normalized, and the carried sum is that of the blocks so far. -/
theorem carried (n : ℕ) : ∀ hn : n < cfg0.N,
    (outsAt0 m c n hn).2.1 = hnS m c ⟨n, hn⟩ ∧ (outsAt0 m c n hn).2.2 = accS m c ⟨n, hn⟩ (n % 16 + 1) := by
  induction n with
  | zero =>
    intro hn
    have e := outsAt0_A m c ⟨0, hn⟩ rfl (by show ¬0 % 16 = 15; omega)
    dsimp only at e
    rw [e]
    dsimp only
    rw [hn_A, acc_A, hn_eq]
    exact ⟨rfl, acc_eq m c ⟨0, hn⟩ 0 rfl _ (acc_zero m c _)⟩
  | succ n ih =>
    intro hn
    by_cases h0 : (n + 1) % 16 = 0
    · rw [outsAt0_A m c ⟨n + 1, hn⟩ h0 (by show ¬(n + 1) % 16 = 15; omega)]
      dsimp only
      rw [hn_A, acc_A, hn_eq]
      exact ⟨rfl, acc_eq m c ⟨n + 1, hn⟩ 0 h0.symm _ (acc_zero m c _)⟩
    · obtain ⟨i0, i1⟩ := ih (by omega)
      have hr : rowOf (⟨n, by omega⟩ : Fin cfg0.N) = rowOf (⟨n + 1, hn⟩ : Fin cfg0.N) :=
        funext fun r => Fin.ext (by show n / 16 * 256 + r.val = (n + 1) / 16 * 256 + r.val; omega)
      have j0 : hnS m c ⟨n, by omega⟩ = hnS m c ⟨n + 1, hn⟩ := by unfold hnS; rw [hr]
      have j1 : accS m c ⟨n, by omega⟩ (n % 16 + 1) = accS m c ⟨n + 1, hn⟩ ((n + 1) % 16) := by
        unfold accS; rw [hr, show n % 16 + 1 = (n + 1) % 16 by omega]
      rw [j0] at i0
      rw [j1] at i1
      by_cases h1 : (n + 1) % 16 = 15
      · rw [outsAt0_C m c ⟨n + 1, hn⟩ h0 h1]
        dsimp only
        rw [acc_C]
        refine ⟨i0, ?_⟩
        exact Eq.trans (congrArg₂ (accN _ _ _ _ _ _) i0 i1) (acc_eq m c ⟨n + 1, hn⟩ _ rfl _ rfl)
      · rw [outsAt0_B m c ⟨n + 1, hn⟩ h0 h1]
        dsimp only
        rw [acc_B]
        refine ⟨i0, ?_⟩
        exact Eq.trans (congrArg₂ (accN _ _ _ _ _ _) i0 i1) (acc_eq m c ⟨n + 1, hn⟩ _ rfl _ rfl)

/-- The result array. -/
def result : Vec Ideal S8192x2048 .f32 := fun i =>
  rms (fun k => argH m c (ix2 (i 0 : Fin 8192) k) + ∑ E : Fin 16384, expV m c (i 0) E * argU m c (ix2 E k)) (fun k => argF m c (ix1 k)) (i 1)

/-- What a tile's last point leaves in its output block. -/
theorem block_out (t : Fin cfg0.N) (h1 : t.val % 16 = 15) (r : Fin 256) (k : Fin 2048) :
    (outsAt0 m c t.val t.isLt).1 (ix2 r k) = result m c (ix2 (rowOf t r) k) := by
  have h0 : ¬t.val % 16 = 0 := by omega
  obtain ⟨i0, i1⟩ := carried m c t.val t.isLt
  rw [outsAt0_C m c t h0 h1] at i1 ⊢
  dsimp only at i1 ⊢
  rw [acc_C] at i1
  rw [out_C, i1, show t.val % 16 + 1 = 16 by omega]
  refine Eq.trans (b := rms (fun j => argH m c (ix2 (rowOf t r) j) + part m c (rowOf t r) j 16) (fun j => argF m c (ix1 j)) k) ?_ ?_
  · exact congrArg₂ (fun f g => rms f g k) (funext fun j => congrArg (fun z : EReal => z + part m c (rowOf t r) j 16) (blk0 m c t r j))
      (funext fun j => blk2 m c t j)
  · exact congrArg (fun f => rms f (fun j => argF m c (ix1 j)) k)
      (funext fun j => congrArg (fun z : EReal => argH m c (ix2 (rowOf t r) j) + z) (part_all m c (rowOf t r) j))

theorem flush9 : ∀ t : Fin grid0.N, win0_9.flush t = true ↔ t.val % 16 = 15 := by decide +kernel

theorem idx9 : ∀ t : Fin grid0.N, win0_9.index t 0 = t.val / 16 ∧ win0_9.index t 1 = 0 := by decide +kernel

theorem flushed_eq (t : Fin cfg0.N) (hf : (cfg0.win 9).flush t = true) :
    (dats m 0 c).flushed 9 t = ((cfg0.win 9).blk t).view.read (Elt Ideal) (result m c) := by
  have h1 := (flush9 t).mp hf
  obtain ⟨e0, e1⟩ := idx9 t
  rw [flushed9]
  funext y
  have y0 : (y 0).val < 256 := (y 0).isLt
  have y1 : (y 1).val < 2048 := (y 1).isLt
  show (outsAt0 m c t.val t.isLt).1 ((cfg0.win 9).xinj (grid0.coords t) y) = result m c (((cfg0.win 9).blk t).view.emb y)
  rw [show (cfg0.win 9).xinj (grid0.coords t) y = ix2 (⟨(y 0).val, y0⟩ : Fin 256) (⟨(y 1).val, y1⟩ : Fin 2048) from
    funext fun a => match a with | ⟨0, _⟩ => rfl | ⟨1, _⟩ => rfl]
  rw [block_out m c t h1]
  refine congrArg (result m c) (funext fun a => Fin.ext ?_)
  match a with
  | ⟨0, _⟩ => show t.val / 16 * 256 + (y 0).val = win0_9.index t 0 * 256 + 1 * (y 0).val; rw [e0]; omega
  | ⟨1, _⟩ => show (y 1).val = win0_9.index t 1 * 2048 + 1 * (y 1).val; rw [e1]; omega

theorem covered (i : S8192x2048.Idx) : ∃ t : Fin cfg0.N, (cfg0.win 9).flush t = true ∧ i ∈ ((cfg0.win 9).blk t).view.set := by
  have h0 : (i 0).val < 8192 := (i 0).isLt
  have h1 : (i 1).val < 2048 := (i 1).isLt
  obtain ⟨t, ht⟩ : ∃ t : Fin cfg0.N, t.val = 16 * ((i 0).val / 256) + 15 := ⟨⟨16 * ((i 0).val / 256) + 15, lt_of_lt_of_eq (by omega) N_0.symm⟩, rfl⟩
  obtain ⟨e0, e1⟩ := idx9 t
  refine ⟨t, (flush9 t).mpr (by omega), ?_⟩
  show i ∈ ((View.whole main_v5).slice (win0_9.rect t)).set
  rw [View.set_slice_whole, Rect.mem_set_unit]
  intro a
  match a with
  | ⟨0, _⟩ => show win0_9.index t 0 * 256 ≤ (i 0).val ∧ (i 0).val < win0_9.index t 0 * 256 + 256; omega
  | ⟨1, _⟩ => show win0_9.index t 1 * 2048 ≤ (i 1).val ∧ (i 1).val < win0_9.index t 1 * 2048 + 2048; omega

theorem final_eq : (dats m 0 c).arrAt 9 cfg0.N = result m c :=
  (dats m 0 c).arrAt_eq_of_cover 9 _ (fun t h => flushed_eq m c t h) covered

/-! ## The claim -/

theorem algebraic : Cert.algebraic_ExpertsIdeal_ExpertsRefIdeal := by
  intro m ρ m' ρ' _ hag
  refine ⟨fun c => result m c, ?_, ?_⟩
  · exact (θ_run Cert.ExpertsIdeal.defs _ _).mono (fun _ h c => ⟨(h c).1.trans (final_eq m c), (h c).2⟩)
      (Cert.ExpertsIdeal.Value.run_blocks (F := Ideal) m ρ)
  refine (θ_run Cert.ExpertsRefIdeal.defs _ _).mono (fun _ h c => ⟨(h c).1.trans ?_, (h c).2⟩)
    (Cert.ExpertsRefIdeal.Value.run (F := Ideal) m' ρ')
  refine (Cert.ExpertsRefIdeal.Read.val_main_v50_eq _ _).trans ?_
  obtain ⟨g0, g1, g2, g3, g4, g5, g6, g7, g8⟩ := hag c
  rw [g0, g1, g2, g3, g4, g5, g6, g7, g8]
  funext i
  rw [show i = ix2 (i 0 : Fin 8192) (i 1 : Fin 2048) from funext fun a => match a with | ⟨0, _⟩ => rfl | ⟨1, _⟩ => rfl]
  exact Cert.ExpertsRefIdeal.RefValue.result_apply _ _ _ _ _ _ _ _ _ _ _

end Cert.ExpertsIdeal.RefValue

end
-- ==== Proof.lean ====
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.InScan
public import proofs.«01_k».proof.Proof.Gen.InScan.Skeleton
public import proofs.«01_k».proof.Proof.Gen.InScan.Launch
public import proofs.«01_k».proof.Proof.Gen.InScan.Points
public import proofs.«01_k».proof.Proof.Gen.InScan.Frame
public import proofs.«01_k».proof.Proof.Gen.InScanIdeal
public import proofs.«01_k».proof.Proof.Gen.InScanIdeal.Skeleton
public import proofs.«01_k».proof.Proof.Gen.InScanIdeal.Launch
public import proofs.«01_k».proof.Proof.Gen.InScanIdeal.Points
public import proofs.«01_k».proof.Proof.Gen.InScanIdeal.Frame
public import proofs.«01_k».proof.Proof.Gen.InScanRefIdeal
public import proofs.«01_k».proof.Proof.Gen.InTok
public import proofs.«01_k».proof.Proof.Gen.InTok.Skeleton
public import proofs.«01_k».proof.Proof.Gen.InTok.Launch
public import proofs.«01_k».proof.Proof.Gen.InTok.Points
public import proofs.«01_k».proof.Proof.Gen.InTok.Frame
public import proofs.«01_k».proof.Proof.Gen.InTokIdeal
public import proofs.«01_k».proof.Proof.Gen.InTokIdeal.Skeleton
public import proofs.«01_k».proof.Proof.Gen.InTokIdeal.Launch
public import proofs.«01_k».proof.Proof.Gen.InTokIdeal.Points
public import proofs.«01_k».proof.Proof.Gen.InTokIdeal.Frame
public import proofs.«01_k».proof.Proof.Gen.InTokRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.Experts
public import proofs.«01_k».proof.Proof.Gen.Experts.Skeleton
public import proofs.«01_k».proof.Proof.Gen.Experts.Loops
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Loops
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.SsdIdeal.Value
public import proofs.«01_k».proof.Proof.Gen.SsdRefIdeal.Run
public import proofs.«01_k».proof.Proof.Gen.InScanIdeal.Value
public import proofs.«01_k».proof.Proof.Gen.InScanRefIdeal.Run
public import proofs.«01_k».proof.Proof.Gen.InTokIdeal.Value
public import proofs.«01_k».proof.Proof.Gen.InTokRefIdeal.Run
public import proofs.«01_k».proof.Proof.Gen.MergeIdeal.Value
public import proofs.«01_k».proof.Proof.Gen.MergeRefIdeal.Run
public import proofs.«01_k».proof.Proof.Gen.OutProjIdeal.Value
public import proofs.«01_k».proof.Proof.Gen.OutProjRefIdeal.Run
public import proofs.«01_k».proof.Proof.Gen.QueryIdeal.Value
public import proofs.«01_k».proof.Proof.Gen.QueryRefIdeal.Run
public import proofs.«01_k».proof.Proof.Gen.ExpertsIdeal.Value
public import proofs.«01_k».proof.Proof.Gen.ExpertsRefIdeal.Run
public import proofs.«01_k».proof.Proof.Gen.InScanRefIdeal.Read
public import proofs.«01_k».proof.Proof.Gen.InTokRefIdeal.Read
public import proofs.«01_k».proof.Proof.Gen.MergeRefIdeal.Read
public import proofs.«01_k».proof.Proof.Gen.OutProjRefIdeal.Read
public import proofs.«01_k».proof.Proof.Gen.QueryRefIdeal.Read
public import proofs.«01_k».proof.Proof.Gen.ExpertsRefIdeal.Read
public import proofs.«01_k».proof.Proof.Gen.SsdRefIdeal.Step
public import proofs.«01_k».proof.Proof.Frames
public import proofs.«01_k».proof.Proof.SsdValue
public import proofs.«01_k».proof.Proof.InScanValue
public import proofs.«01_k».proof.Proof.InTokValue
public import proofs.«01_k».proof.Proof.MergeValue
public import proofs.«01_k».proof.Proof.OutProjValue
public import proofs.«01_k».proof.Proof.QueryValue
public import proofs.«01_k».proof.Proof.ExpertsValue
public import Idealize.ShloMosaic.Adequacy
public import Idealize.ShloMosaic.Init

@[expose] public section

noncomputable section

namespace Cert.Proof

open Idealize.ShloMosaic Idealize.SL.Sem

theorem claim : Cert.Claim := ⟨
  Cert.Ssd.Gen.facts,
  Cert.SsdIdeal.Gen.facts,
  Cert.SsdRefIdeal.Gen.facts,
  Cert.InScan.Gen.facts,
  Cert.InScanIdeal.Gen.facts,
  Cert.InScanRefIdeal.Gen.facts,
  Cert.InTok.Gen.facts,
  Cert.InTokIdeal.Gen.facts,
  Cert.InTokRefIdeal.Gen.facts,
  Cert.Merge.Gen.facts,
  Cert.MergeIdeal.Gen.facts,
  Cert.MergeRefIdeal.Gen.facts,
  Cert.OutProj.Gen.facts,
  Cert.OutProjIdeal.Gen.facts,
  Cert.OutProjRefIdeal.Gen.facts,
  Cert.Query.Gen.facts,
  Cert.QueryIdeal.Gen.facts,
  Cert.QueryRefIdeal.Gen.facts,
  Cert.Experts.Gen.facts,
  Cert.ExpertsIdeal.Gen.facts,
  Cert.ExpertsRefIdeal.Gen.facts,
  fun m ρ _ => Cert.Ssd.Gen.frame m ρ,
  fun m ρ _ => Cert.SsdIdeal.Gen.frame m ρ,
  Cert.RefFrames.ssd,
  fun m ρ _ => Cert.InScan.Gen.frame m ρ,
  fun m ρ _ => Cert.InScanIdeal.Gen.frame m ρ,
  Cert.InScanIdeal.RefValue.frame_reference,
  fun m ρ _ => Cert.InTok.Gen.frame m ρ,
  fun m ρ _ => Cert.InTokIdeal.Gen.frame m ρ,
  Cert.InTokIdeal.RefValue.frame_reference,
  fun m ρ _ => Cert.Merge.Gen.frame m ρ,
  fun m ρ _ => Cert.MergeIdeal.Gen.frame m ρ,
  Cert.MergeIdeal.RefValue.frame_reference,
  fun m ρ _ => Cert.OutProj.Gen.frame m ρ,
  fun m ρ _ => Cert.OutProjIdeal.Gen.frame m ρ,
  Cert.OutProjIdeal.RefValue.frame_reference,
  fun m ρ _ => Cert.Query.Gen.frame m ρ,
  fun m ρ _ => Cert.QueryIdeal.Gen.frame m ρ,
  Cert.QueryIdeal.RefValue.frame_reference,
  fun m ρ _ => Cert.Experts.Gen.frame m ρ,
  fun m ρ _ => Cert.ExpertsIdeal.Gen.frame m ρ,
  Cert.RefFrames.experts,
  trivial,
  Cert.SsdIdeal.RefValue.algebraic,
  trivial,
  Cert.InScanIdeal.RefValue.algebraic,
  trivial,
  Cert.InTokIdeal.RefValue.algebraic,
  trivial,
  Cert.MergeIdeal.RefValue.algebraic,
  trivial,
  Cert.OutProjIdeal.RefValue.algebraic,
  trivial,
  Cert.QueryIdeal.RefValue.algebraic,
  trivial,
  Cert.ExpertsIdeal.RefValue.algebraic⟩

end Cert.Proof

end
